-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Reference14 (m : (ℓ : Loc Cert.Reference14.nD Cert.Reference14.τ Cert.Reference14.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Reference14 [hReference14 : Cert.Reference14.Facts] : Prop :=
  ∀ (m : (ℓ : Loc Cert.Reference14.nD Cert.Reference14.τ Cert.Reference14.sig) → Buf (Elt Bits) ℓ) (g : Dev Cert.Reference14.nD → PrngReg), Pre_Reference14 m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale_log2e" .f32 0x3E16C740#32 (((3424635 / 33554432) * (Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "scale_log2e_b" .f32 0x3E38AA3B#32 (((1 / 8) * (Real.log 2)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "scale_log2e_b" .f32 0x3E38AA3B#32 (((1 / 8) * (Real.log 2)⁻¹ : ℝ) : EReal)
  ∧ IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)) (v2 : (c : Dev Cert.Kernel7Ideal.nD) → Buf (Elt Ideal) ((c.tc : Thread Cert.Kernel7Ideal.nD Cert.Kernel7Ideal.τ).loc Cert.Kernel7Ideal.main_v18_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_v18_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m ((c.tc : Thread Cert.Kernel14Ideal.nD Cert.Kernel14Ideal.τ).loc Cert.Kernel14Ideal.main_arg0) = Layout.block ⟨4, ![4, 2, 22144, 128]⟩ ⟨4, ![8, 2, 22144, 128]⟩ 0 2 c (m' (((0 : Dev Cert.Reference14Ideal.nD).tc : Thread Cert.Reference14Ideal.nD Cert.Reference14Ideal.τ).loc Cert.Reference14Ideal.main_arg0))) →
    ∃ (v0 : Buf (Elt Ideal) (((0 : Dev Cert.Reference14Ideal.nD).tc : Thread Cert.Reference14Ideal.nD Cert.Reference14Ideal.τ).loc Cert.Reference14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = Layout.block ⟨3, ![4, 22144, 128]⟩ ⟨3, ![8, 22144, 128]⟩ 0 2 c v0
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r =>
          r.2.mem (((0 : Dev Cert.Reference14Ideal.nD).tc : Thread Cert.Reference14Ideal.nD Cert.Reference14Ideal.τ).loc Cert.Reference14Ideal.main_v4) = v0
          ∧ r.2.mem (((0 : Dev Cert.Reference14Ideal.nD).tc : Thread Cert.Reference14Ideal.nD Cert.Reference14Ideal.τ).loc Cert.Reference14Ideal.main_arg0) = m' (((0 : Dev Cert.Reference14Ideal.nD).tc : Thread Cert.Reference14Ideal.nD Cert.Reference14Ideal.τ).loc Cert.Reference14Ideal.main_arg0))

def bitexact_Kernel14_Reference14 [hKernel14 : Cert.Kernel14.Facts] [hReference14 : Cert.Reference14.Facts] : Prop :=
  ∀ (m : (ℓ : Loc Cert.Kernel14.nD Cert.Kernel14.τ Cert.Kernel14.sig) → Buf (Elt Bits) ℓ) (g : Dev Cert.Kernel14.nD → PrngReg)
    (m' : (ℓ : Loc Cert.Reference14.nD Cert.Reference14.τ Cert.Reference14.sig) → Buf (Elt Bits) ℓ) (g' : Dev Cert.Reference14.nD → PrngReg), Pre_Kernel14 m →
    (∀ c : Dev Cert.Kernel14.nD,
      m ((c.tc : Thread Cert.Kernel14.nD Cert.Kernel14.τ).loc Cert.Kernel14.main_arg0) = Layout.block ⟨4, ![4, 2, 22144, 128]⟩ ⟨4, ![8, 2, 22144, 128]⟩ 0 2 c (m' (((0 : Dev Cert.Reference14.nD).tc : Thread Cert.Reference14.nD Cert.Reference14.τ).loc Cert.Reference14.main_arg0))) →
    ∃ (v0 : Buf (Elt Bits) (((0 : Dev Cert.Reference14.nD).tc : Thread Cert.Reference14.nD Cert.Reference14.τ).loc Cert.Reference14.main_v4)),
      θ_run (Cert.Kernel14.defs (F := Bits)) (onTc (τ := Cert.Kernel14.τ) (Cert.Kernel14.main (F := Bits))) ⟨m, fun _ => 0, g⟩ (fun r => ∀ c : Dev Cert.Kernel14.nD,
          r.2.mem ((c.tc : Thread Cert.Kernel14.nD Cert.Kernel14.τ).loc Cert.Kernel14.main_v1) = Layout.block ⟨3, ![4, 22144, 128]⟩ ⟨3, ![8, 22144, 128]⟩ 0 2 c v0
          ∧ r.2.mem ((c.tc : Thread Cert.Kernel14.nD Cert.Kernel14.τ).loc Cert.Kernel14.main_arg0) = m ((c.tc : Thread Cert.Kernel14.nD Cert.Kernel14.τ).loc Cert.Kernel14.main_arg0))
      ∧ θ_run (Cert.Reference14.defs (F := Bits)) (onTc (τ := Cert.Reference14.τ) (Cert.Reference14.main (F := Bits))) ⟨m', fun _ => 0, g'⟩ (fun r =>
          r.2.mem (((0 : Dev Cert.Reference14.nD).tc : Thread Cert.Reference14.nD Cert.Reference14.τ).loc Cert.Reference14.main_v4) = v0
          ∧ r.2.mem (((0 : Dev Cert.Reference14.nD).tc : Thread Cert.Reference14.nD Cert.Reference14.τ).loc Cert.Reference14.main_arg0) = m' (((0 : Dev Cert.Reference14.nD).tc : Thread Cert.Reference14.nD Cert.Reference14.τ).loc Cert.Reference14.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hReference14 : Cert.Reference14.Facts) (hPre_finite : Cert.Pre_finite.Facts) (hPre_finite2 : Cert.Pre_finite2.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Reference14 (hReference14 := hReference14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ bitexact_Kernel14_Reference14 (hKernel14 := hKernel14) (hReference14 := hReference14)
-- ==== Pre_finite.lean ====
abbrev S4x8192x96 : Shape := ⟨3, ![4, 8192, 96]⟩
abbrev S4x8192x64 : Shape := ⟨3, ![4, 8192, 64]⟩
abbrev S_ : Shape := ⟨0, ![]⟩

class Facts : Prop where
  bcast_S_S4x8192x96 : S_.BroadcastsInDim S4x8192x96 (![] : Fin 0 → Fin S4x8192x96.rank)
  bcast_S_S4x8192x64 : S_.BroadcastsInDim S4x8192x64 (![] : Fin 0 → Fin S4x8192x64.rank)

variable [Facts]

def fn {F : FTy → Type} [FloatOps F] (main_arg0 : FVec F S4x8192x96 .bf16) (main_arg1 : FVec F S4x8192x96 .bf16) (main_arg2 : FVec F S4x8192x64 .bf16) (main_arg3 : FVec F S4x8192x64 .f32) : IVec S4x8192x96 1 × IVec S4x8192x96 1 × IVec S4x8192x64 1 × IVec S4x8192x64 1 :=
  let main_v0 : FVec F S4x8192x96 .bf16 := Host.absf main_arg0
  let main_cst : FVec F S_ .bf16 := constant S_ .bf16 0x7F80#16
  let main_v1 : FVec F S4x8192x96 .bf16 := broadcastInDim S4x8192x96 ![] bcast_S_S4x8192x96 main_cst
  let main_v2 : IVec S4x8192x96 1 := cmpf .olt main_v0 main_v1
  let main_v3 : FVec F S4x8192x96 .bf16 := Host.absf main_arg1
  let main_cst_0 : FVec F S_ .bf16 := constant S_ .bf16 0x7F80#16
  let main_v4 : FVec F S4x8192x96 .bf16 := broadcastInDim S4x8192x96 ![] bcast_S_S4x8192x96 main_cst_0
  let main_v5 : IVec S4x8192x96 1 := cmpf .olt main_v3 main_v4
  let main_v6 : FVec F S4x8192x64 .bf16 := Host.absf main_arg2
  let main_cst_1 : FVec F S_ .bf16 := constant S_ .bf16 0x7F80#16
  let main_v7 : FVec F S4x8192x64 .bf16 := broadcastInDim S4x8192x64 ![] bcast_S_S4x8192x64 main_cst_1
  let main_v8 : IVec S4x8192x64 1 := cmpf .olt main_v6 main_v7
  let main_v9 : FVec F S4x8192x64 .f32 := Host.absf main_arg3
  let main_cst_2 : FVec F S_ .f32 := constant S_ .f32 0x7F800000#32
  let main_v10 : FVec F S4x8192x64 .f32 := broadcastInDim S4x8192x64 ![] bcast_S_S4x8192x64 main_cst_2
  let main_v11 : IVec S4x8192x64 1 := cmpf .olt main_v9 main_v10
  (main_v2, main_v5, main_v8, main_v11)
-- ==== Pre_finite2.lean ====
abbrev S4x8192x96 : Shape := ⟨3, ![4, 8192, 96]⟩
abbrev S4x8192x64 : Shape := ⟨3, ![4, 8192, 64]⟩
abbrev S_ : Shape := ⟨0, ![]⟩

class Facts : Prop where
  bcast_S_S4x8192x96 : S_.BroadcastsInDim S4x8192x96 (![] : Fin 0 → Fin S4x8192x96.rank)

variable [Facts]

def fn {F : FTy → Type} [FloatOps F] (main_arg0 : FVec F S4x8192x96 .bf16) (main_arg1 : FVec F S4x8192x96 .bf16) (main_arg2 : FVec F S4x8192x64 .bf16) : IVec S4x8192x96 1 × IVec S4x8192x96 1 :=
  let main_v0 : FVec F S4x8192x96 .bf16 := Host.absf main_arg0
  let main_cst : FVec F S_ .bf16 := constant S_ .bf16 0x7F80#16
  let main_v1 : FVec F S4x8192x96 .bf16 := broadcastInDim S4x8192x96 ![] bcast_S_S4x8192x96 main_cst
  let main_v2 : IVec S4x8192x96 1 := cmpf .olt main_v0 main_v1
  let main_v3 : FVec F S4x8192x96 .bf16 := Host.absf main_arg1
  let main_cst_0 : FVec F S_ .bf16 := constant S_ .bf16 0x7F80#16
  let main_v4 : FVec F S4x8192x96 .bf16 := broadcastInDim S4x8192x96 ![] bcast_S_S4x8192x96 main_cst_0
  let main_v5 : IVec S4x8192x96 1 := cmpf .olt main_v3 main_v4
  (main_v2, main_v5)
-- ==== Pre_finite6.lean ====
abbrev S2x16384x64 : Shape := ⟨3, ![2, 16384, 64]⟩
abbrev S2x8192x64 : Shape := ⟨3, ![2, 8192, 64]⟩
abbrev S_ : Shape := ⟨0, ![]⟩

class Facts : Prop where
  bcast_S_S2x16384x64 : S_.BroadcastsInDim S2x16384x64 (![] : Fin 0 → Fin S2x16384x64.rank)
  bcast_S_S2x8192x64 : S_.BroadcastsInDim S2x8192x64 (![] : Fin 0 → Fin S2x8192x64.rank)

variable [Facts]

def fn {F : FTy → Type} [FloatOps F] (main_arg0 : FVec F S2x16384x64 .bf16) (main_arg1 : FVec F S2x8192x64 .bf16) (main_arg2 : FVec F S2x8192x64 .bf16) : IVec S2x16384x64 1 × IVec S2x8192x64 1 :=
  let main_v0 : FVec F S2x16384x64 .bf16 := Host.absf main_arg0
  let main_cst : FVec F S_ .bf16 := constant S_ .bf16 0x7F80#16
  let main_v1 : FVec F S2x16384x64 .bf16 := broadcastInDim S2x16384x64 ![] bcast_S_S2x16384x64 main_cst
  let main_v2 : IVec S2x16384x64 1 := cmpf .olt main_v0 main_v1
  let main_v3 : FVec F S2x8192x64 .bf16 := Host.absf main_arg1
  let main_cst_0 : FVec F S_ .bf16 := constant S_ .bf16 0x7F80#16
  let main_v4 : FVec F S2x8192x64 .bf16 := broadcastInDim S2x8192x64 ![] bcast_S_S2x8192x64 main_cst_0
  let main_v5 : IVec S2x8192x64 1 := cmpf .olt main_v3 main_v4
  (main_v2, main_v5)
-- ==== Pre_finite7.lean ====
abbrev S2x16384x64 : Shape := ⟨3, ![2, 16384, 64]⟩
abbrev S2x8192x64 : Shape := ⟨3, ![2, 8192, 64]⟩
abbrev S_ : Shape := ⟨0, ![]⟩

class Facts : Prop where
  bcast_S_S2x16384x64 : S_.BroadcastsInDim S2x16384x64 (![] : Fin 0 → Fin S2x16384x64.rank)
  bcast_S_S2x8192x64 : S_.BroadcastsInDim S2x8192x64 (![] : Fin 0 → Fin S2x8192x64.rank)

variable [Facts]

def fn {F : FTy → Type} [FloatOps F] (main_arg0 : FVec F S2x16384x64 .bf16) (main_arg1 : FVec F S2x8192x64 .bf16) (main_arg2 : FVec F S2x8192x64 .bf16) (main_arg3 : FVec F S2x16384x64 .f32) : IVec S2x16384x64 1 × IVec S2x8192x64 1 × IVec S2x8192x64 1 × IVec S2x16384x64 1 :=
  let main_v0 : FVec F S2x16384x64 .bf16 := Host.absf main_arg0
  let main_cst : FVec F S_ .bf16 := constant S_ .bf16 0x7F80#16
  let main_v1 : FVec F S2x16384x64 .bf16 := broadcastInDim S2x16384x64 ![] bcast_S_S2x16384x64 main_cst
  let main_v2 : IVec S2x16384x64 1 := cmpf .olt main_v0 main_v1
  let main_v3 : FVec F S2x8192x64 .bf16 := Host.absf main_arg1
  let main_cst_0 : FVec F S_ .bf16 := constant S_ .bf16 0x7F80#16
  let main_v4 : FVec F S2x8192x64 .bf16 := broadcastInDim S2x8192x64 ![] bcast_S_S2x8192x64 main_cst_0
  let main_v5 : IVec S2x8192x64 1 := cmpf .olt main_v3 main_v4
  let main_v6 : FVec F S2x8192x64 .bf16 := Host.absf main_arg2
  let main_cst_1 : FVec F S_ .bf16 := constant S_ .bf16 0x7F80#16
  let main_v7 : FVec F S2x8192x64 .bf16 := broadcastInDim S2x8192x64 ![] bcast_S_S2x8192x64 main_cst_1
  let main_v8 : IVec S2x8192x64 1 := cmpf .olt main_v6 main_v7
  let main_v9 : FVec F S2x16384x64 .f32 := Host.absf main_arg3
  let main_cst_2 : FVec F S_ .f32 := constant S_ .f32 0x7F800000#32
  let main_v10 : FVec F S2x16384x64 .f32 := broadcastInDim S2x16384x64 ![] bcast_S_S2x16384x64 main_cst_2
  let main_v11 : IVec S2x16384x64 1 := cmpf .olt main_v9 main_v10
  (main_v2, main_v5, main_v8, main_v11)
-- ==== Kernel.lean ====
abbrev S4x8192x96 : Shape := ⟨3, ![4, 8192, 96]⟩
abbrev S4x8192x64 : Shape := ⟨3, ![4, 8192, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S1x1024x96 : Shape := ⟨3, ![1, 1024, 96]⟩
abbrev S1x2048x96 : Shape := ⟨3, ![1, 2048, 96]⟩
abbrev S1x2048x64 : Shape := ⟨3, ![1, 2048, 64]⟩
abbrev S1x1024x64 : Shape := ⟨3, ![1, 1024, 64]⟩
abbrev S1x1024x1 : Shape := ⟨3, ![1, 1024, 1]⟩
abbrev S1x8192x96 : Shape := ⟨3, ![1, 8192, 96]⟩
abbrev S1024x96 : Shape := ⟨2, ![1024, 96]⟩
abbrev S2048x96 : Shape := ⟨2, ![2048, 96]⟩
abbrev S2048x64 : Shape := ⟨2, ![2048, 64]⟩
abbrev S1024x64 : Shape := ⟨2, ![1024, 64]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 28
  | .vmem => 18
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x64, .f32⟩
  | .hbm, ⟨4, _⟩ => ⟨S4x8192x96, .f32⟩
  | .hbm, ⟨5, _⟩ => ⟨S4x8192x96, .f32⟩
  | .hbm, ⟨6, _⟩ => ⟨S4x8192x64, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x8192, .f32⟩
  | .hbm, ⟨15, _⟩ => ⟨S4x8192x8192, .f32⟩
  | .hbm, ⟨16, _⟩ => ⟨S4x8192x8192, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x8192, .f32⟩
  | .hbm, ⟨21, _⟩ => ⟨S4x8192x8192, .f32⟩
  | .hbm, ⟨22, _⟩ => ⟨S4x8192x64, .f32⟩
  | .hbm, ⟨23, _⟩ => ⟨S4x8192x1, .f32⟩
  | .hbm, ⟨24, _⟩ => ⟨S4x8192x1, .f32⟩
  | .hbm, ⟨25, _⟩ => ⟨S4x8192x96, .f32⟩
  | .hbm, ⟨26, _⟩ => ⟨S4x8192x96, .f32⟩
  | .hbm, ⟨27, _⟩ => ⟨S4x8192x64, .f32⟩
  | .local _ .vmem, ⟨0, _⟩ => ⟨S1x1024x96, .bf16⟩
  | .local _ .vmem, ⟨1, _⟩ => ⟨S1x1024x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x64, .f32⟩
  | .local _ .vmem, ⟨11, _⟩ => ⟨S1x1024x64, .f32⟩
  | .local _ .vmem, ⟨12, _⟩ => ⟨S1x8192x96, .f32⟩
  | .local _ .vmem, ⟨13, _⟩ => ⟨S1x8192x96, .f32⟩
  | .local _ .vmem, ⟨14, _⟩ => ⟨S1x2048x96, .f32⟩
  | .local _ .vmem, ⟨15, _⟩ => ⟨S1x2048x96, .f32⟩
  | .local _ .vmem, ⟨16, _⟩ => ⟨S1x2048x64, .f32⟩
  | .local _ .vmem, ⟨17, _⟩ => ⟨S1x2048x64, .f32⟩
  | _, _ => ⟨S4x8192x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v37 : BitVec 32 := Scalar.muli arg2 c1024_i32
  v37
def k0_cond3 (i : grid0.Coords) : BitVec 1 :=
  let arg1 : BitVec 32 := BitVec.ofNat 32 (i 1).val
  let c0_i32_29 : BitVec 32 := 0#32
  let v45 : BitVec 1 := Scalar.cmpi .eq arg1 c0_i32_29
  let v46 : BitVec 32 := Scalar.extui v45
  let c0_i32_30 : BitVec 32 := 0#32
  let v47 : BitVec 1 := Scalar.cmpi .ne v46 c0_i32_30
  v47

def k0_off1 (i : grid0.Coords) : Fin 3 → Nat :=
  let c0_33 : Index := 0#32
  let arg2 : BitVec 32 := BitVec.ofNat 32 (i 2).val
  let c1024_i32 : BitVec 32 := 1024#32
  let v37 : BitVec 32 := Scalar.muli arg2 c1024_i32
  let v38 : BitVec 32 := v37
  let v51 : Index := Scalar.indexCast v38
  let c0_34 : Index := 0#32
  ![0, v51.toNat, 0]
def k0_cond4 (i : grid0.Coords) : BitVec 1 :=
  let arg1 : BitVec 32 := BitVec.ofNat 32 (i 1).val
  let c0_i32_31 : BitVec 32 := 0#32
  let v48 : BitVec 1 := Scalar.cmpi .sgt arg1 c0_i32_31
  let v49 : BitVec 32 := Scalar.extui v48
  let c0_i32_32 : BitVec 32 := 0#32
  let v50 : BitVec 1 := Scalar.cmpi .ne v49 c0_i32_32
  v50

def k0_off2 (i : grid0.Coords) : Fin 3 → Nat :=
  let c0_33 : Index := 0#32
  let arg2 : BitVec 32 := BitVec.ofNat 32 (i 2).val
  let c1024_i32 : BitVec 32 := 1024#32
  let v37 : BitVec 32 := Scalar.muli arg2 c1024_i32
  let v38 : BitVec 32 := v37
  let v51 : Index := Scalar.indexCast v38
  let c0_34 : Index := 0#32
  ![0, v51.toNat, 0]
def k0_cond1 (i : grid0.Coords) : BitVec 1 :=
  let arg2 : BitVec 32 := BitVec.ofNat 32 (i 2).val
  let c0_i32 : BitVec 32 := 0#32
  let v39 : BitVec 1 := Scalar.cmpi .eq arg2 c0_i32
  let v40 : BitVec 32 := Scalar.extui v39
  let c0_i32_26 : BitVec 32 := 0#32
  let v41 : BitVec 1 := Scalar.cmpi .ne v40 c0_i32_26
  v41

def k0_cond2 (i : grid0.Coords) : BitVec 1 :=
  let arg2 : BitVec 32 := BitVec.ofNat 32 (i 2).val
  let c0_i32_27 : BitVec 32 := 0#32
  let v42 : BitVec 1 := Scalar.cmpi .sgt arg2 c0_i32_27
  let v43 : BitVec 32 := Scalar.extui v42
  let c0_i32_28 : BitVec 32 := 0#32
  let v44 : BitVec 1 := Scalar.cmpi .ne v43 c0_i32_28
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8192x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2048x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== ReferenceIdeal.lean ====
abbrev S4x8192x96 : Shape := ⟨3, ![4, 8192, 96]⟩
abbrev S4x8192x64 : Shape := ⟨3, ![4, 8192, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x64, .f32⟩
  | .hbm, ⟨4, _⟩ => ⟨S4x8192x96, .f32⟩
  | .hbm, ⟨5, _⟩ => ⟨S4x8192x96, .f32⟩
  | .hbm, ⟨6, _⟩ => ⟨S4x8192x64, .f32⟩
  | .hbm, ⟨7, _⟩ => ⟨S4x8192x8192, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S4x8192x8192, .f32⟩
  | .hbm, ⟨15, _⟩ => ⟨S4x8192x8192, .i1⟩
  | .hbm, ⟨16, _⟩ => ⟨S4x8192x8192, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .i1⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x8192, .f32⟩
  | .hbm, ⟨44, _⟩ => ⟨S4x8192x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x64, .f32⟩
  | .hbm, ⟨50, _⟩ => ⟨S4x64x8192, .f32⟩
  | .hbm, ⟨51, _⟩ => ⟨S4x8192x64, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S4x8192x1, .f32⟩
  | .hbm, ⟨60, _⟩ => ⟨S4x8192x8192, .f32⟩
  | .hbm, ⟨61, _⟩ => ⟨S4x8192x8192, .f32⟩
  | .hbm, ⟨62, _⟩ => ⟨S_, .f32⟩
  | .hbm, ⟨63, _⟩ => ⟨S4x8192, .f32⟩
  | .hbm, ⟨64, _⟩ => ⟨S4x8192x8192, .f32⟩
  | .hbm, ⟨65, _⟩ => ⟨S4x8192x8192, .f32⟩
  | .hbm, ⟨66, _⟩ => ⟨S4x8192x8192, .f32⟩
  | .hbm, ⟨67, _⟩ => ⟨S_, .f32⟩
  | .hbm, ⟨68, _⟩ => ⟨S4x8192x8192, .f32⟩
  | .hbm, ⟨69, _⟩ => ⟨S4x8192x8192, .f32⟩
  | .hbm, ⟨70, _⟩ => ⟨S4x8192x96, .f32⟩
  | .hbm, ⟨71, _⟩ => ⟨S4x8192x96, .f32⟩
  | _, _ => ⟨S4x8192x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel2.lean ====
abbrev S4x8192x96 : Shape := ⟨3, ![4, 8192, 96]⟩
abbrev S4x8192x64 : Shape := ⟨3, ![4, 8192, 64]⟩
abbrev S4x8192x1 : Shape := ⟨3, ![4, 8192, 1]⟩
abbrev S1x512x96 : Shape := ⟨3, ![1, 512, 96]⟩
abbrev S1x8192x96 : Shape := ⟨3, ![1, 8192, 96]⟩
abbrev S1x8192x64 : Shape := ⟨3, ![1, 8192, 64]⟩
abbrev S1x512x64 : Shape := ⟨3, ![1, 512, 64]⟩
abbrev S1x512x1 : Shape := ⟨3, ![1, 512, 1]⟩
abbrev S512x1 : Shape := ⟨2, ![512, 1]⟩
abbrev S512x128 : Shape := ⟨2, ![512, 128]⟩
abbrev S8192x128 : Shape := ⟨2, ![8192, 128]⟩
abbrev S8192x64 : Shape := ⟨2, ![8192, 64]⟩
abbrev S512x96 : Shape := ⟨2, ![512, 96]⟩
abbrev S8192x96 : Shape := ⟨2, ![8192, 96]⟩
abbrev S512x8192 : Shape := ⟨2, ![512, 8192]⟩
abbrev S512 : Shape := ⟨1, ![512]⟩
abbrev S512x64 : Shape := ⟨2, ![512, 64]⟩

abbrev nBuf : Space → Nat
  | .hbm => 5
  | .vmem => 13
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x64, .f32⟩
  | .hbm, ⟨4, _⟩ => ⟨S4x8192x1, .f32⟩
  | .local _ .vmem, ⟨0, _⟩ => ⟨S1x512x96, .bf16⟩
  | .local _ .vmem, ⟨1, _⟩ => ⟨S1x512x96, .bf16⟩
  | .local _ .vmem, ⟨2, _⟩ => ⟨S1x8192x96, .bf16⟩
  | .local _ .vmem, ⟨3, _⟩ => ⟨S1x8192x96, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x128, .f32⟩
  | .local _ .vmem, ⟨12, _⟩ => ⟨S8192x128, .bf16⟩
  | _, _ => ⟨S4x8192x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_26 : BitVec 32 := 0#32
  let v41 : BitVec 1 := Scalar.cmpi .eq arg2 c0_i32_26
  let v42 : BitVec 32 := Scalar.extui v41
  let c0_i32_27 : BitVec 32 := 0#32
  let v43 : BitVec 1 := Scalar.cmpi .ne v42 c0_i32_27
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel2Ideal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== Reference2Ideal.lean ====
abbrev S4x8192x96 : Shape := ⟨3, ![4, 8192, 96]⟩
abbrev S4x8192x64 : Shape := ⟨3, ![4, 8192, 64]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x96, .bf16⟩
  | .hbm, ⟨1, _⟩ => ⟨S4x8192x96, .bf16⟩
  | .hbm, ⟨2, _⟩ => ⟨S4x8192x64, .bf16⟩
  | .hbm, ⟨3, _⟩ => ⟨S4x8192x96, .f32⟩
  | .hbm, ⟨4, _⟩ => ⟨S4x8192x96, .f32⟩
  | .hbm, ⟨5, _⟩ => ⟨S4x8192x8192, .f32⟩
  | .hbm, ⟨6, _⟩ => ⟨S_, .f32⟩
  | .hbm, ⟨7, _⟩ => ⟨S4x8192x8192, .f32⟩
  | .hbm, ⟨8, _⟩ => ⟨S4x8192x8192, .f32⟩
  | .hbm, ⟨9, _⟩ => ⟨S4x8192x96, .f32⟩
  | .hbm, ⟨10, _⟩ => ⟨S4x8192x96, .f32⟩
  | .hbm, ⟨11, _⟩ => ⟨S4x8192x64, .f32⟩
  | .hbm, ⟨12, _⟩ => ⟨S4x8192x8192, .f32⟩
  | .hbm, ⟨13, _⟩ => ⟨S_, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x8192, .f32⟩
  | .hbm, ⟨29, _⟩ => ⟨S4x8192x8192, .f32⟩
  | .hbm, ⟨30, _⟩ => ⟨S4x8192x64, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x1, .f32⟩
  | _, _ => ⟨S4x8192x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel3.lean ====
abbrev S8192x1024 : Shape := ⟨2, ![8192, 1024]⟩
abbrev S7680x1024 : Shape := ⟨2, ![7680, 1024]⟩
abbrev S8192x7680 : Shape := ⟨2, ![8192, 7680]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S7680x1024, .bf16⟩
  | .hbm, ⟨2, _⟩ => ⟨S8192x7680, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S7680x1024 : Shape := ⟨2, ![7680, 1024]⟩
abbrev S1024x7680 : Shape := ⟨2, ![1024, 7680]⟩
abbrev S8192x7680 : Shape := ⟨2, ![8192, 7680]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S7680x1024, .bf16⟩
  | .hbm, ⟨2, _⟩ => ⟨S8192x1024, .f32⟩
  | .hbm, ⟨3, _⟩ => ⟨S7680x1024, .f32⟩
  | .hbm, ⟨4, _⟩ => ⟨S1024x7680, .f32⟩
  | .hbm, ⟨5, _⟩ => ⟨S8192x7680, .f32⟩
  | .hbm, ⟨6, _⟩ => ⟨S8192x7680, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S7680x1024 : Shape := ⟨2, ![7680, 1024]⟩
abbrev S8192x7680 : Shape := ⟨2, ![8192, 7680]⟩
abbrev S8192x1024 : Shape := ⟨2, ![8192, 1024]⟩
abbrev S2048x768 : Shape := ⟨2, ![2048, 768]⟩
abbrev S768x1024 : Shape := ⟨2, ![768, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S7680x1024, .bf16⟩
  | .hbm, ⟨1, _⟩ => ⟨S8192x7680, .bf16⟩
  | .hbm, ⟨2, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S7680x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 10], ![false, false, false]⟩

def k0_cond3 (i : grid0.Coords) : BitVec 1 :=
  let arg2 : BitVec 32 := BitVec.ofNat 32 (i 2).val
  let c9_i32 : BitVec 32 := 9#32
  let v9 : BitVec 1 := Scalar.cmpi .eq arg2 c9_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S7680x1024 : Shape := ⟨2, ![7680, 1024]⟩
abbrev S8192x7680 : Shape := ⟨2, ![8192, 7680]⟩
abbrev S_ : Shape := ⟨0, ![]⟩
abbrev S8192x1024 : Shape := ⟨2, ![8192, 1024]⟩
abbrev S1024x7680 : Shape := ⟨2, ![1024, 7680]⟩

abbrev nBuf : Space → Nat
  | .hbm => 9
  | .vmem => 0
  | .smem => 0
  | _ => 0

abbrev bufTy : (tb : Table) → Fin (tcTables nBuf tb) → BufTy
  | .hbm, ⟨0, _⟩ => ⟨S7680x1024, .bf16⟩
  | .hbm, ⟨1, _⟩ => ⟨S8192x7680, .bf16⟩
  | .hbm, ⟨2, _⟩ => ⟨S_, .f32⟩
  | .hbm, ⟨3, _⟩ => ⟨S8192x1024, .f32⟩
  | .hbm, ⟨4, _⟩ => ⟨S7680x1024, .f32⟩
  | .hbm, ⟨5, _⟩ => ⟨S1024x7680, .f32⟩
  | .hbm, ⟨6, _⟩ => ⟨S8192x7680, .f32⟩
  | .hbm, ⟨7, _⟩ => ⟨S8192x7680, .f32⟩
  | .hbm, ⟨8, _⟩ => ⟨S8192x1024, .f32⟩
  | _, _ => ⟨S7680x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1024x8192 : Shape := ⟨2, ![1024, 8192]⟩
abbrev S8192x7680 : Shape := ⟨2, ![8192, 7680]⟩
abbrev S1024x7680 : Shape := ⟨2, ![1024, 7680]⟩
abbrev S1024x4096 : Shape := ⟨2, ![1024, 4096]⟩
abbrev S4096x768 : Shape := ⟨2, ![4096, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x7680, .bf16⟩
  | .hbm, ⟨2, _⟩ => ⟨S1024x7680, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x8192 : Shape := ⟨2, ![1024, 8192]⟩
abbrev S8192x7680 : Shape := ⟨2, ![8192, 7680]⟩
abbrev S_ : Shape := ⟨0, ![]⟩
abbrev S1024x7680 : Shape := ⟨2, ![1024, 7680]⟩
abbrev S8192x1024 : Shape := ⟨2, ![8192, 1024]⟩
abbrev S7680x1024 : Shape := ⟨2, ![7680, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x7680, .bf16⟩
  | .hbm, ⟨2, _⟩ => ⟨S_, .f32⟩
  | .hbm, ⟨3, _⟩ => ⟨S1024x7680, .f32⟩
  | .hbm, ⟨4, _⟩ => ⟨S1024x8192, .f32⟩
  | .hbm, ⟨5, _⟩ => ⟨S8192x1024, .f32⟩
  | .hbm, ⟨6, _⟩ => ⟨S8192x7680, .f32⟩
  | .hbm, ⟨7, _⟩ => ⟨S8192x7680, .f32⟩
  | .hbm, ⟨8, _⟩ => ⟨S7680x1024, .f32⟩
  | .hbm, ⟨9, _⟩ => ⟨S1024x7680, .f32⟩
  | .hbm, ⟨10, _⟩ => ⟨S1024x7680, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2x16384x64 : Shape := ⟨3, ![2, 16384, 64]⟩
abbrev S2x8192x64 : Shape := ⟨3, ![2, 8192, 64]⟩
abbrev S2x16384x1 : Shape := ⟨3, ![2, 16384, 1]⟩
abbrev S1x512x64 : Shape := ⟨3, ![1, 512, 64]⟩
abbrev S1x8192x64 : Shape := ⟨3, ![1, 8192, 64]⟩
abbrev S1x512x1 : Shape := ⟨3, ![1, 512, 1]⟩
abbrev S512x1 : Shape := ⟨2, ![512, 1]⟩
abbrev S512x128 : Shape := ⟨2, ![512, 128]⟩
abbrev S8192x128 : Shape := ⟨2, ![8192, 128]⟩
abbrev S8192x64 : Shape := ⟨2, ![8192, 64]⟩
abbrev S512x64 : Shape := ⟨2, ![512, 64]⟩
abbrev S512x8192 : Shape := ⟨2, ![512, 8192]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S2x16384x64, .bf16⟩
  | .hbm, ⟨1, _⟩ => ⟨S2x8192x64, .bf16⟩
  | .hbm, ⟨2, _⟩ => ⟨S2x8192x64, .bf16⟩
  | .hbm, ⟨3, _⟩ => ⟨S2x16384x64, .f32⟩
  | .hbm, ⟨4, _⟩ => ⟨S2x16384x1, .f32⟩
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x128, .f32⟩
  | .local _ .vmem, ⟨12, _⟩ => ⟨S8192x128, .bf16⟩
  | _, _ => ⟨S2x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 32, 1], ![false, false, false]⟩

def k0_cond2 (i : grid0.Coords) : BitVec 1 :=
  let arg2 : BitVec 32 := BitVec.ofNat 32 (i 2).val
  let c0_i32_26 : BitVec 32 := 0#32
  let v41 : BitVec 1 := Scalar.cmpi .eq arg2 c0_i32_26
  let v42 : BitVec 32 := Scalar.extui v41
  let c0_i32_27 : BitVec 32 := 0#32
  let v43 : BitVec 1 := Scalar.cmpi .ne v42 c0_i32_27
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel6Ideal.lean ====
variable {F : FTy → Type} [FloatOps F] [Named F]
def κ : String → Option EReal := fun
  | "log2e" => some (((Real.log 2)⁻¹ : ℝ) : EReal)
  | "scale_log2e_b" => some (((1 / 8) * (Real.log 2)⁻¹ : ℝ) : EReal)
  | _ => none
-- ==== Reference6Ideal.lean ====
abbrev S2x16384x64 : Shape := ⟨3, ![2, 16384, 64]⟩
abbrev S2x8192x64 : Shape := ⟨3, ![2, 8192, 64]⟩
abbrev S2x16384x8192 : Shape := ⟨3, ![2, 16384, 8192]⟩
abbrev S_ : Shape := ⟨0, ![]⟩
abbrev S2x16384 : Shape := ⟨2, ![2, 16384]⟩
abbrev S2x16384x1 : Shape := ⟨3, ![2, 16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x64, .bf16⟩
  | .hbm, ⟨1, _⟩ => ⟨S2x8192x64, .bf16⟩
  | .hbm, ⟨2, _⟩ => ⟨S2x8192x64, .bf16⟩
  | .hbm, ⟨3, _⟩ => ⟨S2x16384x64, .f32⟩
  | .hbm, ⟨4, _⟩ => ⟨S2x8192x64, .f32⟩
  | .hbm, ⟨5, _⟩ => ⟨S2x16384x8192, .f32⟩
  | .hbm, ⟨6, _⟩ => ⟨S_, .f32⟩
  | .hbm, ⟨7, _⟩ => ⟨S2x16384x8192, .f32⟩
  | .hbm, ⟨8, _⟩ => ⟨S2x16384x8192, .f32⟩
  | .hbm, ⟨9, _⟩ => ⟨S2x16384x64, .f32⟩
  | .hbm, ⟨10, _⟩ => ⟨S2x8192x64, .f32⟩
  | .hbm, ⟨11, _⟩ => ⟨S2x8192x64, .f32⟩
  | .hbm, ⟨12, _⟩ => ⟨S2x16384x8192, .f32⟩
  | .hbm, ⟨13, _⟩ => ⟨S_, .f32⟩
  | .hbm, ⟨14, _⟩ => ⟨S2x16384x8192, .f32⟩
  | .hbm, ⟨15, _⟩ => ⟨S2x16384x8192, .f32⟩
  | .hbm, ⟨16, _⟩ => ⟨S_, .f32⟩
  | .hbm, ⟨17, _⟩ => ⟨S2x16384, .f32⟩
  | .hbm, ⟨18, _⟩ => ⟨S_, .f32⟩
  | .hbm, ⟨19, _⟩ => ⟨S2x16384, .f32⟩
  | .hbm, ⟨20, _⟩ => ⟨S2x16384, .f32⟩
  | .hbm, ⟨21, _⟩ => ⟨S2x16384x1, .f32⟩
  | .hbm, ⟨22, _⟩ => ⟨S2x16384x8192, .f32⟩
  | .hbm, ⟨23, _⟩ => ⟨S2x16384x8192, .f32⟩
  | .hbm, ⟨24, _⟩ => ⟨S2x16384x8192, .f32⟩
  | .hbm, ⟨25, _⟩ => ⟨S_, .f32⟩
  | .hbm, ⟨26, _⟩ => ⟨S2x16384, .f32⟩
  | .hbm, ⟨27, _⟩ => ⟨S2x16384x1, .f32⟩
  | .hbm, ⟨28, _⟩ => ⟨S2x16384x8192, .f32⟩
  | .hbm, ⟨29, _⟩ => ⟨S2x16384x8192, .f32⟩
  | .hbm, ⟨30, _⟩ => ⟨S2x16384x64, .f32⟩
  | .hbm, ⟨31, _⟩ => ⟨S2x16384x8192, .f32⟩
  | .hbm, ⟨32, _⟩ => ⟨S_, .f32⟩
  | .hbm, ⟨33, _⟩ => ⟨S2x16384, .f32⟩
  | .hbm, ⟨34, _⟩ => ⟨S2x16384x1, .f32⟩
  | .hbm, ⟨35, _⟩ => ⟨S2x16384x1, .f32⟩
  | _, _ => ⟨S2x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel7.lean ====
abbrev S2x16384x64 : Shape := ⟨3, ![2, 16384, 64]⟩
abbrev S2x8192x64 : Shape := ⟨3, ![2, 8192, 64]⟩
abbrev S2x16384x8192 : Shape := ⟨3, ![2, 16384, 8192]⟩
abbrev S_ : Shape := ⟨0, ![]⟩
abbrev S2x16384 : Shape := ⟨2, ![2, 16384]⟩
abbrev S2x16384x1 : Shape := ⟨3, ![2, 16384, 1]⟩
abbrev S1x1024x64 : Shape := ⟨3, ![1, 1024, 64]⟩
abbrev S1x2048x64 : Shape := ⟨3, ![1, 2048, 64]⟩
abbrev S1x1024x1 : Shape := ⟨3, ![1, 1024, 1]⟩
abbrev S1x16384x64 : Shape := ⟨3, ![1, 16384, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 28
  | .vmem => 18
  | .smem => 0
  | _ => 0

abbrev bufTy : (tb : Table) → Fin (tcTables nBuf tb) → BufTy
  | .hbm, ⟨0, _⟩ => ⟨S2x16384x64, .bf16⟩
  | .hbm, ⟨1, _⟩ => ⟨S2x8192x64, .bf16⟩
  | .hbm, ⟨2, _⟩ => ⟨S2x8192x64, .bf16⟩
  | .hbm, ⟨3, _⟩ => ⟨S2x16384x64, .f32⟩
  | .hbm, ⟨4, _⟩ => ⟨S2x16384x64, .f32⟩
  | .hbm, ⟨5, _⟩ => ⟨S2x8192x64, .f32⟩
  | .hbm, ⟨6, _⟩ => ⟨S2x8192x64, .f32⟩
  | .hbm, ⟨7, _⟩ => ⟨S2x16384x8192, .f32⟩
  | .hbm, ⟨8, _⟩ => ⟨S_, .f32⟩
  | .hbm, ⟨9, _⟩ => ⟨S2x16384x8192, .f32⟩
  | .hbm, ⟨10, _⟩ => ⟨S2x16384x8192, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S2x16384x8192, .f32⟩
  | .hbm, ⟨15, _⟩ => ⟨S2x16384x8192, .f32⟩
  | .hbm, ⟨16, _⟩ => ⟨S2x16384x8192, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S2x16384x8192, .f32⟩
  | .hbm, ⟨21, _⟩ => ⟨S2x16384x8192, .f32⟩
  | .hbm, ⟨22, _⟩ => ⟨S2x16384x64, .f32⟩
  | .hbm, ⟨23, _⟩ => ⟨S2x16384x1, .f32⟩
  | .hbm, ⟨24, _⟩ => ⟨S2x16384x1, .f32⟩
  | .hbm, ⟨25, _⟩ => ⟨S2x16384x64, .f32⟩
  | .hbm, ⟨26, _⟩ => ⟨S2x8192x64, .f32⟩
  | .hbm, ⟨27, _⟩ => ⟨S2x8192x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x64, .f32⟩
  | .local _ .vmem, ⟨11, _⟩ => ⟨S1x1024x64, .f32⟩
  | .local _ .vmem, ⟨12, _⟩ => ⟨S1x16384x64, .f32⟩
  | .local _ .vmem, ⟨13, _⟩ => ⟨S1x16384x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x2048x64, .f32⟩
  | _, _ => ⟨S2x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c1024_i32 : BitVec 32 := 1024#32
  let v37 : BitVec 32 := Scalar.muli arg2 c1024_i32
  v37
def k0_cond3 (i : grid0.Coords) : BitVec 1 :=
  let arg1 : BitVec 32 := BitVec.ofNat 32 (i 1).val
  let c0_i32_29 : BitVec 32 := 0#32
  let v45 : BitVec 1 := Scalar.cmpi .eq arg1 c0_i32_29
  let v46 : BitVec 32 := Scalar.extui v45
  let c0_i32_30 : BitVec 32 := 0#32
  let v47 : BitVec 1 := Scalar.cmpi .ne v46 c0_i32_30
  v47

def k0_off1 (i : grid0.Coords) : Fin 3 → Nat :=
  let c0_33 : Index := 0#32
  let arg2 : BitVec 32 := BitVec.ofNat 32 (i 2).val
  let c1024_i32 : BitVec 32 := 1024#32
  let v37 : BitVec 32 := Scalar.muli arg2 c1024_i32
  let v38 : BitVec 32 := v37
  let v51 : Index := Scalar.indexCast v38
  let c0_34 : Index := 0#32
  ![0, v51.toNat, 0]
def k0_cond4 (i : grid0.Coords) : BitVec 1 :=
  let arg1 : BitVec 32 := BitVec.ofNat 32 (i 1).val
  let c0_i32_31 : BitVec 32 := 0#32
  let v48 : BitVec 1 := Scalar.cmpi .sgt arg1 c0_i32_31
  let v49 : BitVec 32 := Scalar.extui v48
  let c0_i32_32 : BitVec 32 := 0#32
  let v50 : BitVec 1 := Scalar.cmpi .ne v49 c0_i32_32
  v50

def k0_off2 (i : grid0.Coords) : Fin 3 → Nat :=
  let c0_33 : Index := 0#32
  let arg2 : BitVec 32 := BitVec.ofNat 32 (i 2).val
  let c1024_i32 : BitVec 32 := 1024#32
  let v37 : BitVec 32 := Scalar.muli arg2 c1024_i32
  let v38 : BitVec 32 := v37
  let v51 : Index := Scalar.indexCast v38
  let c0_34 : Index := 0#32
  ![0, v51.toNat, 0]
def k0_cond1 (i : grid0.Coords) : BitVec 1 :=
  let arg2 : BitVec 32 := BitVec.ofNat 32 (i 2).val
  let c0_i32 : BitVec 32 := 0#32
  let v39 : BitVec 1 := Scalar.cmpi .eq arg2 c0_i32
  let v40 : BitVec 32 := Scalar.extui v39
  let c0_i32_26 : BitVec 32 := 0#32
  let v41 : BitVec 1 := Scalar.cmpi .ne v40 c0_i32_26
  v41

def k0_cond2 (i : grid0.Coords) : BitVec 1 :=
  let arg2 : BitVec 32 := BitVec.ofNat 32 (i 2).val
  let c0_i32_27 : BitVec 32 := 0#32
  let v42 : BitVec 1 := Scalar.cmpi .sgt arg2 c0_i32_27
  let v43 : BitVec 32 := Scalar.extui v42
  let c0_i32_28 : BitVec 32 := 0#32
  let v44 : BitVec 1 := Scalar.cmpi .ne v43 c0_i32_28
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x16384x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel7Ideal.lean ====
variable {F : FTy → Type} [FloatOps F] [Named F]
def κ : String → Option EReal := fun
  | "log2e" => some (((Real.log 2)⁻¹ : ℝ) : EReal)
  | "scale_log2e_b" => some (((1 / 8) * (Real.log 2)⁻¹ : ℝ) : EReal)
  | _ => none
-- ==== Reference7Ideal.lean ====
abbrev S2x16384x64 : Shape := ⟨3, ![2, 16384, 64]⟩
abbrev S2x8192x64 : Shape := ⟨3, ![2, 8192, 64]⟩
abbrev S2x16384x8192 : Shape := ⟨3, ![2, 16384, 8192]⟩
abbrev S_ : Shape := ⟨0, ![]⟩
abbrev S2x16384 : Shape := ⟨2, ![2, 16384]⟩
abbrev S2x16384x1 : Shape := ⟨3, ![2, 16384, 1]⟩
abbrev S2x64x8192 : Shape := ⟨3, ![2, 64, 8192]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x64, .bf16⟩
  | .hbm, ⟨1, _⟩ => ⟨S2x8192x64, .bf16⟩
  | .hbm, ⟨2, _⟩ => ⟨S2x8192x64, .bf16⟩
  | .hbm, ⟨3, _⟩ => ⟨S2x16384x64, .f32⟩
  | .hbm, ⟨4, _⟩ => ⟨S2x16384x64, .f32⟩
  | .hbm, ⟨5, _⟩ => ⟨S2x8192x64, .f32⟩
  | .hbm, ⟨6, _⟩ => ⟨S2x8192x64, .f32⟩
  | .hbm, ⟨7, _⟩ => ⟨S2x16384x8192, .f32⟩
  | .hbm, ⟨8, _⟩ => ⟨S_, .f32⟩
  | .hbm, ⟨9, _⟩ => ⟨S2x16384x8192, .f32⟩
  | .hbm, ⟨10, _⟩ => ⟨S2x16384x8192, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S2x16384x8192, .f32⟩
  | .hbm, ⟨15, _⟩ => ⟨S2x16384x8192, .i1⟩
  | .hbm, ⟨16, _⟩ => ⟨S2x16384x8192, .f32⟩
  | .hbm, ⟨17, _⟩ => ⟨S_, .f32⟩
  | .hbm, ⟨18, _⟩ => ⟨S2x16384, .f32⟩
  | .hbm, ⟨19, _⟩ => ⟨S_, .f32⟩
  | .hbm, ⟨20, _⟩ => ⟨S2x16384, .f32⟩
  | .hbm, ⟨21, _⟩ => ⟨S2x16384, .f32⟩
  | .hbm, ⟨22, _⟩ => ⟨S_, .f32⟩
  | .hbm, ⟨23, _⟩ => ⟨S2x16384, .f32⟩
  | .hbm, ⟨24, _⟩ => ⟨S2x16384, .i1⟩
  | .hbm, ⟨25, _⟩ => ⟨S_, .f32⟩
  | .hbm, ⟨26, _⟩ => ⟨S2x16384, .f32⟩
  | .hbm, ⟨27, _⟩ => ⟨S2x16384, .i1⟩
  | .hbm, ⟨28, _⟩ => ⟨S_, .f32⟩
  | .hbm, ⟨29, _⟩ => ⟨S2x16384, .f32⟩
  | .hbm, ⟨30, _⟩ => ⟨S_, .f32⟩
  | .hbm, ⟨31, _⟩ => ⟨S2x16384, .f32⟩
  | .hbm, ⟨32, _⟩ => ⟨S_, .f32⟩
  | .hbm, ⟨33, _⟩ => ⟨S2x16384, .f32⟩
  | .hbm, ⟨34, _⟩ => ⟨S2x16384, .f32⟩
  | .hbm, ⟨35, _⟩ => ⟨S2x16384, .f32⟩
  | .hbm, ⟨36, _⟩ => ⟨S2x16384x1, .f32⟩
  | .hbm, ⟨37, _⟩ => ⟨S2x16384x8192, .f32⟩
  | .hbm, ⟨38, _⟩ => ⟨S2x16384x8192, .f32⟩
  | .hbm, ⟨39, _⟩ => ⟨S2x16384x8192, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S2x16384x8192, .f32⟩
  | .hbm, ⟨44, _⟩ => ⟨S2x16384x8192, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x64, .f32⟩
  | .hbm, ⟨50, _⟩ => ⟨S2x64x8192, .f32⟩
  | .hbm, ⟨51, _⟩ => ⟨S2x8192x64, .f32⟩
  | .hbm, ⟨52, _⟩ => ⟨S2x16384x8192, .f32⟩
  | .hbm, ⟨53, _⟩ => ⟨S2x16384x8192, .f32⟩
  | .hbm, ⟨54, _⟩ => ⟨S2x16384x8192, .f32⟩
  | .hbm, ⟨55, _⟩ => ⟨S2x16384x8192, .f32⟩
  | .hbm, ⟨56, _⟩ => ⟨S_, .f32⟩
  | .hbm, ⟨57, _⟩ => ⟨S2x16384, .f32⟩
  | .hbm, ⟨58, _⟩ => ⟨S2x16384x1, .f32⟩
  | .hbm, ⟨59, _⟩ => ⟨S2x16384x1, .f32⟩
  | .hbm, ⟨60, _⟩ => ⟨S2x16384x8192, .f32⟩
  | .hbm, ⟨61, _⟩ => ⟨S2x16384x8192, .f32⟩
  | .hbm, ⟨62, _⟩ => ⟨S_, .f32⟩
  | .hbm, ⟨63, _⟩ => ⟨S2x16384, .f32⟩
  | .hbm, ⟨64, _⟩ => ⟨S2x16384x8192, .f32⟩
  | .hbm, ⟨65, _⟩ => ⟨S2x16384x8192, .f32⟩
  | .hbm, ⟨66, _⟩ => ⟨S2x16384x8192, .f32⟩
  | .hbm, ⟨67, _⟩ => ⟨S_, .f32⟩
  | .hbm, ⟨68, _⟩ => ⟨S2x16384x8192, .f32⟩
  | .hbm, ⟨69, _⟩ => ⟨S2x16384x8192, .f32⟩
  | .hbm, ⟨70, _⟩ => ⟨S2x8192x64, .f32⟩
  | .hbm, ⟨71, _⟩ => ⟨S2x16384x64, .f32⟩
  | _, _ => ⟨S2x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S1024x1024 : Shape := ⟨2, ![1024, 1024]⟩
abbrev S8192x1024 : Shape := ⟨2, ![8192, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S8192x1024, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S1024x8192 : Shape := ⟨2, ![1024, 8192]⟩
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S1024x8192, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S768x1024 : Shape := ⟨2, ![768, 1024]⟩
abbrev S8192x768 : Shape := ⟨2, ![8192, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S8192x768, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S768x1024 : Shape := ⟨2, ![768, 1024]⟩
abbrev S1024x768 : Shape := ⟨2, ![1024, 768]⟩
abbrev S8192x768 : Shape := ⟨2, ![8192, 768]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S8192x1024, .f32⟩
  | .hbm, ⟨3, _⟩ => ⟨S768x1024, .f32⟩
  | .hbm, ⟨4, _⟩ => ⟨S1024x768, .f32⟩
  | .hbm, ⟨5, _⟩ => ⟨S8192x768, .f32⟩
  | .hbm, ⟨6, _⟩ => ⟨S8192x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S1536x1024 : Shape := ⟨2, ![1536, 1024]⟩
abbrev S8192x1536 : Shape := ⟨2, ![8192, 1536]⟩
abbrev S8192x1024 : Shape := ⟨2, ![8192, 1024]⟩
abbrev S2048x768 : Shape := ⟨2, ![2048, 768]⟩
abbrev S768x1024 : Shape := ⟨2, ![768, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1536x1024, .bf16⟩
  | .hbm, ⟨1, _⟩ => ⟨S8192x1536, .bf16⟩
  | .hbm, ⟨2, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1536x1024 : Shape := ⟨2, ![1536, 1024]⟩
abbrev S8192x1536 : Shape := ⟨2, ![8192, 1536]⟩
abbrev S_ : Shape := ⟨0, ![]⟩
abbrev S8192x1024 : Shape := ⟨2, ![8192, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S8192x1536, .bf16⟩
  | .hbm, ⟨2, _⟩ => ⟨S_, .f32⟩
  | .hbm, ⟨3, _⟩ => ⟨S8192x1024, .f32⟩
  | .hbm, ⟨4, _⟩ => ⟨S1536x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S8192x1024, .f32⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S1024x8192 : Shape := ⟨2, ![1024, 8192]⟩
abbrev S8192x768 : Shape := ⟨2, ![8192, 768]⟩
abbrev S1024x768 : Shape := ⟨2, ![1024, 768]⟩
abbrev S1024x4096 : Shape := ⟨2, ![1024, 4096]⟩
abbrev S4096x768 : Shape := ⟨2, ![4096, 768]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x768, .bf16⟩
  | .hbm, ⟨2, _⟩ => ⟨S1024x768, .bf16⟩
  | .local _ .vmem, ⟨0, _⟩ => ⟨S1024x4096, .bf16⟩
  | .local _ .vmem, ⟨1, _⟩ => ⟨S1024x4096, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S1024x8192 : Shape := ⟨2, ![1024, 8192]⟩
abbrev S8192x768 : Shape := ⟨2, ![8192, 768]⟩
abbrev S_ : Shape := ⟨0, ![]⟩
abbrev S1024x768 : Shape := ⟨2, ![1024, 768]⟩
abbrev S8192x1024 : Shape := ⟨2, ![8192, 1024]⟩
abbrev S768x1024 : Shape := ⟨2, ![768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S1024x8192, .f32⟩
  | .hbm, ⟨5, _⟩ => ⟨S8192x1024, .f32⟩
  | .hbm, ⟨6, _⟩ => ⟨S8192x768, .f32⟩
  | .hbm, ⟨7, _⟩ => ⟨S8192x768, .f32⟩
  | .hbm, ⟨8, _⟩ => ⟨S768x1024, .f32⟩
  | .hbm, ⟨9, _⟩ => ⟨S1024x768, .f32⟩
  | .hbm, ⟨10, _⟩ => ⟨S1024x768, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4x2x22144x128 : Shape := ⟨4, ![4, 2, 22144, 128]⟩
abbrev S4x22144x128 : Shape := ⟨3, ![4, 22144, 128]⟩
abbrev S4 : Shape := ⟨1, ![4]⟩
abbrev S1 : Shape := ⟨1, ![1]⟩
abbrev S_ : Shape := ⟨0, ![]⟩
abbrev S1x22144x128 : Shape := ⟨3, ![1, 22144, 128]⟩
abbrev S22144x128 : Shape := ⟨2, ![22144, 128]⟩
abbrev S1x1x22144x128 : Shape := ⟨4, ![1, 1, 22144, 128]⟩

abbrev nBuf : Space → Nat
  | .hbm => 2
  | .vmem => 0
  | .smem => 0
  | _ => 0

abbrev bufTy : (tb : Table) → Fin (tcTables nBuf tb) → BufTy
  | .hbm, ⟨0, _⟩ => ⟨S4x2x22144x128, .bf16⟩
  | .hbm, ⟨1, _⟩ => ⟨S4x22144x128, .bf16⟩
  | _, _ => ⟨S4x2x22144x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_15 : BitVec 32 := 0#32
  let c0_i32_16 : BitVec 32 := 0#32
  ![0, v3.toNat, 0, 0]
def k0_dev1 (d0 : Dev nD) : Nat :=
  let c0_i32_12 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_11 : BitVec 32 := 1#32
  let v11 : BitVec 32 := Scalar.muli v4 c1_i32_11
  let v12 : BitVec 32 := Scalar.addi c0_i32_12 v11
  v12.toNat
def k0_off2 (d0 : Dev nD) : Fin 4 → Nat :=
  let c1_i32_17 : BitVec 32 := 1#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v5 : BitVec 32 := Scalar.subi c1_i32_2 v2
  let c0_i32_25 : BitVec 32 := 0#32
  let c0_i32_26 : BitVec 32 := 0#32
  ![1, v5.toNat, 0, 0]
def k0_dev2 (d0 : Dev nD) : Nat :=
  let c0_i32_22 : BitVec 32 := 0#32
  let c1_i32_3 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_3 v2
  let c1_i32_21 : BitVec 32 := 1#32
  let v21 : BitVec 32 := Scalar.muli v6 c1_i32_21
  let v22 : BitVec 32 := Scalar.addi c0_i32_22 v21
  v22.toNat
def k0_off3 (d0 : Dev nD) : Fin 4 → Nat :=
  let c2_i32_27 : BitVec 32 := 2#32
  let c1_i32_4 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v7 : BitVec 32 := Scalar.subi c1_i32_4 v2
  let c0_i32_35 : BitVec 32 := 0#32
  let c0_i32_36 : BitVec 32 := 0#32
  ![2, v7.toNat, 0, 0]
def k0_dev3 (d0 : Dev nD) : Nat :=
  let c0_i32_32 : BitVec 32 := 0#32
  let c1_i32_5 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v8 : BitVec 32 := Scalar.subi c1_i32_5 v2
  let c1_i32_31 : BitVec 32 := 1#32
  let v31 : BitVec 32 := Scalar.muli v8 c1_i32_31
  let v32 : BitVec 32 := Scalar.addi c0_i32_32 v31
  v32.toNat
def k0_off4 (d0 : Dev nD) : Fin 4 → Nat :=
  let c3_i32 : BitVec 32 := 3#32
  let c1_i32_6 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v9 : BitVec 32 := Scalar.subi c1_i32_6 v2
  let c0_i32_44 : BitVec 32 := 0#32
  let c0_i32_45 : BitVec 32 := 0#32
  ![3, v9.toNat, 0, 0]
def k0_dev4 (d0 : Dev nD) : Nat :=
  let c0_i32_41 : BitVec 32 := 0#32
  let c1_i32_7 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v10 : BitVec 32 := Scalar.subi c1_i32_7 v2
  let c1_i32_40 : BitVec 32 := 1#32
  let v41 : BitVec 32 := Scalar.muli v10 c1_i32_40
  let v42 : BitVec 32 := Scalar.addi c0_i32_41 v41
  v42.toNat
-- ==== Reference14.lean ====
abbrev S8x2x22144x128 : Shape := ⟨4, ![8, 2, 22144, 128]⟩
abbrev S4x1x22144x128 : Shape := ⟨4, ![4, 1, 22144, 128]⟩
abbrev S4x22144x128 : Shape := ⟨3, ![4, 22144, 128]⟩
abbrev S8x22144x128 : Shape := ⟨3, ![8, 22144, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x2x22144x128, .bf16⟩
  | .hbm, ⟨1, _⟩ => ⟨S4x1x22144x128, .bf16⟩
  | .hbm, ⟨2, _⟩ => ⟨S4x22144x128, .bf16⟩
  | .hbm, ⟨3, _⟩ => ⟨S4x1x22144x128, .bf16⟩
  | .hbm, ⟨4, _⟩ => ⟨S4x22144x128, .bf16⟩
  | .hbm, ⟨5, _⟩ => ⟨S8x22144x128, .bf16⟩
  | _, _ => ⟨S8x2x22144x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Swap.Slots.lean ====
/-
# The slots of the exchange between two siblings

Device `c` of a pair holds four units, each with a half for either device. The kernel copies, for each unit, the half of
the other device straight into the other device's result. Here: the four slots of the result as parts of it, the halves
as parts of the argument, and what one copy leaves in a slot.
-/
module

public import proofs.«01_k».proof.Proof.Gen.Kernel14Ideal
public import proofs.«01_k».proof.Proof.Gen.Kernel14Ideal.Skeleton
public import proofs.«01_k».proof.Proof.Gen.Kernel14Ideal.Launch
public import Idealize.ShloMosaic.Lib.ValueLayout
public import Idealize.ShloMosaic.Lib.ValueIdxCore

@[expose] public section

noncomputable section

namespace Cert.SwapProof

open Cert.Kernel14Ideal Cert.Kernel14Ideal.Gen

open Idealize.ShloMosaic
open Idealize.ShloMosaic.ValueIdx
open Idealize.ShloMosaic.TcCoe

variable {F : FTy → Type}

/-- The other device of the pair. -/
def peer (c : Dev nD) : Dev nD := ⟨1 - c.val, by have h : c.val < 2 := c.isLt; show 1 - c.val < 2; omega⟩

theorem peer_peer (c : Dev nD) : peer (peer c) = c :=
  Fin.ext (by have h : c.val < 2 := c.isLt; show 1 - (1 - c.val) = c.val; omega)

/-- The pair's exchange as a permutation of its devices. -/
def sibling : Dev nD ≃ Dev nD := ⟨peer, peer, peer_peer, peer_peer⟩

theorem inb_out (k : Fin 4) : ∀ a, (![k.val, 0, 0] : Fin 3 → Nat) a + S1x22144x128.size a ≤ S4x22144x128.size a := by
  intro a; have := k.isLt
  fin_cases a
  · show k.val + 1 ≤ 4; omega
  · show 0 + 22144 ≤ 22144; omega
  · show 0 + 128 ≤ 128; omega

/-- Slot `k` of the result. -/
abbrev outM (k : Fin 4) : Memref sig .tc .hbm S22144x128 .bf16 :=
  ((Memref.whole main_v1).slice (Rect.unit (s := S4x22144x128) ![k.val, 0, 0] S1x22144x128.size (inb_out k)) (fun _ => rfl)).squeeze
    S22144x128 squeezes_S1x22144x128_S22144x128

/-- The half of the argument at the offset `off`. -/
abbrev srcM (off : Fin 4 → Nat) (h : ∀ a, off a + S1x1x22144x128.size a ≤ S4x2x22144x128.size a) : Memref sig .tc .hbm S22144x128 .bf16 :=
  ((Memref.whole main_arg0).slice (Rect.unit (s := S4x2x22144x128) off S1x1x22144x128.size h) (fun _ => rfl)).squeeze
    S22144x128 squeezes_S1x1x22144x128_S22144x128

/-- The place in the result of the entry `x` of slot `k`. -/
def outIx (k : Fin 4) (x : S22144x128.Idx) : S4x22144x128.Idx := ix3 k (x 0) (x 1)

theorem outM_emb (k : Fin 4) (x : S22144x128.Idx) : (outM k).view.emb x = outIx k x := by
  have hx : x = ix2 (x 0) (x 1) := funext fun a => by fin_cases a <;> rfl
  have hr : Shape.reshapeEquiv (Shape.Squeezes.numel_eq squeezes_S1x22144x128_S22144x128) x = ix3 (0 : Fin 1) (x 0) (x 1) := by
    conv_lhs => rw [hx]
    exact reshapeEquiv_ix2_1ab _ _ _
  show (Rect.unit (s := S4x22144x128) ![k.val, 0, 0] S1x22144x128.size (inb_out k)).emb
    (Shape.reshapeEquiv (Shape.Squeezes.numel_eq squeezes_S1x22144x128_S22144x128) x) = outIx k x
  rw [hr]
  funext a
  apply Fin.ext
  fin_cases a
  · show k.val + 1 * 0 = k.val; omega
  · show 0 + 1 * (x 0).val = (x 0).val; omega
  · show 0 + 1 * (x 1).val = (x 1).val; omega

/-- The place in the argument of the entry `x` of unit `k`'s half `j`. -/
def srcIx (k : Fin 4) (j : Dev nD) (x : S22144x128.Idx) : S4x2x22144x128.Idx := ix4 k j (x 0) (x 1)

theorem srcM_emb (k : Fin 4) (j : Dev nD) (off : Fin 4 → Nat) (h) (hoff : off = ![k.val, j.val, 0, 0]) (x : S22144x128.Idx) :
    (srcM off h).view.emb x = srcIx k j x := by
  have hx : x = ix2 (x 0) (x 1) := funext fun a => by fin_cases a <;> rfl
  have hr : Shape.reshapeEquiv (Shape.Squeezes.numel_eq squeezes_S1x1x22144x128_S22144x128) x = ix4 (0 : Fin 1) (0 : Fin 1) (x 0) (x 1) := by
    conv_lhs => rw [hx]
    exact reshapeEquiv_ix2_11ab _ _ _
  subst hoff
  show (Rect.unit (s := S4x2x22144x128) ![k.val, j.val, 0, 0] S1x1x22144x128.size h).emb
    (Shape.reshapeEquiv (Shape.Squeezes.numel_eq squeezes_S1x1x22144x128_S22144x128) x) = srcIx k j x
  rw [hr]
  funext a
  apply Fin.ext
  fin_cases a
  · show k.val + 1 * 0 = k.val; omega
  · show j.val + 1 * 0 = j.val; omega
  · show 0 + 1 * (x 0).val = (x 0).val; omega
  · show 0 + 1 * (x 1).val = (x 1).val; omega

theorem mem_outM (k : Fin 4) (i : S4x22144x128.Idx) : i ∈ (outM k).view.set ↔ i 0 = k := by
  constructor
  · intro hi
    obtain ⟨x, -, rfl⟩ := Finset.mem_map.mp hi
    rw [outM_emb]; rfl
  · intro hi
    have : (outM k).view.emb (ix2 (i 1) (i 2)) = i := by
      rw [outM_emb]; subst hi
      funext a; fin_cases a <;> rfl
    rw [← this]; exact View.emb_mem_set _ _

theorem outM_disjoint (k k' : Fin 4) (h : k ≠ k') : Disjoint (outM k).view.set (outM k').view.set :=
  Finset.disjoint_left.mpr fun i hi hi' => h (((mem_outM k i).mp hi).symm.trans ((mem_outM k' i).mp hi'))

variable (m : (ℓ : Loc nD τ sig) → Buf (Elt F) ℓ)

/-- The argument of device `c`. -/
abbrev argAt (c : Dev nD) : S4x2x22144x128.Idx → Elt F .bf16 := m ((c : Thread nD τ).loc main_arg0)

/-- What device `c` ends with: of every unit of its sibling's argument, `c`'s half. -/
def landed (c : Dev nD) : S4x22144x128.Idx → Elt F .bf16 := fun i => argAt m (peer c) (ix4 (i 0) c (i 1) (i 2))

/-- A copy of unit `k`'s half for the sibling leaves in the sibling's slot `k` what the sibling is to end with there. -/
theorem landed_eq (c : Dev nD) (k : Fin 4) (off : Fin 4 → Nat) (h) (hoff : off = ![k.val, 1 - c.val, 0, 0])
    (fd : S4x22144x128.Idx → Elt F .bf16) (i : S4x22144x128.Idx) (hi : i ∈ (outM k).view.set) :
    (outM k).view.write (Elt F) fd ((srcM off h).view.read (Elt F) (argAt m c)) Finset.univ i = landed m (peer c) i := by
  obtain ⟨x, -, rfl⟩ := Finset.mem_map.mp hi
  refine (View.write_emb_of_mem _ _ (Finset.mem_univ x)).trans ?_
  show (srcM off h).view.read (Elt F) (argAt m c) x = _
  show argAt m c ((srcM off h).view.emb x) = _
  rw [srcM_emb k (peer c) off h hoff, outM_emb]
  unfold landed
  rw [peer_peer]
  rfl

end Cert.SwapProof

end
-- ==== Proof.Swap.Sched.lean ====
/-
# The schedule of the exchange between two siblings

Every device has four send semaphores and four receive semaphores, one of each for every slot, and each of the eight
fires once. A receive semaphore hands its device the slot as the sibling wrote it; a send semaphore hands back nothing.
-/
module

public import proofs.«01_k».proof.Proof.Swap.Slots
public import Idealize.ShloMosaic.Lib.Pipeline.Launch
public import Idealize.ShloMosaic.Lib.Pipeline.Kit
public import Idealize.ShloMosaic.Lib.Tactic

@[expose] public section

noncomputable section

namespace Cert.SwapProof

open Cert.Kernel14Ideal Cert.Kernel14Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ)

/-! ## The semaphores -/

theorem inb_sem (k : Fin 4) : ∀ a, (![k.val] : Fin 1 → Nat) a + S1.size a ≤ S4.size a := by
  intro a; have := k.isLt
  fin_cases a
  show k.val + 1 ≤ 4; omega

/-- The semaphore that fires when slot `k`'s copy has left. -/
def sS (k : Fin 4) : DmaSem sig := ⟨k.val, by have := k.isLt; show k.val < 8; omega⟩
/-- The semaphore that fires when slot `k` has been written. -/
def rS (k : Fin 4) : DmaSem sig := ⟨4 + k.val, by have := k.isLt; show 4 + k.val < 8; omega⟩

theorem sS_eq (k : Fin 4) : ((cc0_scratch0.slice (Rect.unit (s := S4) ![k.val] S1.size (inb_sem k))).squeeze S_ squeezes_S1_S_).sem = sS k := by
  fin_cases k <;> rfl
theorem rS_eq (k : Fin 4) : ((cc0_scratch1.slice (Rect.unit (s := S4) ![k.val] S1.size (inb_sem k))).squeeze S_ squeezes_S1_S_).sem = rS k := by
  fin_cases k <;> rfl

/-- The kernel's semaphores: a receive or a send, and its slot. -/
def osem (j : Bool × Fin 4) : SemLoc sig := match j with
  | (true, k) => .dma (rS k)
  | (false, k) => .dma (sS k)

theorem ownSemFacts : Pipeline.OwnSemFacts cfg0.spec osem := by decide
theorem osem_injective : Function.Injective osem := by decide

abbrev kcell (ck : Dev nD × Bool × Fin 4) : GSem nD τ sig := ((ck.1 : Thread nD τ), osem ck.2)
abbrev sCell (c : Dev nD) (k : Fin 4) : GSem nD τ sig := ((c : Thread nD τ), .dma (sS k))
abbrev rCell (c : Dev nD) (k : Fin 4) : GSem nD τ sig := ((c : Thread nD τ), .dma (rS k))

theorem kcell_injective : Function.Injective kcell := by
  rintro ⟨c, j⟩ ⟨c', j'⟩ h
  have h1 : c = c' := congrArg (fun g : GSem nD τ sig => g.1.1) h
  have h2 : j = j' := osem_injective (congrArg Prod.snd h)
  subst h1; subst h2; rfl

/-- What a semaphore stands for: the slot of a receive semaphore, nothing for the others. -/
def slotOf (s : SemLoc sig) : Option (Fin 4) := if s = .dma (rS 0) then some 0 else if s = .dma (rS 1) then some 1
  else if s = .dma (rS 2) then some 2 else if s = .dma (rS 3) then some 3 else none

theorem slotOf_r (k : Fin 4) : slotOf (.dma (rS k)) = some k := by revert k; decide
theorem slotOf_s (k : Fin 4) : slotOf (.dma (sS k)) = none := by revert k; decide

/-- What one slot's copy is worth on its semaphores. -/
@[irreducible] def N : ℕ := (outM 0).view.dmaCredit
theorem numel_pos : 0 < S22144x128.numel := by
  show 0 < ∏ x, (![22144, 128] : Fin 2 → ℕ) x
  rw [Fin.prod_univ_two]; exact Nat.mul_pos (Nat.succ_pos 22143) (Nat.succ_pos 127)
theorem N_pos : 0 < N := by unfold N; exact View.dmaCredit_pos _ numel_pos
theorem credit_eq (k : Fin 4) (q : DmaSem sig) : (outM k).view.amount (.dma q) = N := by unfold N; rfl

/-! ## What is exchanged -/

/-- Slot `k` of device `c`'s result at the contents `f`. -/
def slotPts (c : Dev nD) (k : Fin 4) (f : S4x22144x128.Idx → Elt F .bf16) : sProp 𝕄 :=
  (outM k).view.loc (c : Thread nD τ) ↦[(outM k).view.set]{fullShare} f

omit [FloatOps F] in
instance slotPts_storable (c : Dev nD) (k : Fin 4) (f) : BI.Storable (upEmb : UEmb _ 𝕄) (slotPts (F := F) c k f) := by
  unfold slotPts; infer_instance

/-- What a semaphore hands its device. -/
def handed (g : GSem nD τ sig) : sProp 𝕄 := match slotOf g.2 with
  | some k => slotPts g.1.1 k (landed m g.1.1)
  | none => iprop(emp)

/-- Each of the kernel's semaphores fires once. -/
def Rd : Rounds.Schedule (GSem nD τ sig) Unit 𝕄 where
  duties g r := if r = 0 ∧ g.1.2 = .tc then {()} else ∅
  unitless _ := False
  amount _ _ _ := N
  payload g _ _ := handed m g
  amount_pos _ _ _ _ := N_pos

omit [FloatOps F] in
instance Rd_payload_storable (g : GSem nD τ sig) (r : ℕ) (d : Unit) : BI.Storable (upEmb : UEmb _ 𝕄) ((Rd (F := F) m).payload g r d) := by
  show BI.Storable upEmb (handed m g)
  unfold handed
  split <;> infer_instance

section Sched
variable (c : Dev nD) (s : SemLoc sig)

omit [FloatOps F] in
theorem duties_zero : (Rd (F := F) m).duties ((c : Thread nD τ), s) 0 = {()} := by dsimp only [Rd]; exact if_pos ⟨rfl, rfl⟩
omit [FloatOps F] in
theorem duties_later (g : GSem nD τ sig) : ∀ r, 1 ≤ r → (Rd (F := F) m).duties g r = ∅ :=
  fun r hr => by dsimp only [Rd]; exact if_neg fun h => by omega
omit [FloatOps F] in
theorem amount_eq (g : GSem nD τ sig) (r : ℕ) (u : Unit) : (Rd (F := F) m).amount g r u = N := rfl
omit [FloatOps F] in
theorem expect_zero : (Rd (F := F) m).expect ((c : Thread nD τ), s) 0 = N := by
  rw [Schedule.expect, Schedule.amountOf, duties_zero, Finset.sum_singleton, amount_eq]
omit [FloatOps F] in
theorem payload_r (k : Fin 4) (u : Unit) : (Rd (F := F) m).payload (rCell c k) 0 u = slotPts c k (landed m c) := by
  show handed m (rCell c k) = _
  unfold handed; rw [slotOf_r]
omit [FloatOps F] in
theorem payload_s (k : Fin 4) (u : Unit) : (Rd (F := F) m).payload (sCell c k) 0 u = iprop(emp) := by
  show handed m (sCell c k) = _
  unfold handed; rw [slotOf_s]
omit [FloatOps F] in
theorem rest_r (k : Fin 4) : bigSep ((Rd (F := F) m).duties (rCell c k) 0 \ ∅) (fun u => (Rd (F := F) m).payload (rCell c k) 0 u) = slotPts c k (landed m c) := by
  rw [Finset.sdiff_empty, duties_zero, bigSep_singleton, payload_r]

end Sched

/-! ## What a device owes -/

/-- Each device owes its sibling's receive semaphores the four copies. -/
def O₀ (c : Dev nD) : CellTallies nD τ sig Unit :=
  0 + tallyAt (rCell (peer c) 3) () N + tallyAt (rCell (peer c) 2) () N + tallyAt (rCell (peer c) 1) () N + tallyAt (rCell (peer c) 0) () N

/-! ## One copy -/

/-- Device `c`'s argument, whole, with the share `q`. -/
def argPts (c : Dev nD) (q : PosShare TreeShare) : sProp 𝕄 := ((c : Thread nD τ).loc main_arg0) ↦{q} argAt m c

variable (K : Dev nD × Bool × Fin 4 → ℕ)

omit [FloatOps F] in
/-- A copy that lands in slot `k` leaves there what the sibling is to end with. -/
theorem slot_written (c : Dev nD) (k : Fin 4) (off : Fin 4 → Nat) (h) (hoff : off = ![k.val, 1 - c.val, 0, 0])
    (fd : S4x22144x128.Idx → Elt F .bf16) :
    ((outM k).view.loc (peer c : Thread nD τ) ↦[(outM k).view.set]{fullShare}
        ((outM k).view.write (Elt F) fd ((srcM off h).view.read (Elt F) (argAt m c)) Finset.univ) : sProp 𝕄)
      ⊢ (Rd (F := F) m).payload (rCell (peer c) k) 0 () := by
  rw [payload_r]
  exact Entails.of_eq (pointsTo_congr (landed_eq m c k off h hoff fd))

omit [FloatOps F] in
theorem arg_part (c : Dev nD) (q : PosShare TreeShare) (off : Fin 4 → Nat) (h) :
    (argPts m c q : sProp 𝕄) ⊢ ((srcM off h).view.loc (c : Thread nD τ) ↦[(srcM off h).view.set]{q} argAt m c) := by
  refine ((pointsTo_split_subset (Finset.subset_univ (srcM off h).view.set)).1).trans ?_
  iintro ⟨H, -⟩; iexact H

/-- A copy between two buffers that fires one of `c`'s send semaphores and one of its sibling's receive semaphores. -/
theorem wp_send_gen (c : Dev nD) (k : Fin 4) (src dst : Memref sig .tc .hbm S22144x128 .bf16) (κ₁ κ₂ : ℕ)
    (hN : dst.view.amount (.dma (rS k)) = N)
    {hsc : dst.view.ref.isScScratch = false} {hsrc : src.view.WordExact} {hdst : dst.view.WordExact}
    {hsem : DmaTarget.Typed .hbm (.dma (rS k)) (.remote (peer c : Thread nD τ) dst (.dma (sS k)) hsc)}
    {α : Type} {Q : α → sProp 𝕄} {kt : PUnit → Prog (TpuEff nD τ sig (Elt F) Λ₀ .tc) α}
    (q : PosShare TreeShare) (fs : Buf (Elt F) (src.view.loc (c : Thread nD τ))) (fd : Buf (Elt F) (dst.view.loc (peer c : Thread nD τ)))
    (hpay : (dst.view.loc (peer c : Thread nD τ) ↦[dst.view.set]{fullShare} (dst.view.write (Elt F) fd (src.view.read (Elt F) fs) Finset.univ) : sProp 𝕄)
      ⊢ (Rd (F := F) m).payload (rCell (peer c) k) 0 ())
    (O : CellTallies nD τ sig Unit) (W : Waits sig Unit) :
    iprop(cellInv ER (Rd m) κ₁ (sCell c k) ∗ cellInv ER (Rd m) κ₂ (rCell (peer c) k)
        ∗ (src.view.loc (c : Thread nD τ) ↦[src.view.set]{q} fs) ∗ (dst.view.loc (peer c : Thread nD τ) ↦[dst.view.set]{fullShare} fd)
        ∗ owes (c : Thread nD τ) (O + tallyAt (rCell (peer c) k) () N) W
        ∗ dutyTok ER (sCell c k) 0 () ∗ reached ER (sCell c k) 0 ∗ dutyTok ER (rCell (peer c) k) 0 () ∗ reached ER (rCell (peer c) k) 0)
      ⊢ iprop(((cred (tallyAt (sCell c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (peer c : Thread nD τ) dst (.dma (sS k)) hsc) (.dma (rS k)) hsrc hdst hsem) kt) Q) :=
  Rounds.wp_send_pointsTo 𝒱₀ ER (Rd m) (c : Thread nD τ) none (c' := (peer c : Thread nD τ)) (κ₁ := κ₁) (κ₂ := κ₂)
    (r₁ := 0) (r₂ := 0) (d₁ := ()) (d₂ := ()) (fd := fd)
    (by rw [duties_zero]; exact Finset.mem_singleton_self _) (by rw [duties_zero]; exact Finset.mem_singleton_self _)
    () () N hN (amount_eq m _ _ _) (amount_eq m _ _ _) O rfl (W := W)
    (by rw [payload_s]; iintro -; iempintro) hpay

/-- Device `c` sends the half of unit `k` that its sibling is to have into the sibling's slot `k`. -/
theorem wp_send_slot (c n : Dev nD) (k : Fin 4) (hn : n = peer c) (off : Fin 4 → Nat) (h : ∀ a, off a + S1x1x22144x128.size a ≤ S4x2x22144x128.size a)
    (hoff : off = ![k.val, 1 - c.val, 0, 0])
    {hsc : (outM k : Memref sig (Dev.tc n : Thread nD τ).2.kind .hbm S22144x128 .bf16).view.ref.isScScratch = false}
    {hsrc : (srcM off h).view.WordExact} {hdst : (outM k).view.WordExact}
    {hsem : DmaTarget.Typed .hbm (.dma (rS k)) (.remote (Dev.tc n : Thread nD τ) (outM k) (.dma (sS k)) hsc)}
    {α : Type} {Q : α → sProp 𝕄} {kt : PUnit → Prog (TpuEff nD τ sig (Elt F) Λ₀ .tc) α}
    (q : PosShare TreeShare) (fn : S4x22144x128.Idx → Elt F .bf16) (O : CellTallies nD τ sig Unit) (W : Waits sig Unit) :
    iprop(cellInv ER (Rd m) (K (c, false, k)) (sCell c k) ∗ cellInv ER (Rd m) (K (peer c, true, k)) (rCell (peer c) k)
        ∗ argPts m c q ∗ slotPts (peer c) k fn ∗ owes (c : Thread nD τ) (O + tallyAt (rCell (peer c) k) () N) W
        ∗ dutyTok ER (sCell c k) 0 () ∗ reached ER (sCell c k) 0 ∗ dutyTok ER (rCell (peer c) k) 0 () ∗ reached ER (rCell (peer c) k) 0)
      ⊢ iprop(((cred (tallyAt (sCell c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (srcM off h) (.remote (Dev.tc n : Thread nD τ) (outM k) (.dma (sS k)) hsc) (.dma (rS k)) hsrc hdst hsem) kt) Q) := by
  subst hn
  refine (sep_mono_right (sep_mono_right (sep_mono_left (arg_part m c q off h)))).trans ?_
  exact wp_send_gen m c k (srcM off h) (outM k) _ _ (credit_eq k (rS k)) q (argAt m c) fn (slot_written m c k off h hoff fn) O W

end Cert.SwapProof

end
-- ==== Proof.Swap.Body.lean ====
/-
# One device's run of the exchange

The device sends its four copies and then waits for each of its eight semaphores: it ends with its own four slots
written, and with its semaphores back at zero.
-/
module

public import proofs.«01_k».proof.Proof.Swap.Sched

@[expose] public section

noncomputable section

namespace Cert.SwapProof

open Cert.Kernel14Ideal Cert.Kernel14Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

variable (K : Dev nD × Bool × Fin 4 → ℕ)

/-- What is known of slot `k`'s semaphores. -/
def known (c : Dev nD) (k : Fin 4) : sProp 𝕄 :=
  iprop(cellInv ER (Rd m) (K (c, false, k)) (sCell c k) ∗ cellInv ER (Rd m) (K (c, true, k)) (rCell c k)
    ∗ cellInv ER (Rd m) (K (peer c, true, k)) (rCell (peer c) k)
    ∗ reached ER (sCell c k) 0 ∗ reached ER (rCell (peer c) k) 0)

instance known_persistent (c : Dev nD) (k : Fin 4) : BI.Persistent (known m K c k) := by unfold known; infer_instance

/-- A quarter of the right half of a share, one for every slot. -/
def quarter (k : Fin 4) : PosShare TreeShare := match k with
  | 0 => fullShare.right.left.left
  | 1 => fullShare.right.left.right
  | 2 => fullShare.right.right.left
  | 3 => fullShare.right.right.right

/-- What device `c` brings to slot `k`: the rights to its semaphores, a share of its argument and the sibling's slot. -/
def brought (c : Dev nD) (k : Fin 4) : sProp 𝕄 :=
  iprop(atPos ER (sCell c k) 0 ∅ 0 ∗ atPos ER (rCell c k) 0 ∅ 0
    ∗ dutyTok ER (sCell c k) 0 () ∗ dutyTok ER (rCell (peer c) k) 0 ()
    ∗ argPts m c (quarter k) ∗ slotPts (peer c) k (m ((peer c : Thread nD τ).loc main_v1))
    ∗ cred (tallyAt (rCell c k) () N))

/-- What device `c` holds before the call, and after it. -/
def Φ₀ (c : Dev nD) : sProp 𝕄 := iprop(∃ K, (bigSep Finset.univ fun k => known m K c k) ∗ bigSep Finset.univ fun k => brought m c k)
def Φ₁ (c : Dev nD) : sProp 𝕄 :=
  iprop((bigSep Finset.univ fun k => slotPts c k (landed m c)) ∗ (bigSep Finset.univ fun k => semVal (sCell c k) 0) ∗ bigSep Finset.univ fun k => semVal (rCell c k) 0)

/-- The wait for the send of slot `k`. -/
theorem wp_wait_s (c : Dev nD) (k : Fin 4) (src dst : Memref sig .tc .hbm S22144x128 .bf16)
    (hk : dst.view.dmaCredit = N) {hsrc : src.view.WordExact} {hdst : dst.view.WordExact}
    {α : Type} {Q : α → sProp 𝕄} {kt : PUnit → Prog (TpuEff nD τ sig (Elt F) Λ₀ .tc) α} (W : Waits sig Unit) :
    iprop(known m K c k ∗ cred (tallyAt (sCell c k) () N) ∗ owes (c : Thread nD τ) 0 W ∗ atPos ER (sCell c k) 0 ∅ 0)
      ⊢ iprop(((owes (c : Thread nD τ) 0 (insert (SemLoc.dma (sS k), ()) W) ∗ semVal (sCell c k) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sS k) src dst hsrc hdst) kt) Q) := by
  unfold known
  iintro ⟨⟨#HI, -, -, -, -⟩, Hc, HO, Hat⟩ Hk
  iapply (Rounds.wp_wait_rest_token 𝒱₀ ER (Rd m) (c : Thread nD τ) none (κ := K (c, false, k)) (wpE_waitDma2_eq 𝒱₀ (c : Thread nD τ) none Set.univ) (Set.mem_univ _) () (O := 0) (W := W)
      (R := 0) (m := 0) (T := ∅) (by rw [Nat.zero_add, expect_zero, hk])) $$ [Hc HO Hat]
  · isplitr; · iexact HI
    isplitl [Hc]; · rw [hk]; iexact Hc
    isplitl [HO]; · iexact HO
    isplitr; · rw [MayWait_zero]; iempintro
    iexact Hat
  iintro ⟨HO, Hat, -, -⟩
  imod (Rounds.cell_close ER (Rd m) (Set.mem_univ (K (c, false, k))) (fun h => h) (R := 0 + 1) (duties_later m (sCell c k))) $$ [Hat] with Hz
  · isplitr; · iexact HI
    iexact Hat
  iapply Hk
  isplitl [HO] <;> iassumption

/-- The wait for slot `k` to be written. -/
theorem wp_wait_r (c : Dev nD) (k : Fin 4) (src dst : Memref sig .tc .hbm S22144x128 .bf16)
    (hk : dst.view.dmaCredit = N) {hsrc : src.view.WordExact} {hdst : dst.view.WordExact}
    {α : Type} {Q : α → sProp 𝕄} {kt : PUnit → Prog (TpuEff nD τ sig (Elt F) Λ₀ .tc) α} (W : Waits sig Unit) :
    iprop(known m K c k ∗ cred (tallyAt (rCell c k) () N) ∗ owes (c : Thread nD τ) 0 W ∗ atPos ER (rCell c k) 0 ∅ 0)
      ⊢ iprop(((owes (c : Thread nD τ) 0 (insert (SemLoc.dma (rS k), ()) W) ∗ semVal (rCell c k) 0 ∗ slotPts c k (landed m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (rS k) src dst hsrc hdst) kt) Q) := by
  unfold known
  iintro ⟨⟨-, #HI, -, -, -⟩, Hc, HO, Hat⟩ Hk
  iapply (Rounds.wp_wait_rest_token 𝒱₀ ER (Rd m) (c : Thread nD τ) none (κ := K (c, true, k)) (wpE_waitDma2_eq 𝒱₀ (c : Thread nD τ) none Set.univ) (Set.mem_univ _) () (O := 0) (W := W)
      (R := 0) (m := 0) (T := ∅) (by rw [Nat.zero_add, expect_zero, hk])) $$ [Hc HO Hat]
  · isplitr; · iexact HI
    isplitl [Hc]; · rw [hk]; iexact Hc
    isplitl [HO]; · iexact HO
    isplitr; · rw [MayWait_zero]; iempintro
    iexact Hat
  iintro ⟨HO, Hat, -, Hpay⟩
  ihave Hp := (Entails.of_eq (rest_r m c k)) $$ Hpay
  imod (Rounds.cell_close ER (Rd m) (Set.mem_univ (K (c, true, k))) (fun h => h) (R := 0 + 1) (duties_later m (rCell c k))) $$ [Hat] with Hz
  · isplitr; · iexact HI
    iexact Hat
  iapply Hk
  isplitl [HO]; · iexact HO
  isplitl [Hz] <;> iassumption

theorem off1 (c : Dev nD) : k0_off1 c = ![(0 : Fin 4).val, 1 - c.val, 0, 0] := k0_off1_eq c
theorem off2 (c : Dev nD) : k0_off2 c = ![(1 : Fin 4).val, 1 - c.val, 0, 0] := k0_off2_eq c
theorem off3 (c : Dev nD) : k0_off3 c = ![(2 : Fin 4).val, 1 - c.val, 0, 0] := k0_off3_eq c
theorem off4 (c : Dev nD) : k0_off4 c = ![(3 : Fin 4).val, 1 - c.val, 0, 0] := k0_off4_eq c
theorem dev1 (c : Dev nD) : (⟨k0_dev1 c, k0_dev1_lt c⟩ : Dev nD) = peer c := Fin.ext (k0_dev1_eq c)
theorem dev2 (c : Dev nD) : (⟨k0_dev2 c, k0_dev2_lt c⟩ : Dev nD) = peer c := Fin.ext (k0_dev2_eq c)
theorem dev3 (c : Dev nD) : (⟨k0_dev3 c, k0_dev3_lt c⟩ : Dev nD) = peer c := Fin.ext (k0_dev3_eq c)
theorem dev4 (c : Dev nD) : (⟨k0_dev4 c, k0_dev4_lt c⟩ : Dev nD) = peer c := Fin.ext (k0_dev4_eq c)

theorem known_send (c : Dev nD) (k : Fin 4) : known m K c k ⊢ iprop(cellInv ER (Rd m) (K (c, false, k)) (sCell c k)
    ∗ cellInv ER (Rd m) (K (peer c, true, k)) (rCell (peer c) k) ∗ reached ER (sCell c k) 0 ∗ reached ER (rCell (peer c) k) 0) := by
  unfold known
  iintro ⟨#H1, -, #H2, #H3, #H4⟩
  isplitr; · iexact H1
  isplitr; · iexact H2
  isplitr; · iexact H3
  iexact H4

theorem sem_s0 : ((cc0_scratch0.slice (Rect.unit (s := S4) ![0] S1.size inb_S4_S1_0)).squeeze S_ squeezes_S1_S_).sem = sS 0 := rfl
theorem sem_r0 : ((cc0_scratch1.slice (Rect.unit (s := S4) ![0] S1.size inb_S4_S1_0)).squeeze S_ squeezes_S1_S_).sem = rS 0 := rfl
theorem sem_s1 : ((cc0_scratch0.slice (Rect.unit (s := S4) ![1] S1.size inb_S4_S1_1)).squeeze S_ squeezes_S1_S_).sem = sS 1 := rfl
theorem sem_r1 : ((cc0_scratch1.slice (Rect.unit (s := S4) ![1] S1.size inb_S4_S1_1)).squeeze S_ squeezes_S1_S_).sem = rS 1 := rfl
theorem sem_s2 : ((cc0_scratch0.slice (Rect.unit (s := S4) ![2] S1.size inb_S4_S1_2)).squeeze S_ squeezes_S1_S_).sem = sS 2 := rfl
theorem sem_r2 : ((cc0_scratch1.slice (Rect.unit (s := S4) ![2] S1.size inb_S4_S1_2)).squeeze S_ squeezes_S1_S_).sem = rS 2 := rfl
theorem sem_s3 : ((cc0_scratch0.slice (Rect.unit (s := S4) ![3] S1.size inb_S4_S1_3)).squeeze S_ squeezes_S1_S_).sem = sS 3 := rfl
theorem sem_r3 : ((cc0_scratch1.slice (Rect.unit (s := S4) ![3] S1.size inb_S4_S1_3)).squeeze S_ squeezes_S1_S_).sem = rS 3 := rfl
theorem credit_src (off : Fin 4 → Nat) (h : ∀ a, off a + S1x1x22144x128.size a ≤ S4x2x22144x128.size a) :
    (srcM off h).view.dmaCredit = N := by unfold N; rfl
theorem credit_out (k : Fin 4) : (outM k).view.dmaCredit = N := by unfold N; rfl

set_option maxHeartbeats 1600000 in
theorem sound_body (c : Dev nD) (W : Waits sig Unit) (Kt : PUnit → sProp 𝕄) :
    iprop((bigSep Finset.univ fun k => known m K c k) ∗ (bigSep Finset.univ fun k => brought m c k) ∗ owes (c : Thread nD τ) (O₀ c) W
        ∗ ((Φ₁ m c ∗ ∃ W, owes (c : Thread nD τ) 0 W) -∗ Kt ⟨⟩))
      ⊢ wp frame (wpE (defs₀ (F := F)) 𝒱₀ c none) Set.univ
          (cc0_swap_grads (Memref.whole main_arg0) (Memref.isWhole_whole _) (Memref.whole main_v1) (Memref.isWhole_whole _) cc0_scratch0 cc0_scratch1) Kt := by
  simp only [cc0_swap_grads_eq_skeleton]; unfold cc0_swap_grads_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId, sem_s0, sem_s1, sem_s2, sem_s3, sem_r0, sem_r1, sem_r2, sem_r3]
  rw [bigSep_fin4, bigSep_fin4]
  unfold brought O₀
  iintro ⟨⟨#H0, #H1, #H2, #H3⟩, ⟨⟨Hs0, Hr0, Ht0, Hu0, Ha0, Hd0, Hc0⟩, ⟨Hs1, Hr1, Ht1, Hu1, Ha1, Hd1, Hc1⟩,
    ⟨Hs2, Hr2, Ht2, Hu2, Ha2, Hd2, Hc2⟩, ⟨Hs3, Hr3, Ht3, Hu3, Ha3, Hd3, Hc3⟩⟩, HO, Hk⟩
  ihave #HI := (known_send m K c 0) $$ H0
  icases HI with ⟨#I0, #J0, #R0, #T0⟩
  iapply (wp_send_slot m K c _ 0 (dev1 c) (k0_off1 c) (k0_off1_inb c) (off1 c) (quarter 0) (m ((peer c : Thread nD τ).loc main_v1))
      (0 + tallyAt (rCell (peer c) 3) () N + tallyAt (rCell (peer c) 2) () N + tallyAt (rCell (peer c) 1) () N) W) $$ [HO Ha0 Hd0 Ht0 Hu0]
  · isplitr; · iexact I0
    isplitr; · iexact J0
    isplitl [Ha0]; · iexact Ha0
    isplitl [Hd0]; · iexact Hd0
    isplitl [HO]; · iexact HO
    isplitl [Ht0]; · iexact Ht0
    isplitr; · iexact R0
    isplitl [Hu0]; · iexact Hu0
    iexact T0
  iintro ⟨Hb0, HO⟩
  ihave #HI := (known_send m K c 1) $$ H1
  icases HI with ⟨#I1, #J1, #R1, #T1⟩
  iapply (wp_send_slot m K c _ 1 (dev2 c) (k0_off2 c) (k0_off2_inb c) (off2 c) (quarter 1) (m ((peer c : Thread nD τ).loc main_v1))
      (0 + tallyAt (rCell (peer c) 3) () N + tallyAt (rCell (peer c) 2) () N) W) $$ [HO Ha1 Hd1 Ht1 Hu1]
  · isplitr; · iexact I1
    isplitr; · iexact J1
    isplitl [Ha1]; · iexact Ha1
    isplitl [Hd1]; · iexact Hd1
    isplitl [HO]; · iexact HO
    isplitl [Ht1]; · iexact Ht1
    isplitr; · iexact R1
    isplitl [Hu1]; · iexact Hu1
    iexact T1
  iintro ⟨Hb1, HO⟩
  ihave #HI := (known_send m K c 2) $$ H2
  icases HI with ⟨#I2, #J2, #R2, #T2⟩
  iapply (wp_send_slot m K c _ 2 (dev3 c) (k0_off3 c) (k0_off3_inb c) (off3 c) (quarter 2) (m ((peer c : Thread nD τ).loc main_v1))
      (0 + tallyAt (rCell (peer c) 3) () N) W) $$ [HO Ha2 Hd2 Ht2 Hu2]
  · isplitr; · iexact I2
    isplitr; · iexact J2
    isplitl [Ha2]; · iexact Ha2
    isplitl [Hd2]; · iexact Hd2
    isplitl [HO]; · iexact HO
    isplitl [Ht2]; · iexact Ht2
    isplitr; · iexact R2
    isplitl [Hu2]; · iexact Hu2
    iexact T2
  iintro ⟨Hb2, HO⟩
  ihave #HI := (known_send m K c 3) $$ H3
  icases HI with ⟨#I3, #J3, #R3, #T3⟩
  iapply (wp_send_slot m K c _ 3 (dev4 c) (k0_off4 c) (k0_off4_inb c) (off4 c) (quarter 3) (m ((peer c : Thread nD τ).loc main_v1))
      (0) W) $$ [HO Ha3 Hd3 Ht3 Hu3]
  · isplitr; · iexact I3
    isplitr; · iexact J3
    isplitl [Ha3]; · iexact Ha3
    isplitl [Hd3]; · iexact Hd3
    isplitl [HO]; · iexact HO
    isplitl [Ht3]; · iexact Ht3
    isplitr; · iexact R3
    isplitl [Hu3]; · iexact Hu3
    iexact T3
  iintro ⟨Hb3, HO⟩
  iapply (wp_wait_s m K c 0 (outM 0) (srcM (k0_off1 c) (k0_off1_inb c)) (credit_src _ _) _) $$ [HO Hb0 Hs0]
  · isplitr; · iexact H0
    isplitl [Hb0]; · iexact Hb0
    isplitl [HO] <;> iassumption
  iintro ⟨HO, Hs0⟩
  iapply (wp_wait_r m K c 0 (srcM (k0_off1 c) (k0_off1_inb c)) (outM 0) (credit_out 0) _) $$ [HO Hc0 Hr0]
  · isplitr; · iexact H0
    isplitl [Hc0]; · iexact Hc0
    isplitl [HO] <;> iassumption
  iintro ⟨HO, Hr0, Hd0⟩
  iapply (wp_wait_s m K c 1 (outM 1) (srcM (k0_off2 c) (k0_off2_inb c)) (credit_src _ _) _) $$ [HO Hb1 Hs1]
  · isplitr; · iexact H1
    isplitl [Hb1]; · iexact Hb1
    isplitl [HO] <;> iassumption
  iintro ⟨HO, Hs1⟩
  iapply (wp_wait_r m K c 1 (srcM (k0_off2 c) (k0_off2_inb c)) (outM 1) (credit_out 1) _) $$ [HO Hc1 Hr1]
  · isplitr; · iexact H1
    isplitl [Hc1]; · iexact Hc1
    isplitl [HO] <;> iassumption
  iintro ⟨HO, Hr1, Hd1⟩
  iapply (wp_wait_s m K c 2 (outM 2) (srcM (k0_off3 c) (k0_off3_inb c)) (credit_src _ _) _) $$ [HO Hb2 Hs2]
  · isplitr; · iexact H2
    isplitl [Hb2]; · iexact Hb2
    isplitl [HO] <;> iassumption
  iintro ⟨HO, Hs2⟩
  iapply (wp_wait_r m K c 2 (srcM (k0_off3 c) (k0_off3_inb c)) (outM 2) (credit_out 2) _) $$ [HO Hc2 Hr2]
  · isplitr; · iexact H2
    isplitl [Hc2]; · iexact Hc2
    isplitl [HO] <;> iassumption
  iintro ⟨HO, Hr2, Hd2⟩
  iapply (wp_wait_s m K c 3 (outM 3) (srcM (k0_off4 c) (k0_off4_inb c)) (credit_src _ _) _) $$ [HO Hb3 Hs3]
  · isplitr; · iexact H3
    isplitl [Hb3]; · iexact Hb3
    isplitl [HO] <;> iassumption
  iintro ⟨HO, Hs3⟩
  iapply (wp_wait_r m K c 3 (srcM (k0_off4 c) (k0_off4_inb c)) (outM 3) (credit_out 3) _) $$ [HO Hc3 Hr3]
  · isplitr; · iexact H3
    isplitl [Hc3]; · iexact Hc3
    isplitl [HO] <;> iassumption
  iintro ⟨HO, Hr3, Hd3⟩
  rw [wp_ret]; imodintro
  iapply Hk
  isplitr [HO]
  · unfold Φ₁
    rw [bigSep_fin4, bigSep_fin4, bigSep_fin4]
    isplitl [Hd0 Hd1 Hd2 Hd3]
    · isplitl [Hd0]; · iexact Hd0
      isplitl [Hd1]; · iexact Hd1
      isplitl [Hd2] <;> iassumption
    isplitl [Hs0 Hs1 Hs2 Hs3]
    · isplitl [Hs0]; · iexact Hs0
      isplitl [Hs1]; · iexact Hs1
      isplitl [Hs2] <;> iassumption
    · isplitl [Hr0]; · iexact Hr0
      isplitl [Hr1]; · iexact Hr1
      isplitl [Hr2] <;> iassumption
  · iexists _; iexact HO

end Cert.SwapProof

end
-- ==== Proof.Swap.Deal.lean ====
/-
# What the two siblings are dealt before the exchange

Both devices' semaphores are put under the schedule; then each device is dealt the rights it needs, among them its
sibling's result and the right to fire its sibling's receive semaphores.
-/
module

public import proofs.«01_k».proof.Proof.Swap.Body

@[expose] public section

noncomputable section

namespace Cert.SwapProof

open Cert.Kernel14Ideal Cert.Kernel14Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The call's data -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_none (Φ : Fin cfg0.W → sProp 𝕄) : bigSep Finset.univ Φ = (BI.emp : sProp 𝕄) :=
  bigSep_univ_eq_bigSepL [] (by decide) (by decide) Φ

theorem body_obligation (c : Dev nD) : BodyObligation (dats (F := F) m 0 c) (defs₀ (F := F)) 𝒱₀ () Set.univ := fun t => by
  rw [fin_N0 t]
  rw [bigSep_none, bigSep_none]
  show iprop(Φ₀ m c ∗ (dats m 0 c).owesAt () t0_0.castSucc ∗ emp) ⊢ wp frame (wpE (defs₀ (F := F)) 𝒱₀ c none) Set.univ
    (cc0_swap_grads (Memref.whole main_arg0) (Memref.isWhole_whole _) (Memref.whole main_v1) (Memref.isWhole_whole _) cc0_scratch0 cc0_scratch1)
    (fun _ => iprop(Φ₁ m c ∗ (dats m 0 c).owesAt () t0_0.succ ∗ emp))
  unfold Φ₀ Dat.owesAt Pipeline.owesWithin
  rw [show (dats m 0 c).owed t0_0.castSucc = O₀ c from rfl, show (dats m 0 c).owed t0_0.succ = 0 from rfl]
  iintro ⟨⟨%K, HK, HB⟩, ⟨%W, -, HO⟩, -⟩
  iapply (sound_body m K c W _)
  isplitl [HK]; · iexact HK
  isplitl [HB]; · iexact HB
  isplitl [HO]; · iexact HO
  iintro ⟨H1, ⟨%W', HO⟩⟩
  isplitl [H1]; · iexact H1
  isplitl [HO]
  · iexists W'
    isplitr; · ipureintro; exact fun _ _ => Or.inl trivial
    iexact HO
  · iempintro

/-! ## The semaphores put under the schedule -/

def ringCells : Finset (GSem nD τ sig) := Finset.univ.map ⟨kcell, kcell_injective⟩
def ringToks : Finset (GSem nD τ sig × ℕ × Unit) :=
  Finset.univ.map ⟨fun ck : Dev nD × Bool × Fin 4 => (kcell ck, 0, ()), fun _ _ h => kcell_injective (congrArg Prod.fst h)⟩

def u₀ : UU := (initOf (Pipeline.cells cfgs cellOf_inj) (Pipeline.launchToks cfgs cellOf_inj), initOf ringCells ringToks)

/-- The schedule's own state for device `c`. -/
def G (c : Dev nD) : sProp 𝕄 :=
  iprop((bigSep Finset.univ fun j : Bool × Fin 4 => roundState ER (Rd m) (kcell (c, j)) 0)
    ∗ (bigSep Finset.univ fun j : Bool × Fin 4 => atPos ER (kcell (c, j)) 0 ∅ 0)
    ∗ (bigSep Finset.univ fun j : Bool × Fin 4 => reached ER (kcell (c, j)) 0)
    ∗ bigSep Finset.univ fun j : Bool × Fin 4 => dutyTok ER (kcell (c, j)) 0 ())

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Bool × Fin 4 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Bool × Fin 4 => dutyTok ER (kcell (c, j)) 0 () := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Bool × Fin 4 => semVal (kcell (c, j)) 0 := rfl

omit [FloatOps F] in
theorem core_alloc (c : Dev nD) :
    iprop((bigSep Finset.univ fun j : Bool × Fin 4 => semVal (kcell (c, j)) 0) ∗ bigSep Finset.univ fun j : Bool × Fin 4 => roundState ER (Rd m) (kcell (c, j)) 0)
      ⊢ (|={Set.univ}=> bigSep Finset.univ fun j : Bool × Fin 4 => iprop(∃ κ : ℕ, cellInv ER (Rd m) κ (kcell (c, j))) : sProp 𝕄) := by
  rw [← bigSep_sep']
  exact (bigSep_mono fun j _ => (Rounds.body_intro ER (Rd m) (kcell (c, j))).trans inv_alloc).trans (bigSep_fupd _ _)

/-! ## The rights dealt -/

/-- The semaphores' records, of both devices. -/
def records (K : Dev nD × Bool × Fin 4 → ℕ) : sProp 𝕄 :=
  iprop((bigSep Finset.univ fun ck : Dev nD × Bool × Fin 4 => cellInv ER (Rd m) (K ck) (kcell ck))
    ∗ bigSep Finset.univ fun ck : Dev nD × Bool × Fin 4 => reached ER (kcell ck) 0)
instance records_persistent (K : Dev nD × Bool × Fin 4 → ℕ) : BI.Persistent (records m K) := by unfold records; infer_instance

omit [FloatOps F] in
theorem inv_at (K : Dev nD × Bool × Fin 4 → ℕ) (ck : Dev nD × Bool × Fin 4) :
    (bigSep Finset.univ fun ck : Dev nD × Bool × Fin 4 => (cellInv ER (Rd m) (K ck) (kcell ck) : sProp 𝕄)) ⊢ cellInv ER (Rd m) (K ck) (kcell ck) :=
  bigSep_elim (Finset.mem_univ ck)
omit [FloatOps F] in
theorem reached_at (ck : Dev nD × Bool × Fin 4) :
    (bigSep Finset.univ fun ck : Dev nD × Bool × Fin 4 => (reached ER (kcell ck) 0 : sProp 𝕄)) ⊢ reached ER (kcell ck) 0 :=
  bigSep_elim (Finset.mem_univ ck)

omit [FloatOps F] in
theorem known_of_records (K : Dev nD × Bool × Fin 4 → ℕ) (c : Dev nD) : records m K ⊢ bigSep Finset.univ fun k => known m K c k := by
  refine BI.bigSep_intro_persistent (S := Finset.univ) fun k _ => ?_
  unfold records known
  iintro ⟨#HI, #HR⟩
  isplitr; · iapply (inv_at m K (c, false, k)); iexact HI
  isplitr; · iapply (inv_at m K (c, true, k)); iexact HI
  isplitr; · iapply (inv_at m K (peer c, true, k)); iexact HI
  isplitr; · iapply (reached_at (F := F) (c, false, k)); iexact HR
  iapply (reached_at (F := F) (peer c, true, k)); iexact HR

/-- What device `c` has of its own at the start. -/
def own (c : Dev nD) : sProp 𝕄 :=
  iprop((bigSep Finset.univ fun k : Fin 4 => atPos ER (sCell c k) 0 ∅ 0) ∗ (bigSep Finset.univ fun k : Fin 4 => atPos ER (rCell c k) 0 ∅ 0)
    ∗ (bigSep Finset.univ fun k : Fin 4 => dutyTok ER (sCell c k) 0 ()) ∗ (bigSep Finset.univ fun k : Fin 4 => dutyTok ER (rCell c k) 0 ())
    ∗ (bigSep Finset.univ fun k => argPts m c (quarter k)) ∗ (bigSep Finset.univ fun k => slotPts c k (m ((c : Thread nD τ).loc main_v1)))
    ∗ bigSep Finset.univ fun k => cred (tallyAt (rCell c k) () N))

omit [FloatOps F] in
/-- Each device's slots and the rights to fire its receive semaphores go to its sibling. -/
theorem deal : (bigSep Finset.univ fun c : Dev nD => own m c) ⊢ bigSep Finset.univ fun c : Dev nD => bigSep Finset.univ fun k => brought m c k := by
  unfold own brought
  simp only [bigSep_sep']
  rw [bigSep_univ_equiv sibling (fun c : Dev nD => bigSep Finset.univ fun k : Fin 4 => (dutyTok ER (rCell c k) 0 () : sProp 𝕄)),
    bigSep_univ_equiv sibling (fun c : Dev nD => bigSep Finset.univ fun k : Fin 4 => slotPts c k (m ((c : Thread nD τ).loc main_v1)))]
  exact BI.Entails.refl _

omit [FloatOps F] in
theorem with_records {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

omit [FloatOps F] in
/-- The rights a device starts the call with, from the schedule's state and both devices' own. -/
theorem regroup :
    iprop((bigSep Finset.univ fun c : Dev nD => bigSep Finset.univ fun j : Bool × Fin 4 => iprop(∃ κ : ℕ, cellInv ER (Rd m) κ (kcell (c, j))))
        ∗ (bigSep Finset.univ fun c : Dev nD => bigSep Finset.univ fun j : Bool × Fin 4 => reached ER (kcell (c, j)) 0)
        ∗ bigSep Finset.univ fun c : Dev nD => own m c)
      ⊢ (bigSep Finset.univ (Φ₀ m) : sProp 𝕄) := by
  rw [← bigSep_univ_prod (fun ck : Dev nD × Bool × Fin 4 => iprop(∃ κ : ℕ, cellInv ER (Rd m) κ (kcell ck))),
    ← bigSep_univ_prod (fun ck : Dev nD × Bool × Fin 4 => (reached ER (kcell ck) 0 : sProp 𝕄))]
  iintro ⟨HI, #HR, Hown⟩
  ihave HK := (BI.bigSep_exists_pi Finset.univ (fun (ck : Dev nD × Bool × Fin 4) (κ : ℕ) => (cellInv ER (Rd m) κ (kcell ck) : sProp 𝕄))) $$ HI
  icases HK with ⟨%K, #HI⟩
  ihave Hd := (deal m) $$ Hown
  iapply (with_records (R := records m K) (Φ := fun c => bigSep Finset.univ fun k => brought m c k) fun c => by
    unfold Φ₀
    iintro ⟨#H, HB⟩
    iexists K
    isplitr
    · iapply (known_of_records m K c); iexact H
    · iexact HB)
  isplitr
  · unfold records; isplitl; · iexact HI
    iexact HR
  · iexact Hd

/-! ### The credit of the copies -/

omit [FloatOps F] in
theorem rCell_eq_iff {a b : Dev nD} {k k' : Fin 4} : (rCell a k = rCell b k') ↔ (a = b ∧ k = k') :=
  ⟨fun h => by
    have := kcell_injective (a₁ := (a, true, k)) (a₂ := (b, true, k')) h
    simp only [Prod.mk.injEq, true_and] at this; exact this, fun h => by rw [h.1, h.2]⟩

omit [FloatOps F] in
theorem owed_recv (d c : Dev nD) (k : Fin 4) : O₀ d (rCell c k) () = if d = peer c then N else 0 := by
  have hp : (peer d = c) ↔ d = peer c := ⟨fun h => by rw [← h, peer_peer], fun h => by rw [h, peer_peer]⟩
  unfold O₀
  simp only [Pi.add_apply, Finsupp.add_apply, tallyAt_apply, Pi.zero_apply, Finsupp.zero_apply, and_true, rCell_eq_iff]
  by_cases h : d = peer c
  · have hc : c = peer d := (hp.mpr h).symm
    rw [if_pos h]
    fin_cases k <;> simp [hc]
  · have hc : ¬ c = peer d := fun e => h (hp.mp e.symm)
    rw [if_neg h]
    simp [hc]

omit [FloatOps F] in
theorem launch_recv (c : Dev nD) (k : Fin 4) :
    tallyOn (rCell c k) (launchCredit (Pipeline.owing O₀) 0 (rCell c k)) = (tallyAt (rCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer c) fun _ => N,
    if_pos (Finset.mem_univ _)]

theorem recv_injective : Function.Injective (fun k : Fin 4 => (SemLoc.dma (rS k) : SemLoc sig)) := by decide

omit [FloatOps F] in
theorem creds (c : Dev nD) : (Pipeline.launchCred O₀ c : sProp 𝕄) ⊢ bigSep Finset.univ fun k => cred (tallyAt (rCell c k) () N) := by
  unfold Pipeline.launchCred
  refine (BI.bigSep_subset (Finset.subset_univ (Finset.univ.map ⟨fun k : Fin 4 => (SemLoc.dma (rS k) : SemLoc sig), recv_injective⟩))).trans ?_
  rw [bigSep_map]
  exact Entails.of_eq (bigSep_congr fun k _ => congrArg cred (launch_recv c k))

end Cert.SwapProof

end
-- ==== Proof.Swap.Launch.lean ====
/-
# The run of the exchange

From any memory with zero counters every execution ends, with each device's result holding its sibling's halves of the four
weight gradients, the argument unchanged and every semaphore counter zero.
-/
module

public import proofs.«01_k».proof.Proof.Swap.Deal

@[expose] public section

noncomputable section

namespace Cert.SwapProof

open Cert.Kernel14Ideal Cert.Kernel14Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two buffers, split among the four copies -/

omit [FloatOps F] in
theorem slots_eq (c : Dev nD) (f : S4x22144x128.Idx → Elt F .bf16) :
    (((c : Thread nD τ).loc main_v1) ↦{fullShare} f : sProp 𝕄) = bigSep Finset.univ fun k => slotPts c k f := by
  have hU : (Finset.univ : Finset S4x22144x128.Idx) = Finset.univ.biUnion fun k : Fin 4 => (outM k).view.set := by
    ext i
    simp only [Finset.mem_univ, Finset.mem_biUnion, true_and, true_iff]
    exact ⟨i 0, (mem_outM (i 0) i).mpr rfl⟩
  show (((c : Thread nD τ).loc main_v1) ↦[(Finset.univ : Finset S4x22144x128.Idx)]{fullShare} f : sProp 𝕄) = _
  rw [hU]
  refine (pointsTo_biUnion (ℓ := (c : Thread nD τ).loc main_v1) Finset.univ (fun k : Fin 4 => (outM k).view.set) ?_).trans ?_
  · intro k _ k' _ h
    exact outM_disjoint k k' h
  · refine bigSep_congr fun k _ => ?_
    unfold slotPts
    rfl

omit [FloatOps F] in
theorem arg_halves (c : Dev nD) (q : PosShare TreeShare) : argPts m c q ⊢ iprop(argPts m c q.left ∗ argPts m c q.right) :=
  (pointsTo_share (PosShare.mem_left_op_right q)).1

omit [FloatOps F] in
theorem arg_quarters (c : Dev nD) :
    argPts m c fullShare ⊢ iprop(argPts m c fullShare.left ∗ bigSep Finset.univ fun k => argPts m c (quarter k)) := by
  iintro H
  ihave H := (arg_halves m c fullShare) $$ H
  icases H with ⟨HL, HR⟩
  ihave HR := (arg_halves m c fullShare.right) $$ HR
  icases HR with ⟨HA, HB⟩
  ihave HA := (arg_halves m c fullShare.right.left) $$ HA
  icases HA with ⟨H0, H1⟩
  ihave HB := (arg_halves m c fullShare.right.right) $$ HB
  icases HB with ⟨H2, H3⟩
  isplitl [HL]; · iexact HL
  rw [bigSep_fin4]
  isplitl [H0]; · iexact H0
  isplitl [H1]; · iexact H1
  isplitl [H2]; · iexact H2
  iexact H3

/-! ## Into the call and out of it -/

omit [FloatOps F] in
theorem ownSems0_split (c : Dev nD) :
    (Pipeline.ownSems0 (Ix := Unit) (Name := ℕ) (U := UU) (Lvl := ℕ) (Val := Elt F) (τ := τ) osem c : sProp 𝕄)
      = iprop((bigSep Finset.univ fun k : Fin 4 => semVal (sCell c k) 0) ∗ bigSep Finset.univ fun k : Fin 4 => semVal (rCell c k) 0) := by
  rw [ownSems0_eq, bigSep_univ_prod (fun j : Bool × Fin 4 => (semVal (kcell (c, j)) 0 : sProp 𝕄)), bigSep_bool]
  rfl

omit [FloatOps F] in
theorem scopedSems0_eq (c : Dev nD) : (scopedSems0 (c.tc : Thread nD τ) : sProp 𝕄)
    = iprop((Pipeline.cellsSems0 cfgs 0 c ∗ Pipeline.ownSems0 osem c) ∗ Pipeline.idleSems0 cfgs cellOf_inj 0 ownSemFacts c) :=
  Pipeline.scopedSems0_split cfgs cellOf_inj 0 winFacts0.to₀ ownSemFacts c

omit [FloatOps F] in
theorem scopedBufs_eq (c : Dev nD) : (scopedBufs (c.tc : Thread nD τ) : sProp 𝕄)
    = iprop(Dat.staging cfg0 c ∗ Pipeline.scopedRest cfg0.spec c) :=
  Pipeline.scopedBufs_split cfgs 0 winFacts0.to₀.stage_scoped winFacts0.to₀.stage_inj stage_whole0 c

omit [FloatOps F] in
theorem unscopedBufs_eq (c : Dev nD) : (unscopedBufs c (fun b => m ((c.tc : Thread nD τ).loc b)) : sProp 𝕄)
    ⊢ iprop(argPts m c fullShare ∗ bigSep Finset.univ fun k => slotPts c k (m ((c : Thread nD τ).loc main_v1))) := by
  rw [Pipeline.unscopedBufs_split cfgs 0 winFacts0.to₀.arr_unscoped winFacts0.arr_inj c, ← slots_eq]
  iintro ⟨-, H⟩
  ihave H := (Entails.of_eq (unscopedRest0_eq c (fun b => m ((c.tc : Thread nD τ).loc b)))) $$ H
  iexact H

omit [FloatOps F] in
/-- What a device holds at the end of the call. -/
theorem phi1_exit (c : Dev nD) :
    iprop(Φ₁ m c ∗ Pipeline.cellsSems0 cfgs 0 c ∗ Dat.staging cfg0 c ∗ Pipeline.idleSems0 cfgs cellOf_inj 0 ownSemFacts c)
      ⊢ iprop((bigSep Finset.univ fun k => slotPts c k (landed m c)) ∗ scopedSems0 (c.tc : Thread nD τ) ∗ scopedBufs (c.tc : Thread nD τ)) := by
  rw [scopedSems0_eq, scopedBufs_eq, ownSems0_split, scopedRest0_eq]
  unfold Φ₁
  iintro ⟨⟨HY, HS, HR⟩, Hc, Hst, Hi⟩
  isplitl [HY]; · iexact HY
  isplitl [HS HR Hc Hi]
  · isplitl [HS HR Hc]
    · isplitl [Hc]; · iexact Hc
      isplitl [HS] <;> iassumption
    · iexact Hi
  isplitl [Hst]; · iexact Hst
  iempintro

/-- What a device starts its run with. -/
def atStart (c : Dev nD) : sProp 𝕄 :=
  iprop(scopedBufs (c.tc : Thread nD τ) ∗ Pipeline.idleSems0 cfgs cellOf_inj 0 ownSemFacts c ∗ owes (c.tc : Thread nD τ) (O₀ c) ∅
    ∗ argPts m c fullShare.left ∗ Φ₀ m c)

/-- What it ends its run with. -/
def atEnd (c : Dev nD) : sProp 𝕄 :=
  iprop((bigSep Finset.univ fun k => slotPts c k (landed m c)) ∗ argPts m c fullShare.left ∗ scopedSems0 (c.tc : Thread nD τ))

omit [FloatOps F] in
theorem core_start (g : Dev nD → PrngReg) (c : Dev nD) :
    coreInit (Ix := Unit) (Name := ℕ) (U := UU) (Lvl := ℕ) (Pipeline.owing O₀) 0 (⟨m, fun _ => 0, g⟩ : MemSt nD τ sig (Elt F)) (c.tc : Thread nD τ)
      ⊢ iprop((scopedBufs (c.tc : Thread nD τ) ∗ Pipeline.idleSems0 cfgs cellOf_inj 0 ownSemFacts c ∗ owes (c.tc : Thread nD τ) (O₀ c) ∅
            ∗ argPts m c fullShare.left)
          ∗ Pipeline.ownSems0 osem c
          ∗ (bigSep Finset.univ fun k => argPts m c (quarter k))
          ∗ (bigSep Finset.univ fun k => slotPts c k (m ((c : Thread nD τ).loc main_v1)))
          ∗ bigSep Finset.univ fun k => cred (tallyAt (rCell c k) () N)) :=
  (Pipeline.coreInit_boundary_owing O₀ m g c).trans (by
    unfold boundary
    rw [scopedSems0_eq]
    iintro ⟨⟨Hb, ⟨⟨-, Hos⟩, Hi⟩, -⟩, Hub, -, HO, -, -, Hcr⟩
    ihave Hub := (unscopedBufs_eq m c) $$ Hub
    icases Hub with ⟨HA, HV⟩
    ihave HA := (arg_quarters m c) $$ HA
    icases HA with ⟨HL, HQ⟩
    ihave Hcr := (creds (F := F) c) $$ Hcr
    isplitl [Hb Hi HO HL]
    · isplitl [Hb]; · iexact Hb
      isplitl [Hi]; · iexact Hi
      isplitl [HO] <;> iassumption
    isplitl [Hos]; · iexact Hos
    isplitl [HQ]; · iexact HQ
    isplitl [HV] <;> iassumption)

omit [FloatOps F] in
theorem cores_start (g : Dev nD → PrngReg) :
    (bigSep Finset.univ fun d : Dev nD =>
        coreInit (Ix := Unit) (Name := ℕ) (U := UU) (Lvl := ℕ) (Pipeline.owing O₀) 0 (⟨m, fun _ => 0, g⟩ : MemSt nD τ sig (Elt F)) (d.tc : Thread nD τ))
      ⊢ iprop(((bigSep Finset.univ fun c : Dev nD => scopedBufs (c.tc : Thread nD τ))
            ∗ (bigSep Finset.univ fun c : Dev nD => Pipeline.idleSems0 cfgs cellOf_inj 0 ownSemFacts c)
            ∗ (bigSep Finset.univ fun c : Dev nD => owes (c.tc : Thread nD τ) (O₀ c) ∅)
            ∗ bigSep Finset.univ fun c : Dev nD => argPts m c fullShare.left)
          ∗ (bigSep Finset.univ fun c : Dev nD => Pipeline.ownSems0 osem c)
          ∗ (bigSep Finset.univ fun c : Dev nD => bigSep Finset.univ fun k => argPts m c (quarter k))
          ∗ (bigSep Finset.univ fun c : Dev nD => bigSep Finset.univ fun k => slotPts c k (m ((c : Thread nD τ).loc main_v1)))
          ∗ bigSep Finset.univ fun c : Dev nD => bigSep Finset.univ fun k => cred (tallyAt (rCell c k) () N)) := by
  refine (bigSep_mono fun c _ => core_start m g c).trans ?_
  simp only [bigSep_sep']
  exact BI.Entails.refl _

omit [FloatOps F] in
theorem own_intro (c : Dev nD) :
    iprop((bigSep Finset.univ fun j : Bool × Fin 4 => atPos ER (kcell (c, j)) 0 ∅ 0)
        ∗ (bigSep Finset.univ fun j : Bool × Fin 4 => dutyTok ER (kcell (c, j)) 0 ())
        ∗ (bigSep Finset.univ fun k => argPts m c (quarter k))
        ∗ (bigSep Finset.univ fun k => slotPts c k (m ((c : Thread nD τ).loc main_v1)))
        ∗ bigSep Finset.univ fun k => cred (tallyAt (rCell c k) () N))
      ⊢ own m c := by
  rw [bigSep_univ_prod (fun j : Bool × Fin 4 => (atPos ER (kcell (c, j)) 0 ∅ 0 : sProp 𝕄)), bigSep_bool,
    bigSep_univ_prod (fun j : Bool × Fin 4 => (dutyTok ER (kcell (c, j)) 0 () : sProp 𝕄)), bigSep_bool]
  unfold own
  iintro ⟨⟨HA1, HA2⟩, ⟨HT1, HT2⟩, HQ, HV, HC⟩
  isplitl [HA1]; · iexact HA1
  isplitl [HA2]; · iexact HA2
  isplitl [HT1]; · iexact HT1
  isplitl [HT2]; · iexact HT2
  isplitl [HQ]; · iexact HQ
  isplitl [HV] <;> iassumption

omit [FloatOps F] in
theorem launch_start (g : Dev nD → PrngReg) :
    iprop((bigSep Finset.univ fun d : Dev nD =>
        coreInit (Ix := Unit) (Name := ℕ) (U := UU) (Lvl := ℕ) (Pipeline.owing O₀) 0 (⟨m, fun _ => 0, g⟩ : MemSt nD τ sig (Elt F)) (d.tc : Thread nD τ)) ∗ ownU u₀)
      ⊢ (|={Set.univ}=> bigSep Finset.univ (atStart m) : sProp 𝕄) := by
  have hall : iprop((bigSep Finset.univ fun c : Dev nD => bigSep Finset.univ fun j : Bool × Fin 4 => semVal (kcell (c, j)) 0)
        ∗ bigSep Finset.univ fun c : Dev nD => bigSep Finset.univ fun j : Bool × Fin 4 => roundState ER (Rd m) (kcell (c, j)) 0)
      ⊢ (|={Set.univ}=> bigSep Finset.univ fun c : Dev nD => bigSep Finset.univ fun j : Bool × Fin 4 => iprop(∃ κ : ℕ, cellInv ER (Rd m) κ (kcell (c, j))) : sProp 𝕄) := by
    rw [← bigSep_sep']
    exact (bigSep_mono fun c _ => core_alloc m c).trans (bigSep_fupd _ _)
  have hown : iprop((bigSep Finset.univ fun c : Dev nD => bigSep Finset.univ fun j : Bool × Fin 4 => atPos ER (kcell (c, j)) 0 ∅ 0)
        ∗ (bigSep Finset.univ fun c : Dev nD => bigSep Finset.univ fun j : Bool × Fin 4 => dutyTok ER (kcell (c, j)) 0 ())
        ∗ (bigSep Finset.univ fun c : Dev nD => bigSep Finset.univ fun k => argPts m c (quarter k))
        ∗ (bigSep Finset.univ fun c : Dev nD => bigSep Finset.univ fun k => slotPts c k (m ((c : Thread nD τ).loc main_v1)))
        ∗ bigSep Finset.univ fun c : Dev nD => bigSep Finset.univ fun k => cred (tallyAt (rCell c k) () N))
      ⊢ bigSep Finset.univ fun c : Dev nD => own m c := by
    refine BI.Entails.trans ?_ (bigSep_mono fun c _ => own_intro m c)
    simp only [bigSep_sep']
    exact BI.Entails.refl _
  unfold u₀
  iintro ⟨Hc, Hu⟩
  ihave Hc := (cores_start m g) $$ Hc
  icases Hc with ⟨⟨Hb, Hi, HO, HL⟩, Hos, HQ, HV, HC⟩
  ihave H := (ownU_pair _ _) $$ Hu
  icases H with ⟨-, HX⟩
  imod (fund_ring m) $$ HX with HG
  ihave HG := (Entails.of_eq (show bigSep Finset.univ (G m) = _ by unfold G; simp only [bigSep_sep']; rfl)) $$ HG
  icases HG with ⟨Hst, Hat, Hre, Htok⟩
  imod hall $$ [Hos Hst] with HI
  · isplitl [Hos]; · iexact Hos
    iexact Hst
  ihave Hown := hown $$ [Hat Htok HQ HV HC]
  · isplitl [Hat]; · iexact Hat
    isplitl [Htok]; · iexact Htok
    isplitl [HQ]; · iexact HQ
    isplitl [HV] <;> iassumption
  ihave HP := (regroup m) $$ [HI Hre Hown]
  · isplitl [HI]; · iexact HI
    isplitl [Hre] <;> iassumption
  imodintro
  unfold atStart
  simp only [bigSep_sep']
  isplitl [Hb]; · iexact Hb
  isplitl [Hi]; · iexact Hi
  isplitl [HO]; · iexact HO
  isplitl [HL] <;> iassumption

/-- A device's run of the call. -/
theorem core_run (c : Dev nD) :
    atStart m c ⊢ wp frame (wpE (defs (F := F)) (Variants.lift 𝒱₀) (c.tc : Thread nD τ) none) Set.univ (main (F := F) c)
      (fun _ => post (liftTc (atEnd m) BI.emp) (c.tc : Thread nD τ)) := by
  unfold atStart
  iintro ⟨Hsc, Hi, HO, HL, HΦ⟩
  have h1 : ∀ w : Fin (Pipeline.pin (fun p => (cfgs p).toPCfg (Val := Elt F)) (fun p => (cfgs p).toPCfg_adm) 0).W, 0 < ((Pipeline.pin (fun p => (cfgs p).toPCfg (Val := Elt F)) (fun p => (cfgs p).toPCfg_adm) 0).win w).block.numel := fun w => w.elim0
  have hin : iprop(Φ₀ m c ∗ Pipeline.prefHeld (Name := ℕ) (U := UU) (Lvl := ℕ) (Ix := Unit) ((fun p => (cfgs p).toPCfg (Val := Elt F)) (0 : Fin 1)).pre c (fun _ => fullShare.right) ((fun p => (cfgs p).toPCfg_adm) (0 : Fin 1)).1 ∗ Pipeline.scopedRest cfg0.spec c) ⊢ (dats m 0 c).Φ 0 := by
    show iprop(Φ₀ m c ∗ _ ∗ _) ⊢ Φ₀ m c
    iintro ⟨H, -, -⟩; iexact H
  have h2 := Pipeline.wp_customCall_entry_frame (fun p => (cfgs p).toPCfg) (fun p => (cfgs p).toPCfg_adm) (dats m) () EP (fun _ => (0 : ℕ)) cellOf_inj (0 : Fin 1)
      (defs₀ (F := F)) 𝒱₀ (fun _ => fullShare.right) c Set.univ (fun _ _ => Set.mem_univ _) ((body_obligation m c).loose)
      h1 none (fun u h => nomatch h) (X := Φ₀ m c) (Y := bigSep Finset.univ fun k => slotPts c k (landed m c))
      (R := Pipeline.scopedRest cfg0.spec c) (I := Pipeline.idleSems0 cfgs cellOf_inj 0 ownSemFacts c)
      (Entails.of_eq (scopedBufs_eq c))
      hin (phi1_exit m c) (α := PUnit) (k := fun _ => .ret PUnit.unit) (Q := fun _ => post (liftTc (atEnd m) BI.emp) (c.tc : Thread nD τ))
  have ha : (BI.emp : sProp 𝕄) ⊢ (dats m 0 c).arrays ((dats m 0 c).arrAt · 0) := Entails.of_eq (bigSep_none _).symm
  have hw : (BI.emp : sProp 𝕄) ⊢ Pipeline.PerCore.cellsWaits (fun _ : Dev nD => (Pipeline.pin (fun p => (cfgs p).toPCfg (Val := Elt F)) (fun p => (cfgs p).toPCfg_adm))) (dats m) () (0 : Fin 1) c := Entails.of_eq (bigSep_none _).symm
  have hc : (BI.emp : sProp 𝕄) ⊢ Pipeline.PerCore.cellsInit (fun _ : Dev nD => (Pipeline.pin (fun p => (cfgs p).toPCfg (Val := Elt F)) (fun p => (cfgs p).toPCfg_adm))) (dats m) EP (fun _ => (0 : ℕ)) (0 : Fin 1) c := Entails.of_eq (bigSep_none _).symm
  have ht : (BI.emp : sProp 𝕄) ⊢ Pipeline.PerCore.toksInit (fun _ : Dev nD => (Pipeline.pin (fun p => (cfgs p).toPCfg (Val := Elt F)) (fun p => (cfgs p).toPCfg_adm))) EP (0 : Fin 1) c := Entails.of_eq (bigSep_none _).symm
  have hpre : (owes (c.tc : Thread nD τ) (O₀ c) ∅ : sProp 𝕄) ⊢ Pipeline.EntryPre (Pipeline.pin (fun p => (cfgs p).toPCfg (Val := Elt F)) (fun p => (cfgs p).toPCfg_adm)) (dats m) () EP (fun _ => (0 : ℕ)) (0 : Fin 1) c := by
    unfold Pipeline.EntryPre Pipeline.PerCore.EntryPre Dat.owesAt Pipeline.owesWithin
    iintro HO
    isplitr; · iapply ha; iempintro
    isplitl [HO]
    · iexists ∅; isplitr; · ipureintro; rw [Finset.coe_empty]; exact Set.empty_subset _
      iexact HO
    isplitr; · iapply hw; iempintro
    isplitr; · iapply hc; iempintro
    iapply ht; iempintro
  have hpf : (BI.emp : sProp 𝕄) ⊢ Pipeline.prefHeld (Name := ℕ) (U := UU) (Lvl := ℕ) (Ix := Unit) ((fun p => (cfgs p).toPCfg (Val := Elt F)) (0 : Fin 1)).pre c (fun _ => fullShare.right) ((fun p => (cfgs p).toPCfg_adm) (0 : Fin 1)).1 :=
    Entails.of_eq (bigSep_none _).symm
  have hpost : Pipeline.EntryPost (Pipeline.pin (fun p => (cfgs p).toPCfg (Val := Elt F)) (fun p => (cfgs p).toPCfg_adm)) (dats m) () (0 : Fin 1) c
      ⊢ (iprop(∃ W, owes (c.tc : Thread nD τ) (0 : CellTallies nD τ sig Unit) W) : sProp 𝕄) := by
    unfold Pipeline.EntryPost Pipeline.PerCore.EntryPost Dat.owesAt Pipeline.owesWithin
    iintro ⟨-, ⟨%W, -, HW⟩⟩
    iexists W; iexact HW
  iapply h2 $$ [Hsc Hi HO HΦ]
  · isplitl [HO]; · iapply hpre; iexact HO
    isplitr; · iapply hpf; iempintro
    isplitl [HΦ]; · iexact HΦ
    isplitl [Hi]; · iexact Hi
    iexact Hsc
  iintro ⟨Hpost, HY, Hss, -⟩
  rw [wp_ret]; imodintro
  unfold post; simp only [liftTc_tc]
  unfold atEnd
  ihave HW := hpost $$ Hpost
  isplitr [HW]
  · isplitl [HY]; · iexact HY
    isplitl [HL] <;> iassumption
  · iexact HW

omit [FloatOps F] in
/-- What a device's end says of the final memory. -/
theorem read_end (c : Dev nD) (s' : Phys nD τ sig (Elt F)) : iprop(atEnd m c ∗ SI s') ⊢ |={Set.univ}=>
    iprop(⌜((s'.mem.mem ((c : Thread nD τ).loc main_v1) = landed m c ∧ s'.mem.mem ((c : Thread nD τ).loc main_arg0) = m ((c : Thread nD τ).loc main_arg0)))
      ∧ ∀ sm : SemLoc sig, sm.isScoped .tc = true → s'.mem.sem ((c.tc : Thread nD τ), sm) = 0⌝ ∗ SI s' : sProp 𝕄) := by
  unfold atEnd argPts
  rw [← slots_eq]
  iintro ⟨⟨HY, HL, Hss⟩, HSI⟩
  ihave %hz := (tcScoped_read_pers c s') $$ [Hss HSI]
  · isplitl [Hss] <;> iassumption
  icombine HSI HY gives %hy
  icombine HSI HL gives %ha
  imodintro
  isplitr
  · ipureintro
    exact ⟨⟨funext fun i => hy i (Finset.mem_univ i), funext fun i => ha i (Finset.mem_univ i)⟩, hz⟩
  · iexact HSI

/-- Every execution of the exchange ends, with the halves landed, the argument unchanged and every counter zero. -/
theorem run_main (g : Dev nD → PrngReg) :
    θ_run (defs (F := F)) (onTc (τ := τ) (main (F := F))) ⟨m, fun _ => 0, g⟩
      (fun r => (∀ c : Dev nD, r.2.mem ((c : Thread nD τ).loc main_v1) = landed m c ∧ r.2.mem ((c : Thread nD τ).loc main_arg0) = m ((c : Thread nD τ).loc main_arg0))
        ∧ r.2.sem = fun _ => 0) := by
  refine (θ_run (defs (F := F)) _ _).mono
    (Q := fun r => (∀ c : Dev nD, (r.2.mem ((c : Thread nD τ).loc main_v1) = landed m c ∧ r.2.mem ((c : Thread nD τ).loc main_arg0) = m ((c : Thread nD τ).loc main_arg0))
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (Ix := Unit) (Name := ℕ) (U := UU) (Lvl := ℕ) (X := Unit) (Variants.lift 𝒱₀) (Pipeline.owing O₀) 0 (noBookings fun _ => le_rfl) (Pipeline.owing_of_ne O₀) u₀
        (fun _ => atStart m) (fun _ => atEnd m) (fun _ => iprop(emp)) Set.univ ?_ (fun _ c => core_run m c) fun _ => ?_))
  · iintro H
    imod (launch_start m g) $$ H with H
    imodintro
    iexists ()
    isplitl [H]; · iexact H
    iempintro
  · iintro ⟨H, -, Hsc⟩ %s' HSI
    ihave %hsc := (scSems_read_zero m g s') $$ [Hsc HSI]
    · isplitl [Hsc] <;> iassumption
    imod (posts_fupd Finset.univ (read_end m) s') $$ [H HSI] with %h
    · isplitl [H] <;> iassumption
    imodintro
    ipureintro
    exact ⟨fun c => h c (Finset.mem_univ c), hsc⟩

end Cert.SwapProof

end
-- ==== Proof.Swap.Reference.lean ====
/-
# The exchange as an array

The reference writes the exchange on the two devices' arguments laid one after the other: the halves 0 of the second
device, then the halves 1 of the first. Each device's block of it is what that device ends with.
-/
module

public import proofs.«01_k».proof.Proof.Swap.Launch
public import proofs.«01_k».proof.Proof.Gen.Reference14Ideal.Run
public import Idealize.ShloMosaic.Lib.Layout
public import Idealize.ShloMosaic.Lib.Pipeline.Value

@[expose] public section

noncomputable section

namespace Cert.SwapProof

open Idealize.ShloMosaic
open Idealize.ShloMosaic.ValueIdx
open Idealize.ShloMosaic.TcCoe
open Cert.Reference14Ideal Cert.Reference14Ideal.Gen

variable {F : FTy → Type} [FloatOps F]

/-- The halves the reference takes of the whole array, as an array of three axes. -/
theorem piece (a b : Nat) (w : S8x2x22144x128.Idx → Elt F .bf16) (hs : S8x2x22144x128.Slices ![a, b, 0, 0] S4x1x22144x128)
    (hc : S4x1x22144x128.ShapeCasts S4x22144x128) (i : S4x22144x128.Idx) (j : S8x2x22144x128.Idx)
    (h0 : (j 0).val = a + (i 0).val) (h1 : (j 1).val = b) (h2 : (j 2).val = (i 1).val) (h3 : (j 3).val = (i 2).val) :
    shapeCast S4x22144x128 (extractStridedSlice S4x1x22144x128 ![a, b, 0, 0] w hs) hc i = w j := by
  refine (shapeCast_apply _ hc i (ix4 (i 0) 0 (i 1) (i 2)) ?_).trans (extractStridedSlice_apply _ w hs _ j fun x => ?_)
  · rw [Shape.rowMajor_val_four, Shape.rowMajor_val_three]
    show (((i 0).val * 1 + 0) * 22144 + (i 1).val) * 128 + (i 2).val = ((i 0).val * 22144 + (i 1).val) * 128 + (i 2).val
    omega
  · fin_cases x
    · exact h0
    · show (j 1).val = b + 0
      omega
    · show (j 2).val = 0 + (i 1).val
      omega
    · show (j 3).val = 0 + (i 2).val
      omega

/-- The reference's array, of the two arguments laid one after the other. -/
def swapped (w : S8x2x22144x128.Idx → Elt F .bf16) : S8x22144x128.Idx → Elt F .bf16 :=
  concatenate S8x22144x128 0 [⟨S4x22144x128, (shapeCast _ (extractStridedSlice S4x1x22144x128 ![4, 0, 0, 0] w slices_S8x2x22144x128_S4x1x22144x128_4_0_0_0) shapeCasts_S4x1x22144x128_S4x22144x128)⟩, ⟨S4x22144x128, (shapeCast _ (extractStridedSlice S4x1x22144x128 ![0, 1, 0, 0] w slices_S8x2x22144x128_S4x1x22144x128_0_1_0_0) shapeCasts_S4x1x22144x128_S4x22144x128)⟩] concatenates_S4x22144x128_S4x22144x128_S8x22144x128_d0

/-- The first four of it are the halves 0 of the second device, -/
theorem swapped_first (w : S8x2x22144x128.Idx → Elt F .bf16) (i : S4x22144x128.Idx) (j : S8x22144x128.Idx) (k : S8x2x22144x128.Idx)
    (j0 : (j 0).val = (i 0).val) (j1 : (j 1).val = (i 1).val) (j2 : (j 2).val = (i 2).val)
    (k0 : (k 0).val = 4 + (i 0).val) (k1 : (k 1).val = 0) (k2 : (k 2).val = (i 1).val) (k3 : (k 3).val = (i 2).val) :
    swapped w j = w k := by
  refine (concatenate_pair_apply_left (s₁ := S4x22144x128) (s₂ := S4x22144x128) (t := S8x22144x128) 0 _ _ _ j rfl i fun x => ?_).trans (piece 4 0 w _ _ i k k0 k1 k2 k3)
  fin_cases x
  · exact j0.symm
  · exact j1.symm
  · exact j2.symm

/-- and the last four the halves 1 of the first. -/
theorem swapped_last (w : S8x2x22144x128.Idx → Elt F .bf16) (i : S4x22144x128.Idx) (j : S8x22144x128.Idx) (k : S8x2x22144x128.Idx)
    (j0 : (j 0).val = 4 + (i 0).val) (j1 : (j 1).val = (i 1).val) (j2 : (j 2).val = (i 2).val)
    (k0 : (k 0).val = (i 0).val) (k1 : (k 1).val = 1) (k2 : (k 2).val = (i 1).val) (k3 : (k 3).val = (i 2).val) :
    swapped w j = w k := by
  refine (concatenate_pair_apply_right (s₁ := S4x22144x128) (s₂ := S4x22144x128) (t := S8x22144x128) 0 _ _ _ j rfl rfl i (fun x hx => ?_) ?_).trans (piece 0 1 w _ _ i k (by omega) k1 k2 k3)
  · fin_cases x
    · exact absurd rfl hx
    · exact j1.symm
    · exact j2.symm
  · show (i 0).val + 4 = (j 0).val
    omega

/-- Each device's block of the reference's array is what the device ends with. -/
theorem block_swapped (m : (ℓ : Loc Cert.Kernel14Ideal.nD Cert.Kernel14Ideal.τ Cert.Kernel14Ideal.sig) → Buf (Elt F) ℓ)
    (w : S8x2x22144x128.Idx → Elt F .bf16)
    (hw : ∀ c : Dev Cert.Kernel14Ideal.nD, argAt m c = Layout.block ⟨4, ![4, 2, 22144, 128]⟩ ⟨4, ![8, 2, 22144, 128]⟩ 0 2 c w)
    (c : Dev Cert.Kernel14Ideal.nD) :
    landed m c = Layout.block ⟨3, ![4, 22144, 128]⟩ ⟨3, ![8, 22144, 128]⟩ 0 2 c (swapped w) := by
  funext i
  have hc : c = 0 ∨ c = 1 := by
    have h : c.val < 2 := c.isLt
    rcases Nat.lt_or_ge c.val 1 with h' | h'
    · exact Or.inl (Fin.ext (by show c.val = 0; omega))
    · exact Or.inr (Fin.ext (by show c.val = 1; omega))
  show argAt m (peer c) (ix4 (i 0) c (i 1) (i 2)) = _
  rw [hw (peer c), Layout.block_apply, Layout.block_apply]
  rcases hc with rfl | rfl
  · refine (swapped_first w i _ _ ?_ rfl rfl ?_ rfl rfl rfl).symm
    · show 0 * 4 + (i 0).val = (i 0).val
      omega
    · rfl
  · refine (swapped_last w i _ _ ?_ rfl rfl ?_ rfl rfl rfl).symm
    · rfl
    · show 0 * 4 + (i 0).val = (i 0).val
      omega

end Cert.SwapProof

end
-- ==== Proof.Orig.Run.lean ====
/- The backward call as the version states it, its two constants not yet named, at the machine's numbers: the body ends at every grid point
   and returns its input blocks as they were, whatever the result blocks hold; so every execution ends with the arguments as they were. -/
module

public import proofs.«01_k».proof.Proof.Gen.Kernel.Frame
public import proofs.«01_k».proof.Proof.Gen.Kernel.Skeleton
public import Idealize.ShloMosaic.PureOps.BitExact
public import Idealize.ShloMosaic.Lib.Pipeline.DatRel
public import Idealize.ShloMosaic.Lib.Claim

@[expose] public section

set_option maxRecDepth 16384

noncomputable section

namespace Cert.Kernel.Orig

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)
open Cert.Kernel.Gen

local notation "𝕄" => MT nD τ sig Unit (Elt Bits) ℕ (UR sig nD τ) ℕ

/-- Of the two branches on the query block exactly one is taken. -/
theorem query_branch (t : Fin grid0.N) : k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1) t
/-- Of the two branches on the key block exactly one is taken. -/
theorem key_branch (t : Fin grid0.N) : k0_cond4 (grid0.coords t) = 1#1 ↔ ¬ k0_cond3 (grid0.coords t) = 1#1 :=
  (by decide +kernel : ∀ t : Fin grid0.N, k0_cond4 (grid0.coords t) = 1#1 ↔ ¬ k0_cond3 (grid0.coords t) = 1#1) t

set_option maxHeartbeats 4000000 in
/-- The body's run at one grid point. -/
theorem run_body {F : FTy → Type} [FloatOps F] (c : Dev nD) (i : grid0.Coords)
    (arg3 : Memref sig .tc .vmem S1x1024x96 .bf16) (harg3 : arg3.IsWhole)
    (arg4 : Memref sig .tc .vmem S1x2048x96 .bf16) (harg4 : arg4.IsWhole)
    (arg5 : Memref sig .tc .vmem S1x2048x64 .bf16) (harg5 : arg5.IsWhole)
    (arg6 : Memref sig .tc .vmem S1x1024x64 .f32) (harg6 : arg6.IsWhole)
    (arg7 : Memref sig .tc .vmem S1x1024x1 .f32) (harg7 : arg7.IsWhole)
    (arg8 : Memref sig .tc .vmem S1x1024x64 .f32) (harg8 : arg8.IsWhole)
    (arg9 : Memref sig .tc .vmem S1x8192x96 .f32) (harg9 : arg9.IsWhole)
    (arg10 : Memref sig .tc .vmem S1x2048x96 .f32) (harg10 : arg10.IsWhole)
    (arg11 : Memref sig .tc .vmem S1x2048x64 .f32) (harg11 : arg11.IsWhole)
    (h12 : k0_cond2 i = 1#1 ↔ ¬ k0_cond1 i = 1#1) (h34 : k0_cond4 i = 1#1 ↔ ¬ k0_cond3 i = 1#1)
    (x0 : Vec F S1x1024x96 .bf16) (x1 : Vec F S1x2048x96 .bf16) (x2 : Vec F S1x2048x64 .bf16) (x3 : Vec F S1x1024x64 .f32) (x4 : Vec F S1x1024x1 .f32) (x5 : Vec F S1x1024x64 .f32)
    (E : Set ℕ) (K : PUnit → sProp (MT nD τ sig Unit (Elt F) ℕ (UR sig nD τ) ℕ)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ (∃ Y, owns (c : Thread nD τ) arg9 fullShare Y)
        ∗ (∃ Y, owns (c : Thread nD τ) arg10 fullShare Y)
        ∗ (∃ Y, owns (c : Thread nD τ) arg11 fullShare Y)
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ (∃ Y, owns (c : Thread nD τ) arg9 fullShare Y)
        ∗ (∃ Y, owns (c : Thread nD τ) arg10 fullShare Y)
        ∗ (∃ Y, owns (c : Thread nD τ) arg11 fullShare Y)) -∗ K ⟨⟩))
      ⊢ wp frame (wpE (defs₀ (F := F)) Variants.none c none) E
          (cc0_mla_bwd i arg3 harg3 arg4 harg4 arg5 harg5 arg6 harg6 arg7 harg7 arg8 harg8 arg9 harg9 arg10 harg10 arg11 harg11) K := by
  simp only [cc0_mla_bwd_eq_skeleton]; unfold cc0_mla_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%Y6, %f6, %hf6, H6⟩, ⟨%Y7, %f7, %hf7, H7⟩, ⟨%Y8, %f8, %hf8, H8⟩, Hk⟩
  by_cases hc0 : k0_cond1 i = 1#1 <;> by_cases hc2 : k0_cond3 i = 1#1
  all_goals
    first
      | have hc1 : k0_cond2 i = 1#1 := h12.mpr hc0
      | have hc1 : ¬ k0_cond2 i = 1#1 := fun h => h12.mp h hc0
    first
      | have hc3 : k0_cond4 i = 1#1 := h34.mpr hc2
      | have hc3 : ¬ k0_cond4 i = 1#1 := fun h => h34.mp h hc2
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; iexists _; isplitr; swap; · iexact H6
      ipureintro; rfl
    isplitl [H7]
    · iexists _; iexists _; isplitr; swap; · iexact H7
      ipureintro; rfl
    iexists _; iexists _; isplitr; swap; · iexact H8
    ipureintro; rfl

variable (m : (ℓ : Loc nD τ sig) → Buf (Elt Bits) ℓ) (ρ : Dev nD → PrngReg)

/-! ## The proof data -/

/-- The result windows: what the body leaves there is held to a predicate. -/
def isResult : Fin 9 → Bool := fun w => w.val == 6 || w.val == 7 || w.val == 8

/-- Nothing is said of what the body leaves there. -/
def holds : (w : Fin cfg0.W) → Fin cfg0.N → ((cfg0.win w).block.Idx → Elt Bits (cfg0.win w).elt) → Prop := fun _ _ _ => True

/-- The arrays as the region finds them, each input's buffer at its block throughout. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same, with the result windows held to `holds`. -/
def rdat (c : Dev nD) : RDat τ (Elt Bits) Unit ℕ (UR sig nD τ) ℕ cfg0 c := (dats m 0 c).toRRel isResult (holds)

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜holds 6 t X⌝ ∗ owns (c : Thread nD τ) (st0_6 t) fullShare X)
    ∗ (∃ X, ⌜holds 7 t X⌝ ∗ owns (c : Thread nD τ) (st0_7 t) fullShare X)
    ∗ (∃ X, ⌜holds 8 t X⌝ ∗ owns (c : Thread nD τ) (st0_8 t) fullShare X))

set_option maxHeartbeats 3200000 in
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [dats_before0, dats_before1, dats_before2, dats_before3, dats_before4, dats_before5]
  rw [dats_after0, dats_after1, dats_after2, dats_after3, dats_after4, dats_after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
  iapply (run_body c (grid0.coords t) _ _ _ _ _ _ _ _ _ _ _ _ _ _ _ _ _ _ (query_branch t) (key_branch t)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists Y6; iexact H6
  isplitl [H7]; · iexists Y7; iexact H7
  isplitl [H8]; · iexists Y8; iexact H8
  iintro ⟨H0, H1, H2, H3, H4, H5, ⟨%Z6, H6⟩, ⟨%Z7, H7⟩, ⟨%Z8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists Z6; isplitr; · ipureintro; exact trivial
    iexact H6
  isplitl [H7]
  · iexists Z7; isplitr; · ipureintro; exact trivial
    iexact H7
  iexists Z8; isplitr; · ipureintro; exact trivial
  iexact H8

theorem body_row (t : Fin cfg0.N) : defs₀ (F := Bits) .tc cfg0.body (cfg0.bodyArgs t (cfg0.slots t)) = bodyAt0 t := by
  unfold defs₀; rw [Defs.onTc_tc]

theorem body_obligation (c : Dev nD) :
    BodyObligationRel (dats m 0 c) (defs₀ (F := Bits)) Variants.none () Set.univ isResult (holds) := fun t => by
  rw [bigSep_W0, bigSep_W0, body_row]
  exact triple_restated (sound_body m c t) rfl .rfl fun _ => .rfl

/-! ## The launch -/

set_option backward.isDefEq.respectTransparency.types false in
/-- Every execution ends, with the arrays at what the proof data say of them and every counter at zero. -/
theorem run_main : θ_run defs (onTc (τ := τ) (main (F := Bits))) (s₀ m ρ)
    (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := dats_A m) (hΦ := fun _ _ => rfl)

/-- The argument arrays after the run. -/
theorem args_kept (c : Dev nD) (r : PUnit × MemSt nD τ sig (Elt Bits)) (h : RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((dats_A m c 0).trans (V_main_arg0 m c)),
    (RDat.FramePost.arr_in h c 1 rfl).trans ((dats_A m c 1).trans (V_main_arg1 m c)),
    (RDat.FramePost.arr_in h c 2 rfl).trans ((dats_A m c 2).trans (V_main_arg2 m c)),
    (RDat.FramePost.arr_in h c 5 rfl).trans ((dats_A m c 5).trans (V_main_arg3 m c))⟩

/-- The frame of the program as the version states it. -/
theorem frame_main : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.Kernel.Orig

end
-- ==== Proof.Bwd.Real.lean ====
/- The softmax and its gradient over the real numbers, one row at a time, in the forms the two programs compute; and the extended reals' sums,
   maxima and exponentials of real numbers. -/
module

public import Idealize.ShloMosaic.PureOps.Ideal
public import Mathlib.Analysis.SpecialFunctions.Log.Basic
public import Mathlib.Tactic.FieldSimp
public import Mathlib.Tactic.Ring

@[expose] public section

noncomputable section

namespace Cert.Softmax

variable {S : Type} [Fintype S]

/-- A row's softmax. -/
def soft (x : S → ℝ) (s : S) : ℝ := Real.exp (x s) / ∑ s', Real.exp (x s')

/-- The gradient of a row's logits, from the gradient `y` of its probabilities. -/
def softGrad (x y : S → ℝ) (s : S) : ℝ := soft x s * (y s - ∑ s', soft x s' * y s')

theorem sum_exp_pos [Nonempty S] (x : S → ℝ) : 0 < ∑ s, Real.exp (x s) :=
  Finset.sum_pos (fun _ _ => Real.exp_pos _) Finset.univ_nonempty

/-- A row's sum of exponentials after a shift. -/
theorem sum_exp_shift (x : S → ℝ) (M : ℝ) : ∑ s, Real.exp (x s - M) = (∑ s, Real.exp (x s)) / Real.exp M := by
  rw [Finset.sum_div]; exact Finset.sum_congr rfl fun s _ => Real.exp_sub _ _

/-- Shifted, the softmax is the same. -/
theorem soft_shift [Nonempty S] (x : S → ℝ) (M : ℝ) (s : S) : Real.exp (x s - M) / ∑ s', Real.exp (x s' - M) = soft x s := by
  have h := sum_exp_pos x
  have hM := Real.exp_pos M
  rw [sum_exp_shift, Real.exp_sub]; unfold soft; field_simp

/-- The softmax from a row's log-sum. -/
theorem soft_lse [Nonempty S] (x : S → ℝ) (M : ℝ) (s : S) :
    Real.exp (x s - (M + Real.log (∑ s', Real.exp (x s' - M)))) = soft x s := by
  rw [← soft_shift x M s, ← sub_sub, Real.exp_sub (x s - M), Real.exp_log (sum_exp_pos fun s' => x s' - M)]

/-- The gradient of a row's logits as the derivative of a quotient computes it. -/
theorem softGrad_quotient [Nonempty S] (x y : S → ℝ) (M l : ℝ) (hl : l = ∑ s, Real.exp (x s - M)) (s : S) :
    (y s / l + -∑ s', y s' * (1 / (l * l)) * Real.exp (x s' - M)) * Real.exp (x s - M) = softGrad x y s := by
  have hpos : 0 < l := hl ▸ sum_exp_pos fun s' => x s' - M
  have e : ∀ s', soft x s' = Real.exp (x s' - M) / l := fun s' => by rw [hl]; exact (soft_shift x M s').symm
  have hs : ∑ s', y s' * (1 / (l * l)) * Real.exp (x s' - M) = (∑ s', soft x s' * y s') / l := by
    rw [Finset.sum_div]; refine Finset.sum_congr rfl fun s' _ => ?_
    rw [e]; field_simp
  rw [hs]; unfold softGrad; rw [e s]; field_simp; ring

/-- The row's sum of products with the output is the one with the probabilities. -/
theorem sum_output {E : Type} [Fintype E] (p : S → ℝ) (v : S → E → ℝ) (g : E → ℝ) :
    ∑ e, g e * ∑ s, p s * v s e = ∑ s, p s * ∑ e, g e * v s e := by
  simp only [Finset.mul_sum]
  rw [Finset.sum_comm]
  exact Finset.sum_congr rfl fun s _ => Finset.sum_congr rfl fun e _ => by ring

/-! ## The extended reals -/

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A sum of products of reals. -/
theorem coe_sum_mul {ι : Type} (t : Finset ι) (f g : ι → EReal) (f' g' : ι → ℝ) (hf : ∀ i, f i = (f' i : EReal))
    (hg : ∀ i, g i = (g' i : EReal)) : ∑ i ∈ t, f i * g i = ((∑ i ∈ t, f' i * g' i : ℝ) : EReal) := by
  rw [← coe_sum]; exact Finset.sum_congr rfl fun i _ => by rw [hf, hg, EReal.coe_mul]

/-- The maximum of real numbers, taken from the least value, is a real number. -/
theorem fold_max_real [Nonempty S] (x : S → ℝ) : ∃ M : ℝ, Finset.fold max (⊥ : EReal) (fun s => ((x s : ℝ) : EReal)) Finset.univ = (M : EReal) := by
  classical
  have key : ∀ t : Finset S, t.Nonempty → ∃ M : ℝ, Finset.fold max (⊥ : EReal) (fun s => ((x s : ℝ) : EReal)) t = (M : EReal) := by
    intro t ht
    induction ht using Finset.Nonempty.cons_induction with
    | singleton a => exact ⟨x a, by simp⟩
    | cons a t ha _ ih =>
      obtain ⟨M, hM⟩ := ih
      exact ⟨max (x a) M, by rw [Finset.fold_cons, hM]; exact (EReal.coe_strictMono.monotone.map_max).symm⟩
  exact key _ Finset.univ_nonempty

end Cert.Softmax

end
-- ==== Proof.Bwd.Finite.lean ====
/- What the precondition says of an array: every entry is a real number. -/
module

public import proofs.«01_k».proof.Defs
public import proofs.«01_k».proof.Proof.Bwd.Real
public import Idealize.ShloMosaic.Lib.Pipeline.ValueKit

@[expose] public section

set_option maxRecDepth 16384

noncomputable section

namespace Cert.Finite

open Idealize.ShloMosaic

/-- An extended real below infinity in absolute value is a real number. -/
theorem real_of_abs_lt {a : EReal} (h : max a (-a) < ⊤) : ∃ x : ℝ, a = (x : EReal) := by
  obtain ⟨h1, h2⟩ := max_lt_iff.mp h
  refine ⟨a.toReal, (EReal.coe_toReal h1.ne ?_).symm⟩
  rintro rfl
  simp at h2

theorem infinity_f32 : Ideal.ofBits FTy.f32 0x7F800000#32 = ⊤ := by simp [Ideal.ofBits, Ideal.ieee]
theorem infinity_bf16 : Ideal.ofBits FTy.bf16 0x7F80#16 = ⊤ := by simp [Ideal.ofBits, Ideal.ieee]

theorem real_of_cmp {a : EReal} (h : Ideal.cmp .olt (max a (-a)) ⊤ = 1#1) : ∃ x : ℝ, a = (x : EReal) := by
  refine real_of_abs_lt ?_
  by_contra hn
  simp [Ideal.cmp, hn] at h

/-- An array of float32 entries compared with infinity. -/
theorem real_f32 {s : Shape} (z : Shape) (d : Fin z.rank → Fin s.rank) (hb : z.BroadcastsInDim s d) (x : FVec Ideal s .f32)
    (h : cmpf .olt (Host.absf x) (broadcastInDim s d hb (constant (F := Ideal) z .f32 0x7F800000#32)) = fun _ => 1#1) (i : s.Idx) :
    ∃ a : ℝ, x i = (a : EReal) := by
  have hi := congrFun h i
  change Ideal.cmp .olt (max (x i) (-(x i))) (Ideal.ofBits FTy.f32 0x7F800000#32) = 1#1 at hi
  rw [infinity_f32] at hi
  exact real_of_cmp hi

/-- An array of bfloat16 entries compared with infinity. -/
theorem real_bf16 {s : Shape} (z : Shape) (d : Fin z.rank → Fin s.rank) (hb : z.BroadcastsInDim s d) (x : FVec Ideal s .bf16)
    (h : cmpf .olt (Host.absf x) (broadcastInDim s d hb (constant (F := Ideal) z .bf16 0x7F80#16)) = fun _ => 1#1) (i : s.Idx) :
    ∃ a : ℝ, x i = (a : EReal) := by
  have hi := congrFun h i
  change Ideal.cmp .olt (max (x i) (-(x i))) (Ideal.ofBits FTy.bf16 0x7F80#16) = 1#1 at hi
  rw [infinity_bf16] at hi
  exact real_of_cmp hi

/-- An array of real numbers, by its coordinates. -/
theorem entries {a b e : ℕ} (x : (⟨3, ![a, b, e]⟩ : Shape).Idx → EReal) (h : ∀ i, ∃ y : ℝ, x i = (y : EReal)) :
    ∃ f : Fin a → Fin b → Fin e → ℝ, ∀ p q r, x (ix3 p q r) = ((f p q r : ℝ) : EReal) := by
  choose f hf using h
  exact ⟨fun p q r => f (ix3 p q r), fun p q r => hf _⟩

end Cert.Finite

end
-- ==== Proof.Bwd.Body.lean ====
/- What one grid point of the backward call leaves in its three result blocks, as plain functions of the six input blocks and of what the
   result blocks held before, and the run of the body that shows it. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The conditions and the place of the rows, in closed form -/

/-- The first query block of a key block. -/
theorem first_query (t : Fin grid0.N) : k0_cond1 (grid0.coords t) = 1#1 ↔ t.val % 8 = 0 :=
  (by decide +kernel : ∀ t : Fin grid0.N, k0_cond1 (grid0.coords t) = 1#1 ↔ t.val % 8 = 0) t
/-- A later query block. -/
theorem later_query (t : Fin grid0.N) : k0_cond2 (grid0.coords t) = 1#1 ↔ ¬ t.val % 8 = 0 :=
  (by decide +kernel : ∀ t : Fin grid0.N, k0_cond2 (grid0.coords t) = 1#1 ↔ ¬ t.val % 8 = 0) t
/-- The first key block of a head. -/
theorem first_key (t : Fin grid0.N) : k0_cond3 (grid0.coords t) = 1#1 ↔ t.val / 8 % 4 = 0 :=
  (by decide +kernel : ∀ t : Fin grid0.N, k0_cond3 (grid0.coords t) = 1#1 ↔ t.val / 8 % 4 = 0) t
/-- A later key block. -/
theorem later_key (t : Fin grid0.N) : k0_cond4 (grid0.coords t) = 1#1 ↔ ¬ t.val / 8 % 4 = 0 :=
  (by decide +kernel : ∀ t : Fin grid0.N, k0_cond4 (grid0.coords t) = 1#1 ↔ ¬ t.val / 8 % 4 = 0) t

/-- The rows of the query block lie inside the head's block. -/
theorem rows_inb (i : grid0.Coords) : ∀ a, (![0, 1024 * (i 2).val, 0] : Fin 3 → ℕ) a + S1x1024x96.size a ≤ S1x8192x96.size a :=
  (by decide +kernel : ∀ i : grid0.Coords, ∀ a, (![0, 1024 * (i 2).val, 0] : Fin 3 → ℕ) a + S1x1024x96.size a ≤ S1x8192x96.size a) i

/-! ## What the body leaves -/

/-- The rows of the query block that `y` holds. -/
def rowsOf (i : grid0.Coords) (y : Vec F S1x8192x96 .f32) : Vec F S1x1024x96 .f32 :=
  VecWindow.window y ![0, 1024 * (i 2).val, 0] S1x1024x96.size (rows_inb i)

/-- What the body leaves in the block of q's gradient: the query block's rows set by the first key block and added to by a later one. -/
def left6 (i : grid0.Coords) (x0 : Vec F S1x1024x96 .bf16) (x1 : Vec F S1x2048x96 .bf16) (x2 : Vec F S1x2048x64 .bf16)
    (x3 : Vec F S1x1024x64 .f32) (x4 : Vec F S1x1024x1 .f32) (x5 : Vec F S1x1024x64 .f32) (y : Vec F S1x8192x96 .f32) : Vec F S1x8192x96 .f32 :=
  VecWindow.put y ![0, 1024 * (i 2).val, 0] S1x1024x96.size
    (if k0_cond3 i = 1#1 then k0_pay7 (k0_pay10 x1) (k0_pay14 x0 x1 x2 x5 x4 x3)
      else k0_pay8 (k0_pay10 x1) (k0_pay14 x0 x1 x2 x5 x4 x3) (rowsOf i y))

/-- What the body leaves in the block of k's gradient. -/
def left7 (i : grid0.Coords) (x0 : Vec F S1x1024x96 .bf16) (x1 : Vec F S1x2048x96 .bf16) (x2 : Vec F S1x2048x64 .bf16)
    (x3 : Vec F S1x1024x64 .f32) (x4 : Vec F S1x1024x1 .f32) (x5 : Vec F S1x1024x64 .f32) (y : Vec F S1x2048x96 .f32) : Vec F S1x2048x96 .f32 :=
  if k0_cond1 i = 1#1 then k0_pay3 (k0_pay16 x0 x1 x2 x5 x4 x3) else k0_pay5 (k0_pay16 x0 x1 x2 x5 x4 x3) y

/-- What the body leaves in the block of v's gradient. -/
def left8 (i : grid0.Coords) (x0 : Vec F S1x1024x96 .bf16) (x1 : Vec F S1x2048x96 .bf16) (x4 : Vec F S1x1024x1 .f32)
    (x5 : Vec F S1x1024x64 .f32) (y : Vec F S1x2048x64 .f32) : Vec F S1x2048x64 .f32 :=
  if k0_cond1 i = 1#1 then k0_pay4 (k0_pay15 x0 x1 x5 x4) else k0_pay6 (k0_pay15 x0 x1 x5 x4) y

/-- A load of a whole block through its memref, at contents that read as `x`. -/
theorem load_whole {s : Shape} {e : EltTy} (a : Memref sig .tc .vmem s e) (ha : a.IsWhole) (x : s.Idx → Elt F e) {off : Fin s.rank → ℕ}
    (inb : ∀ k, off k + s.size k ≤ s.size k) :
    a.view.readAt (Elt F) (Rect.unit off s.size inb).toLoadRect (ha.unread x) = x := by
  rw [View.readAt_full, ha.read_unread]

/-- A load of the query block's rows of the head's block, at contents that read as `y`. -/
theorem load_rows {i : grid0.Coords} (a : Memref sig .tc .vmem S1x8192x96 .f32) (ha : a.IsWhole) (y : Vec F S1x8192x96 .f32)
    (h : k0_cond4 i = 1#1) :
    a.view.readAt (Elt F) (Rect.unit (s := S1x8192x96) (k0_off2 i) S1x1024x96.size (k0_off2_inb i h)).toLoadRect (ha.unread y)
      = rowsOf i y := by
  rw [View.readAt_unit (h := k0_off2_eq i) (inb' := rows_inb i), ha.read_unread]; rfl

set_option maxHeartbeats 4000000 in
/-- The body's run at one grid point: exactly one of each pair of conditions holds; the inputs are left as they were, and each result block
    at what the definitions above say. -/
theorem run_body (c : Dev nD) (i : grid0.Coords) (arg3 : Memref sig .tc .vmem S1x1024x96 .bf16) (harg3 : arg3.IsWhole)
    (arg4 : Memref sig .tc .vmem S1x2048x96 .bf16) (harg4 : arg4.IsWhole) (arg5 : Memref sig .tc .vmem S1x2048x64 .bf16)
    (harg5 : arg5.IsWhole) (arg6 : Memref sig .tc .vmem S1x1024x64 .f32) (harg6 : arg6.IsWhole)
    (arg7 : Memref sig .tc .vmem S1x1024x1 .f32) (harg7 : arg7.IsWhole) (arg8 : Memref sig .tc .vmem S1x1024x64 .f32)
    (harg8 : arg8.IsWhole) (arg9 : Memref sig .tc .vmem S1x8192x96 .f32) (harg9 : arg9.IsWhole)
    (arg10 : Memref sig .tc .vmem S1x2048x96 .f32) (harg10 : arg10.IsWhole) (arg11 : Memref sig .tc .vmem S1x2048x64 .f32)
    (harg11 : arg11.IsWhole) (h12 : k0_cond2 i = 1#1 ↔ ¬ k0_cond1 i = 1#1) (h34 : k0_cond4 i = 1#1 ↔ ¬ k0_cond3 i = 1#1)
    (x0 : Vec F S1x1024x96 .bf16) (x1 : Vec F S1x2048x96 .bf16) (x2 : Vec F S1x2048x64 .bf16) (x3 : Vec F S1x1024x64 .f32)
    (x4 : Vec F S1x1024x1 .f32) (x5 : Vec F S1x1024x64 .f32) (y6 : Vec F S1x8192x96 .f32) (y7 : Vec F S1x2048x96 .f32)
    (y8 : Vec F S1x2048x64 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare y6 ∗ owns (c : Thread nD τ) arg10 fullShare y7 ∗ owns (c : Thread nD τ) arg11 fullShare y8
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (left6 i x0 x1 x2 x3 x4 x5 y6)
            ∗ owns (c : Thread nD τ) arg10 fullShare (left7 i x0 x1 x2 x3 x4 x5 y7)
            ∗ owns (c : Thread nD τ) arg11 fullShare (left8 i x0 x1 x4 x5 y8)) -∗ K ⟨⟩))
      ⊢ wp frame (wpE (defs₀ (F := F)) Variants.none c none) E
          (cc0_mla_bwd i arg3 harg3 arg4 harg4 arg5 harg5 arg6 harg6 arg7 harg7 arg8 harg8 arg9 harg9 arg10 harg10 arg11 harg11) K := by
  simp only [cc0_mla_bwd_eq_skeleton]; unfold cc0_mla_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  have l0 := load_whole arg3 harg3 x0 inb_S1x1024x96_S1x1024x96_0_0_0
  have l1 := load_whole arg4 harg4 x1 inb_S1x2048x96_S1x2048x96_0_0_0
  have l2 := load_whole arg5 harg5 x2 inb_S1x2048x64_S1x2048x64_0_0_0
  have l3 := load_whole arg6 harg6 x3 inb_S1x1024x64_S1x1024x64_0_0_0
  have l4 := load_whole arg7 harg7 x4 inb_S1x1024x1_S1x1024x1_0_0_0
  have l5 := load_whole arg8 harg8 x5 inb_S1x1024x64_S1x1024x64_0_0_0
  have l7 := load_whole arg10 harg10 y7 inb_S1x2048x96_S1x2048x96_0_0_0
  have l8 := load_whole arg11 harg11 y8 inb_S1x2048x64_S1x2048x64_0_0_0
  by_cases hc0 : k0_cond1 i = 1#1 <;> by_cases hc2 : k0_cond3 i = 1#1
  all_goals
    first
      | have hc1 : k0_cond2 i = 1#1 := h12.mpr hc0
      | have hc1 : ¬ k0_cond2 i = 1#1 := fun h => h12.mp h hc0
    first
      | have hc3 : k0_cond4 i = 1#1 := h34.mpr hc2
        have l6 := load_rows arg9 harg9 y6 hc3
      | have hc3 : ¬ k0_cond4 i = 1#1 := fun h => h34.mp h hc2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; unfold left6
      first
        | rw [if_pos hc2, View.read_writes_cons_put (h := k0_off1_eq i), View.writes_nil, harg9.read_unread]
        | rw [if_neg hc2, View.read_writes_cons_put (h := k0_off2_eq i), View.writes_nil, harg9.read_unread]
    isplitl [H7]
    · iexists _; isplitr; swap; · iexact H7
      ipureintro; unfold left7
      first | rw [if_pos hc0] | rw [if_neg hc0]
      exact View.read_writes_full (s := S1x2048x96) _ _ _ _ _
    iexists _; isplitr; swap; · iexact H8
    ipureintro; unfold left8
    first | rw [if_pos hc0] | rw [if_neg hc0]
    exact View.read_writes_full (s := S1x2048x64) _ _ _ _ _

end Cert.KernelIdeal.Bwd

end
-- ==== Proof.Bwd.Point.lean ====
/- What one grid point computes, entry by entry, when the entries of its input blocks are real numbers. -/
module

public import proofs.«01_k».proof.Proof.Bwd.Body
public import proofs.«01_k».proof.Proof.Bwd.Real
public import Idealize.ShloMosaic.Lib.Pipeline.ValueKit
public import Idealize.ShloMosaic.Lib.Claim

@[expose] public section

set_option maxRecDepth 16384

noncomputable section

namespace Cert.KernelIdeal.Bwd

open Idealize.ShloMosaic Idealize.ShloMosaic.TcCoe
open Cert.KernelIdeal.Gen Cert.Softmax

/-! ## The constants -/

/-- The scale of the logits, the rational of its float word. -/
def scale : ℝ := 3424635 / 33554432

theorem scale_word : Ideal.ofBits FTy.f32 0x3DD105EC#32 = (scale : EReal) := by
  unfold scale; simp [Ideal.ofBits, Ideal.ieee, -EReal.coe_mul]; norm_num

theorem log2e_val : (Named.named κ "log2e" 0x3FB8AA3B#32 : Ideal .f32) = (((Real.log 2)⁻¹ : ℝ) : EReal) :=
  IdealRules.named_const.ideal_named_scalar _ _ _ _ rfl

theorem scale_log2e_val :
    (Named.named κ "scale_log2e" 0x3E16C740#32 : Ideal .f32) = ((scale * (Real.log 2)⁻¹ : ℝ) : EReal) :=
  IdealRules.named_const.ideal_named_scalar _ _ _ _ rfl

/-- A power of two whose exponent was scaled to base two. -/
theorem two_rpow (a sc b : ℝ) : Real.rpow 2 (a * (sc * (Real.log 2)⁻¹) - b * (Real.log 2)⁻¹) = Real.exp (a * sc - b) := by
  have h2 : Real.log 2 ≠ 0 := (Real.log_pos one_lt_two).ne'
  change (2 : ℝ) ^ (a * (sc * (Real.log 2)⁻¹) - b * (Real.log 2)⁻¹) = _
  rw [Real.rpow_def_of_pos two_pos]
  congr 1; field_simp

/-! ## The payloads -/

variable {x0 : Vec Ideal S1x1024x96 .bf16} {x1 : Vec Ideal S1x2048x96 .bf16} {x2 : Vec Ideal S1x2048x64 .bf16}
  {x3 : Vec Ideal S1x1024x64 .f32} {x4 : Vec Ideal S1x1024x1 .f32} {x5 : Vec Ideal S1x1024x64 .f32}
  {q : Fin 1024 → Fin 96 → ℝ} {k : Fin 2048 → Fin 96 → ℝ} {v : Fin 2048 → Fin 64 → ℝ} {o g : Fin 1024 → Fin 64 → ℝ} {l : Fin 1024 → ℝ}

/-- A probability, from the row's log-sum. -/
def prob (q : Fin 1024 → Fin 96 → ℝ) (k : Fin 2048 → Fin 96 → ℝ) (l : Fin 1024 → ℝ) (r : Fin 1024) (s : Fin 2048) : ℝ :=
  Real.exp ((∑ d, q r d * k s d) * scale - l r)

/-- A logit's gradient, before the scale. -/
def dlog (q : Fin 1024 → Fin 96 → ℝ) (k : Fin 2048 → Fin 96 → ℝ) (v : Fin 2048 → Fin 64 → ℝ) (o g : Fin 1024 → Fin 64 → ℝ) (l : Fin 1024 → ℝ)
    (r : Fin 1024) (s : Fin 2048) : ℝ :=
  prob q k l r s * (∑ e, g r e * v s e - ∑ e, g r e * o r e)

theorem pay13_real (h0 : ∀ r d, x0 (ix3 0 r d) = ((q r d : ℝ) : EReal)) (h1 : ∀ s d, x1 (ix3 0 s d) = ((k s d : ℝ) : EReal))
    (h4 : ∀ r, x4 (ix3 0 r 0) = ((l r : ℝ) : EReal)) (r : Fin 1024) (s : Fin 2048) :
    k0_pay13 x0 x1 x4 (ix2 r s) = ((prob q k l r s : ℝ) : EReal) := by
  unfold k0_pay13 k0_pay9 k0_pay10
  pointwise
  rw [coe_sum_mul _ _ _ (fun d => q r d) (fun d => k s d) (h0 r) (h1 s), h4, log2e_val, scale_log2e_val]
  refine (congrArg Ideal.exp2 ?_).trans ((Ideal.exp2_coe _).trans (congrArg _ (two_rpow _ _ _)))
  simp only [EReal.coe_sub, EReal.coe_mul]

theorem pay14_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (r : Fin 1024) (s : Fin 2048) :
    k0_pay14 x0 x1 x2 x5 x4 x3 (ix2 r s) = ((dlog q k v o g l r s : ℝ) : EReal) := by
  unfold k0_pay14 k0_pay11 k0_pay12 k0_pay11
  pointwise
  rw [pay13_real h0 h1 h4, coe_sum_mul _ _ _ (fun e => g r e) (fun e => v s e) (h5 r) (h2 s),
    coe_sum_mul _ _ _ (fun e => g r e) (fun e => o r e) (h5 r) (h3 r)]
  unfold dlog
  rw [EReal.coe_mul, EReal.coe_sub]

/-- A point's addend to q's gradient. -/
theorem dq_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (r : Fin 1024) (d : Fin 96) :
    k0_pay2 (k0_pay10 x1) (k0_pay14 x0 x1 x2 x5 x4 x3) (ix2 r d) = (((∑ s, dlog q k v o g l r s * k s d) * scale : ℝ) : EReal) := by
  unfold k0_pay2 k0_pay10
  pointwise
  rw [coe_sum_mul _ _ _ (fun s => dlog q k v o g l r s) (fun s => k s d) (pay14_real h0 h1 h2 h3 h4 h5 r) (fun s => h1 s d), scale_word, EReal.coe_mul]

/-- A point's addend to k's gradient. -/
theorem dk_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (s : Fin 2048) (d : Fin 96) :
    k0_pay1 (k0_pay16 x0 x1 x2 x5 x4 x3) (ix2 s d) = (((∑ r, dlog q k v o g l r s * q r d) * scale : ℝ) : EReal) := by
  unfold k0_pay1 k0_pay16 k0_pay9
  pointwise
  rw [coe_sum_mul _ _ _ (fun r => dlog q k v o g l r s) (fun r => q r d) (fun r => pay14_real h0 h1 h2 h3 h4 h5 r s) (fun r => h0 r d), scale_word, EReal.coe_mul]

/-- A point's addend to v's gradient. -/
theorem dv_real (h0 : ∀ r d, x0 (ix3 0 r d) = ((q r d : ℝ) : EReal)) (h1 : ∀ s d, x1 (ix3 0 s d) = ((k s d : ℝ) : EReal))
    (h4 : ∀ r, x4 (ix3 0 r 0) = ((l r : ℝ) : EReal)) (h5 : ∀ r e, x5 (ix3 0 r e) = ((g r e : ℝ) : EReal)) (s : Fin 2048) (e : Fin 64) :
    k0_pay15 x0 x1 x5 x4 (ix2 s e) = ((∑ r, prob q k l r s * g r e : ℝ) : EReal) := by
  unfold k0_pay15 k0_pay12 k0_pay11
  pointwise
  rw [coe_sum_mul _ _ _ (fun r => prob q k l r s) (fun r => g r e) (fun r => pay13_real h0 h1 h4 r s) (fun r => h5 r e)]

end Cert.KernelIdeal.Bwd

end
-- ==== Proof.Bwd.Host.lean ====
/- The forward pass on the host, entry by entry: what the two programs share of it, as functions of the arrays. -/
module

public import proofs.«01_k».proof.Proof.Bwd.Point
public import Idealize.ShloMosaic.Lib.StableHlo.ReadAt

@[expose] public section

set_option maxRecDepth 16384

noncomputable section

namespace Cert.KernelIdeal.Bwd

open Idealize.ShloMosaic Idealize.ShloMosaic.TcCoe
open Cert.KernelIdeal.Gen Cert.Softmax

/-! ## The lines as functions of arrays -/

/-- The scaled logits. -/
def logits (q k : FVec Ideal S4x8192x96 .bf16) : FVec Ideal S4x8192x8192 .f32 :=
  mulf (Host.dotGeneral dot_S4x8192x96_S4x8192x96_S4x8192x8192_2_2_1_1_0_0 none (extf .f32 q bitsLt_bf16_f32) (extf .f32 k bitsLt_bf16_f32))
    (broadcastInDim S4x8192x8192 ![] bcast_S_S4x8192x8192 (constant (F := Ideal) S_ .f32 0x3DD105EC#32))

/-- The rows' maxima. -/
def rowMax (x : FVec Ideal S4x8192x8192 .f32) : FVec Ideal S4x8192x1 .f32 :=
  broadcastInDim S4x8192x1 ![0, 1] bcast_S4x8192_S4x8192x1_0_1
    (Host.reduce FloatOps.maximumf x (constant (F := Ideal) S_ .f32 0xFF800000#32) reducesTo_S4x8192x8192_S4x8192_d2 h_S_)

/-- The exponentials of the rows' logits less `M`. -/
def expo (x : FVec Ideal S4x8192x8192 .f32) (M : FVec Ideal S4x8192x1 .f32) : FVec Ideal S4x8192x8192 .f32 :=
  Host.exp (subf x (broadcastInDim S4x8192x8192 ![0, 1, 2] bcast_S4x8192x1_S4x8192x8192_0_1_2 M))

/-- The rows' sums. -/
def rowSum (e : FVec Ideal S4x8192x8192 .f32) : FVec Ideal S4x8192x1 .f32 :=
  broadcastInDim S4x8192x1 ![0, 1] bcast_S4x8192_S4x8192x1_0_1
    (Host.reduceAdd e (constant (F := Ideal) S_ .f32 0x00000000#32) reducesTo_S4x8192x8192_S4x8192_d2 h_S_)

/-- The probabilities. -/
def probs (e : FVec Ideal S4x8192x8192 .f32) (l : FVec Ideal S4x8192x1 .f32) : FVec Ideal S4x8192x8192 .f32 :=
  Host.divf e (broadcastInDim S4x8192x8192 ![0, 1, 2] bcast_S4x8192x1_S4x8192x8192_0_1_2 l)

/-- The output. -/
def output (p : FVec Ideal S4x8192x8192 .f32) (v : FVec Ideal S4x8192x64 .bf16) : FVec Ideal S4x8192x64 .f32 :=
  Host.dotGeneral dot_S4x8192x8192_S4x8192x64_S4x8192x64_2_1_1_2_0_0 none p (extf .f32 v bitsLt_bf16_f32)

/-! ## Their entries -/

variable {q k : FVec Ideal S4x8192x96 .bf16} {v : FVec Ideal S4x8192x64 .bf16}
  {qr kr : Fin 4 → Fin 8192 → Fin 96 → ℝ} {vr : Fin 4 → Fin 8192 → Fin 64 → ℝ}

/-- A head's logits over the reals. -/
def logit (qr kr : Fin 4 → Fin 8192 → Fin 96 → ℝ) (h : Fin 4) (r s : Fin 8192) : ℝ := (∑ d, qr h r d * kr h s d) * scale

theorem logits_real (hq : ∀ h r d, q (ix3 h r d) = ((qr h r d : ℝ) : EReal)) (hk : ∀ h s d, k (ix3 h s d) = ((kr h s d : ℝ) : EReal))
    (h : Fin 4) (r s : Fin 8192) : logits q k (ix3 h r s) = ((logit qr kr h r s : ℝ) : EReal) := by
  unfold logits
  pointwise
  rw [coe_sum_mul _ _ _ (fun d => qr h r d) (fun d => kr h s d) (hq h r) (hk h s), scale_word]
  unfold logit; rw [EReal.coe_mul]

theorem minus_infinity : Ideal.ofBits FTy.f32 0xFF800000#32 = ⊥ := by simp [Ideal.ofBits, Ideal.ieee]

variable {x : FVec Ideal S4x8192x8192 .f32} {xr : Fin 4 → Fin 8192 → Fin 8192 → ℝ} {M l : FVec Ideal S4x8192x1 .f32} {Mr lr : Fin 4 → Fin 8192 → ℝ}

theorem rowMax_real (hx : ∀ h r s, x (ix3 h r s) = ((xr h r s : ℝ) : EReal)) :
    ∃ Mr : Fin 4 → Fin 8192 → ℝ, ∀ h r, rowMax x (ix3 h r 0) = ((Mr h r : ℝ) : EReal) := by
  have key : ∀ h r, ∃ M : ℝ, rowMax x (ix3 h r 0) = (M : EReal) := by
    intro h r
    obtain ⟨M, hM⟩ := fold_max_real (xr h r)
    refine ⟨M, ?_⟩
    unfold rowMax
    pointwise
    rw [minus_infinity, ← hM]
    exact congrArg (fun f => Finset.fold max (⊥ : EReal) f Finset.univ) (funext fun s => hx h r s)
  choose Mr hMr using key
  exact ⟨Mr, hMr⟩

theorem expo_real (hx : ∀ h r s, x (ix3 h r s) = ((xr h r s : ℝ) : EReal)) (hM : ∀ h r, M (ix3 h r 0) = ((Mr h r : ℝ) : EReal))
    (h : Fin 4) (r s : Fin 8192) : expo x M (ix3 h r s) = ((Real.exp (xr h r s - Mr h r) : ℝ) : EReal) := by
  unfold expo
  pointwise
  rw [hx, hM, ← EReal.coe_sub]
  exact Ideal.exp_coe _

theorem rowSum_real (hx : ∀ h r s, x (ix3 h r s) = ((xr h r s : ℝ) : EReal)) (h : Fin 4) (r : Fin 8192) :
    rowSum x (ix3 h r 0) = ((∑ s, xr h r s : ℝ) : EReal) := by
  unfold rowSum
  pointwise
  rw [← coe_sum]
  exact Finset.sum_congr rfl fun s _ => hx h r s

theorem probs_real (hx : ∀ h r s, x (ix3 h r s) = ((xr h r s : ℝ) : EReal)) (hl : ∀ h r, l (ix3 h r 0) = ((lr h r : ℝ) : EReal))
    (h0 : ∀ h r, lr h r ≠ 0) (h : Fin 4) (r s : Fin 8192) : probs x l (ix3 h r s) = ((xr h r s / lr h r : ℝ) : EReal) := by
  unfold probs
  pointwise
  rw [hx, hl, Ideal.div_coe (h0 h r), ← EReal.coe_mul]
  congr 1; ring

theorem output_real (hx : ∀ h r s, x (ix3 h r s) = ((xr h r s : ℝ) : EReal)) (hv : ∀ h s e, v (ix3 h s e) = ((vr h s e : ℝ) : EReal))
    (h : Fin 4) (r : Fin 8192) (e : Fin 64) : output x v (ix3 h r e) = ((∑ s, xr h r s * vr h s e : ℝ) : EReal) := by
  unfold output
  pointwise
  exact coe_sum_mul _ _ _ (fun s => xr h r s) (fun s => vr h s e) (hx h r) (fun s => hv h s e)

/-- The rows' log-sums. -/
def lseOf (M l : FVec Ideal S4x8192x1 .f32) : FVec Ideal S4x8192x1 .f32 := addf M (Host.log l)

theorem lseOf_real (hM : ∀ h r, M (ix3 h r 0) = ((Mr h r : ℝ) : EReal)) (hl : ∀ h r, l (ix3 h r 0) = ((lr h r : ℝ) : EReal))
    (h0 : ∀ h r, 0 < lr h r) (h : Fin 4) (r : Fin 8192) : lseOf M l (ix3 h r 0) = ((Mr h r + Real.log (lr h r) : ℝ) : EReal) := by
  unfold lseOf
  pointwise
  rw [hM, hl, EReal.coe_add]
  refine congrArg₂ (· + ·) rfl ((Ideal.log_coe _).trans (if_neg (not_le.mpr (h0 h r))))

end Cert.KernelIdeal.Bwd

end
-- ==== Proof.Bwd.Parts.lean ====
/- What each grid point of the backward call adds to the three gradients, what the result blocks therefore hold after each point, and that the
   body carries this from one point to the next. Everything is over the extended reals, where addition is associative without conditions. -/
module

public import proofs.«01_k».proof.Proof.Bwd.Body
public import Idealize.ShloMosaic.Lib.ValueLayout
public import Idealize.ShloMosaic.Lib.ValueIdx

@[expose] public section

set_option maxRecDepth 16384

noncomputable section

namespace Cert.KernelIdeal.Bwd

open Idealize.ShloMosaic Idealize.ShloMosaic.TcCoe Idealize.ShloMosaic.ValueIdx
open Cert.KernelIdeal.Gen

variable (m : (ℓ : Loc nD τ sig) → Buf (Elt Ideal) ℓ) (c : Dev nD)

/-! ## The input blocks of a point and its addends -/

/-- The queries' block. -/
def qBlk (t : Fin grid0.N) : Vec Ideal S1x1024x96 .bf16 := iblk m c 0 t
/-- The keys' block. -/
def kBlk (t : Fin grid0.N) : Vec Ideal S1x2048x96 .bf16 := iblk m c 1 t
/-- The values' block. -/
def vBlk (t : Fin grid0.N) : Vec Ideal S1x2048x64 .bf16 := iblk m c 2 t
/-- The block of the forward pass's output. -/
def oBlk (t : Fin grid0.N) : Vec Ideal S1x1024x64 .f32 := iblk m c 3 t
/-- The block of the rows' log-sums. -/
def lseBlk (t : Fin grid0.N) : Vec Ideal S1x1024x1 .f32 := iblk m c 4 t
/-- The block of the output's cotangent. -/
def doBlk (t : Fin grid0.N) : Vec Ideal S1x1024x64 .f32 := iblk m c 5 t

/-- What point `t` adds to the query block's rows of q's gradient. -/
def dqPart (t : Fin grid0.N) : FVec Ideal S1024x96 .f32 :=
  k0_pay2 (k0_pay10 (kBlk m c t)) (k0_pay14 (qBlk m c t) (kBlk m c t) (vBlk m c t) (doBlk m c t) (lseBlk m c t) (oBlk m c t))
/-- What point `t` adds to the key block's rows of k's gradient. -/
def dkPart (t : Fin grid0.N) : FVec Ideal S2048x96 .f32 :=
  k0_pay1 (k0_pay16 (qBlk m c t) (kBlk m c t) (vBlk m c t) (doBlk m c t) (lseBlk m c t) (oBlk m c t))
/-- What point `t` adds to the key block's rows of v's gradient. -/
def dvPart (t : Fin grid0.N) : FVec Ideal S2048x64 .f32 :=
  k0_pay15 (qBlk m c t) (kBlk m c t) (doBlk m c t) (lseBlk m c t)

/-- `dqPart` at a number, zero beyond the grid. -/
def dqAt (n : ℕ) (r : Fin 1024) (d : Fin 96) : EReal := if h : n < grid0.N then dqPart m c ⟨n, h⟩ (ix2 r d) else 0
/-- `dkPart` at a number, zero beyond the grid. -/
def dkAt (n : ℕ) (r : Fin 2048) (d : Fin 96) : EReal := if h : n < grid0.N then dkPart m c ⟨n, h⟩ (ix2 r d) else 0
/-- `dvPart` at a number, zero beyond the grid. -/
def dvAt (n : ℕ) (r : Fin 2048) (d : Fin 64) : EReal := if h : n < grid0.N then dvPart m c ⟨n, h⟩ (ix2 r d) else 0

theorem dqAt_val (t : Fin grid0.N) (r : Fin 1024) (d : Fin 96) : dqAt m c t.val r d = dqPart m c t (ix2 r d) := dif_pos t.isLt
theorem dkAt_val (t : Fin grid0.N) (r : Fin 2048) (d : Fin 96) : dkAt m c t.val r d = dkPart m c t (ix2 r d) := dif_pos t.isLt
theorem dvAt_val (t : Fin grid0.N) (r : Fin 2048) (d : Fin 64) : dvAt m c t.val r d = dvPart m c t (ix2 r d) := dif_pos t.isLt

/-! ## What the result blocks hold after a point -/

/-- How many key blocks have been added into query block `b`'s rows after point `t`. -/
def added (t b : ℕ) : ℕ := t / 8 % 4 + if b ≤ t % 8 then 1 else 0

/-- q's gradient after point `t`: the rows of a query block already met hold the sum of what was added to them. -/
def Holds6 (t : ℕ) (X : Vec Ideal S1x8192x96 .f32) : Prop :=
  ∀ (r : Fin 8192) (d : Fin 96), 0 < added t (r.val / 1024) →
    X (ix3 0 r d) = ∑ j ∈ Finset.range (added t (r.val / 1024)),
      dqAt m c (32 * (t / 32) + 8 * j + r.val / 1024) ⟨r.val % 1024, Nat.mod_lt _ (by decide)⟩ d

/-- k's gradient after point `t`. -/
def Holds7 (t : ℕ) (X : Vec Ideal S1x2048x96 .f32) : Prop :=
  ∀ (r : Fin 2048) (d : Fin 96), X (ix3 0 r d) = ∑ i ∈ Finset.range (t % 8 + 1), dkAt m c (8 * (t / 8) + i) r d

/-- v's gradient after point `t`. -/
def Holds8 (t : ℕ) (X : Vec Ideal S1x2048x64 .f32) : Prop :=
  ∀ (r : Fin 2048) (d : Fin 64), X (ix3 0 r d) = ∑ i ∈ Finset.range (t % 8 + 1), dvAt m c (8 * (t / 8) + i) r d

/-! ## The body carries it on -/

theorem holds7_step (t : Fin grid0.N) (Y : Vec Ideal S1x2048x96 .f32) (hY : t.val % 8 ≠ 0 → Holds7 m c (t.val - 1) Y) :
    Holds7 m c t.val (left7 (grid0.coords t) (qBlk m c t) (kBlk m c t) (vBlk m c t) (oBlk m c t) (lseBlk m c t) (doBlk m c t) Y) := by
  intro r d
  unfold left7
  by_cases h : t.val % 8 = 0
  · rw [if_pos ((first_query t).mpr h), h]
    unfold k0_pay3
    refine (shapeCast_ab_1ab_apply _ _ _ _ _).trans ?_
    rw [zero_add, Finset.sum_range_one, show 8 * (t.val / 8) + 0 = t.val by omega, dkAt_val]
    rfl
  · rw [if_neg (fun e => h ((first_query t).mp e))]
    unfold k0_pay5
    refine (shapeCast_ab_1ab_apply _ _ _ _ _).trans ?_
    refine (addf_apply _ _ _).trans ?_
    rw [Finset.sum_range_succ, show 8 * (t.val / 8) + t.val % 8 = t.val by omega, dkAt_val]
    refine congrArg₂ (· + ·) ?_ rfl
    refine (shapeCast_1ab_ab_apply _ _ _ _).trans ((hY h r d).trans ?_)
    rw [show (t.val - 1) % 8 + 1 = t.val % 8 by omega, show (t.val - 1) / 8 = t.val / 8 by omega]

theorem holds8_step (t : Fin grid0.N) (Y : Vec Ideal S1x2048x64 .f32) (hY : t.val % 8 ≠ 0 → Holds8 m c (t.val - 1) Y) :
    Holds8 m c t.val (left8 (grid0.coords t) (qBlk m c t) (kBlk m c t) (lseBlk m c t) (doBlk m c t) Y) := by
  intro r d
  unfold left8
  by_cases h : t.val % 8 = 0
  · rw [if_pos ((first_query t).mpr h), h]
    unfold k0_pay4
    refine (shapeCast_ab_1ab_apply _ _ _ _ _).trans ?_
    rw [zero_add, Finset.sum_range_one, show 8 * (t.val / 8) + 0 = t.val by omega, dvAt_val]
    rfl
  · rw [if_neg (fun e => h ((first_query t).mp e))]
    unfold k0_pay6
    refine (shapeCast_ab_1ab_apply _ _ _ _ _).trans ?_
    refine (addf_apply _ _ _).trans ?_
    rw [Finset.sum_range_succ, show 8 * (t.val / 8) + t.val % 8 = t.val by omega, dvAt_val]
    refine congrArg₂ (· + ·) ?_ rfl
    refine (shapeCast_1ab_ab_apply _ _ _ _).trans ((hY h r d).trans ?_)
    rw [show (t.val - 1) % 8 + 1 = t.val % 8 by omega, show (t.val - 1) / 8 = t.val / 8 by omega]

/-- The query block of a point. -/
theorem query_block (t : Fin grid0.N) : (grid0.coords t 2).val = t.val % 8 :=
  (by decide +kernel : ∀ t : Fin grid0.N, (grid0.coords t 2).val = t.val % 8) t

/-- Rows put into the head's block, read inside them. -/
theorem put_rows_inside (t : Fin grid0.N) (Y : Vec Ideal S1x8192x96 .f32) (w : Vec Ideal S1x1024x96 .f32) (r : Fin 8192) (d : Fin 96)
    (h : r.val / 1024 = t.val % 8) :
    VecWindow.put Y ![0, 1024 * (grid0.coords t 2).val, 0] S1x1024x96.size w (ix3 0 r d)
      = w (ix3 0 ⟨r.val % 1024, Nat.mod_lt _ (by decide)⟩ d) := by
  have hq := query_block t
  have hd := d.isLt
  unfold VecWindow.put
  rw [dif_pos (by
    intro a; fin_cases a
    · exact ⟨le_refl 0, Nat.zero_lt_one⟩
    · show 1024 * (grid0.coords t 2).val ≤ r.val ∧ r.val < 1024 * (grid0.coords t 2).val + 1024
      omega
    · exact ⟨Nat.zero_le _, by show d.val < 0 + 96; omega⟩)]
  refine congrArg w (funext fun a => Fin.ext ?_)
  fin_cases a
  · rfl
  · show r.val - 1024 * (grid0.coords t 2).val = r.val % 1024
    omega
  · rfl

/-- Rows put into the head's block, read outside them. -/
theorem put_rows_outside (t : Fin grid0.N) (Y : Vec Ideal S1x8192x96 .f32) (w : Vec Ideal S1x1024x96 .f32) (r : Fin 8192) (d : Fin 96)
    (h : r.val / 1024 ≠ t.val % 8) :
    VecWindow.put Y ![0, 1024 * (grid0.coords t 2).val, 0] S1x1024x96.size w (ix3 0 r d) = Y (ix3 0 r d) := by
  have hq := query_block t
  unfold VecWindow.put
  rw [dif_neg (by
    intro e
    have e1 : 1024 * (grid0.coords t 2).val ≤ r.val ∧ r.val < 1024 * (grid0.coords t 2).val + 1024 := e 1
    omega)]

/-- The query block's rows of the head's block, read at a row. -/
theorem rowsOf_apply (t : Fin grid0.N) (Y : Vec Ideal S1x8192x96 .f32) (r : Fin 8192) (d : Fin 96) (h : r.val / 1024 = t.val % 8) :
    rowsOf (grid0.coords t) Y (ix3 0 ⟨r.val % 1024, Nat.mod_lt _ (by decide)⟩ d) = Y (ix3 0 r d) := by
  have hq := query_block t
  unfold rowsOf VecWindow.window
  refine congrArg Y (funext fun a => Fin.ext ?_)
  fin_cases a
  · rfl
  · show 1024 * (grid0.coords t 2).val + 1 * (r.val % 1024) = r.val
    omega
  · show 0 + 1 * d.val = d.val
    omega

theorem holds6_step (t : Fin grid0.N) (Y : Vec Ideal S1x8192x96 .f32) (hY : t.val % 32 ≠ 0 → Holds6 m c (t.val - 1) Y) :
    Holds6 m c t.val (left6 (grid0.coords t) (qBlk m c t) (kBlk m c t) (vBlk m c t) (oBlk m c t) (lseBlk m c t) (doBlk m c t) Y) := by
  intro r d hpos
  have hr : r.val / 1024 < 8 := by have := r.isLt; omega
  unfold left6
  by_cases hb : r.val / 1024 = t.val % 8
  · rw [put_rows_inside t Y _ r d hb]
    by_cases h : t.val / 8 % 4 = 0
    · rw [if_pos ((first_key t).mpr h)]
      have hn : added t.val (r.val / 1024) = 1 := by unfold added; rw [h, if_pos (by omega)]
      unfold k0_pay7
      refine (shapeCast_ab_1ab_apply _ _ _ _ _).trans ?_
      rw [hn, Finset.sum_range_one, show 32 * (t.val / 32) + 8 * 0 + r.val / 1024 = t.val by omega, dqAt_val]
      rfl
    · rw [if_neg (fun e => h ((first_key t).mp e))]
      have hn : added t.val (r.val / 1024) = t.val / 8 % 4 + 1 := by unfold added; rw [if_pos (by omega)]
      have hn' : added (t.val - 1) (r.val / 1024) = t.val / 8 % 4 := by
        unfold added; split_ifs <;> omega
      unfold k0_pay8
      refine (shapeCast_ab_1ab_apply _ _ _ _ _).trans ?_
      refine (addf_apply _ _ _).trans ?_
      rw [hn, Finset.sum_range_succ, show 32 * (t.val / 32) + 8 * (t.val / 8 % 4) + r.val / 1024 = t.val by omega, dqAt_val]
      refine congrArg₂ (· + ·) ?_ rfl
      refine (shapeCast_1ab_ab_apply _ _ _ _).trans ((rowsOf_apply t Y r d hb).trans ?_)
      rw [hY (by omega) r d (by omega), hn', show (t.val - 1) / 32 = t.val / 32 by omega]
  · rw [put_rows_outside t Y _ r d hb]
    have h32 : t.val % 32 ≠ 0 := by
      intro e; unfold added at hpos; split_ifs at hpos <;> omega
    have hn : added (t.val - 1) (r.val / 1024) = added t.val (r.val / 1024) := by
      unfold added; split_ifs <;> omega
    rw [hY h32 r d (by omega), hn, show (t.val - 1) / 32 = t.val / 32 by omega]

end Cert.KernelIdeal.Bwd

end
-- ==== Proof.Bwd.Entry.lean ====
/- What the backward call is entered with, entry by entry: the arguments' arrays and the two arrays the host computes, and each grid point's
   blocks of them. -/
module

public import proofs.«01_k».proof.Proof.Bwd.Host
public import proofs.«01_k».proof.Proof.Bwd.Parts

@[expose] public section

set_option maxRecDepth 16384

noncomputable section

namespace Cert.KernelIdeal.Bwd

open Idealize.ShloMosaic Idealize.ShloMosaic.TcCoe
open Cert.KernelIdeal.Gen Cert.Softmax

variable (m : (ℓ : Loc nD τ sig) → Buf (Elt Ideal) ℓ) (c : Dev nD)

/-! ## The arguments, and what the host makes of them -/

/-- The queries as launched. -/
def argQ : FVec Ideal S4x8192x96 .bf16 := m ((c.tc : Thread nD τ).loc main_arg0)
/-- The keys as launched. -/
def argK : FVec Ideal S4x8192x96 .bf16 := m ((c.tc : Thread nD τ).loc main_arg1)
/-- The values as launched. -/
def argV : FVec Ideal S4x8192x64 .bf16 := m ((c.tc : Thread nD τ).loc main_arg2)
/-- The cotangent as launched. -/
def argG : FVec Ideal S4x8192x64 .f32 := m ((c.tc : Thread nD τ).loc main_arg3)

theorem V_output : V m c main_v15
    = output (probs (expo (logits (argQ m c) (argK m c)) (rowMax (logits (argQ m c) (argK m c))))
        (rowSum (expo (logits (argQ m c) (argK m c)) (rowMax (logits (argQ m c) (argK m c)))))) (argV m c) := by
  entry_read; rfl

theorem V_lse : V m c main_v17
    = lseOf (rowMax (logits (argQ m c) (argK m c)))
        (rowSum (expo (logits (argQ m c) (argK m c)) (rowMax (logits (argQ m c) (argK m c))))) := by
  entry_read; rfl

/-- The arguments' entries are these real numbers. -/
structure Reads (qr kr : Fin 4 → Fin 8192 → Fin 96 → ℝ) (vr gr : Fin 4 → Fin 8192 → Fin 64 → ℝ) : Prop where
  q : ∀ h r d, argQ m c (ix3 h r d) = ((qr h r d : ℝ) : EReal)
  k : ∀ h s d, argK m c (ix3 h s d) = ((kr h s d : ℝ) : EReal)
  v : ∀ h s e, argV m c (ix3 h s e) = ((vr h s e : ℝ) : EReal)
  g : ∀ h r e, argG m c (ix3 h r e) = ((gr h r e : ℝ) : EReal)

variable {m c} {qr kr : Fin 4 → Fin 8192 → Fin 96 → ℝ} {vr gr : Fin 4 → Fin 8192 → Fin 64 → ℝ}

/-- The attention's output and log-sums, from one shift `Mr` of every row. -/
theorem Reads.saved (H : Reads m c qr kr vr gr) : ∃ Mr : Fin 4 → Fin 8192 → ℝ,
    (∀ h r e, V m c main_v15 (ix3 h r e) = ((∑ s, soft (logit qr kr h r) s * vr h s e : ℝ) : EReal))
    ∧ ∀ h r, V m c main_v17 (ix3 h r 0) = ((Mr h r + Real.log (∑ s, Real.exp (logit qr kr h r s - Mr h r)) : ℝ) : EReal) := by
  have hL := logits_real H.q H.k
  obtain ⟨Mr, hM⟩ := rowMax_real hL
  have hE := expo_real hL hM
  have hS := rowSum_real hE
  have hpos : ∀ h r, 0 < ∑ s, Real.exp (logit qr kr h r s - Mr h r) := fun h r => sum_exp_pos _
  have hP := probs_real hE hS fun h r => (hpos h r).ne'
  refine ⟨Mr, fun h r e => ?_, fun h r => ?_⟩
  · rw [V_output, output_real hP H.v]
    simp only [soft_shift]
  · rw [V_lse, lseOf_real hM hS hpos]

/-! ## A point's blocks -/

/-- The head of a point. -/
def headOf (t : Fin grid0.N) : Fin 4 := ⟨t.val / 32, by have : t.val < 128 := t.isLt; omega⟩
/-- A row of the array, from a row of the point's query block. -/
def rowOf (t : Fin grid0.N) (r : Fin 1024) : Fin 8192 := ⟨1024 * (t.val % 8) + r.val, by have := r.isLt; omega⟩
/-- A row of the array, from a row of the point's key block. -/
def colOf (t : Fin grid0.N) (s : Fin 2048) : Fin 8192 := ⟨2048 * (t.val / 8 % 4) + s.val, by have := s.isLt; omega⟩

theorem index0 (t : Fin grid0.N) : win0_0.index t 0 = t.val / 32 ∧ win0_0.index t 1 = t.val % 8 ∧ win0_0.index t 2 = 0 :=
  (by decide +kernel : ∀ t : Fin grid0.N, win0_0.index t 0 = t.val / 32 ∧ win0_0.index t 1 = t.val % 8 ∧ win0_0.index t 2 = 0) t
theorem index1 (t : Fin grid0.N) : win0_1.index t 0 = t.val / 32 ∧ win0_1.index t 1 = t.val / 8 % 4 ∧ win0_1.index t 2 = 0 :=
  (by decide +kernel : ∀ t : Fin grid0.N, win0_1.index t 0 = t.val / 32 ∧ win0_1.index t 1 = t.val / 8 % 4 ∧ win0_1.index t 2 = 0) t
theorem index2 (t : Fin grid0.N) : win0_2.index t 0 = t.val / 32 ∧ win0_2.index t 1 = t.val / 8 % 4 ∧ win0_2.index t 2 = 0 :=
  (by decide +kernel : ∀ t : Fin grid0.N, win0_2.index t 0 = t.val / 32 ∧ win0_2.index t 1 = t.val / 8 % 4 ∧ win0_2.index t 2 = 0) t
theorem index3 (t : Fin grid0.N) : win0_3.index t 0 = t.val / 32 ∧ win0_3.index t 1 = t.val % 8 ∧ win0_3.index t 2 = 0 :=
  (by decide +kernel : ∀ t : Fin grid0.N, win0_3.index t 0 = t.val / 32 ∧ win0_3.index t 1 = t.val % 8 ∧ win0_3.index t 2 = 0) t
theorem index4 (t : Fin grid0.N) : win0_4.index t 0 = t.val / 32 ∧ win0_4.index t 1 = t.val % 8 ∧ win0_4.index t 2 = 0 :=
  (by decide +kernel : ∀ t : Fin grid0.N, win0_4.index t 0 = t.val / 32 ∧ win0_4.index t 1 = t.val % 8 ∧ win0_4.index t 2 = 0) t
theorem index5 (t : Fin grid0.N) : win0_5.index t 0 = t.val / 32 ∧ win0_5.index t 1 = t.val % 8 ∧ win0_5.index t 2 = 0 :=
  (by decide +kernel : ∀ t : Fin grid0.N, win0_5.index t 0 = t.val / 32 ∧ win0_5.index t 1 = t.val % 8 ∧ win0_5.index t 2 = 0) t

theorem qBlk_apply (t : Fin grid0.N) (r : Fin 1024) (d : Fin 96) : qBlk m c t (ix3 0 r d) = argQ m c (ix3 (headOf t) (rowOf t r) d) := by
  obtain ⟨e0, e1, e2⟩ := index0 t
  rw [show argQ m c = V m c main_arg0 from (V_main_arg0 m c).symm]
  unfold qBlk
  blk_ext [iblk, e0, e1, e2, headOf, rowOf]

theorem kBlk_apply (t : Fin grid0.N) (s : Fin 2048) (d : Fin 96) : kBlk m c t (ix3 0 s d) = argK m c (ix3 (headOf t) (colOf t s) d) := by
  obtain ⟨e0, e1, e2⟩ := index1 t
  rw [show argK m c = V m c main_arg1 from (V_main_arg1 m c).symm]
  unfold kBlk
  blk_ext [iblk, e0, e1, e2, headOf, colOf]

theorem vBlk_apply (t : Fin grid0.N) (s : Fin 2048) (d : Fin 64) : vBlk m c t (ix3 0 s d) = argV m c (ix3 (headOf t) (colOf t s) d) := by
  obtain ⟨e0, e1, e2⟩ := index2 t
  rw [show argV m c = V m c main_arg2 from (V_main_arg2 m c).symm]
  unfold vBlk
  blk_ext [iblk, e0, e1, e2, headOf, colOf]

/-- The output's block of any array. -/
theorem blk3_apply (t : Fin grid0.N) (A : Vec Ideal S4x8192x64 .f32) (r : Fin 1024) (d : Fin 64) :
    ((cfg0.win 3).blk t).view.read (Elt Ideal) A (ix3 0 r d) = A (ix3 (headOf t) (rowOf t r) d) := by
  obtain ⟨e0, e1, e2⟩ := index3 t
  blk_ext [e0, e1, e2, headOf, rowOf]

theorem oBlk_apply (t : Fin grid0.N) (r : Fin 1024) (d : Fin 64) : oBlk m c t (ix3 0 r d) = V m c main_v15 (ix3 (headOf t) (rowOf t r) d) := by
  unfold oBlk iblk V
  generalize StableHlo.after hostOps0 (fun b => m (c, b)) = W
  exact blk3_apply t (W (Pipeline.arrRef spec0 3)) r d

/-- The log-sums' block of any array. -/
theorem blk4_apply (t : Fin grid0.N) (A : Vec Ideal S4x8192x1 .f32) (r : Fin 1024) :
    ((cfg0.win 4).blk t).view.read (Elt Ideal) A (ix3 0 r 0) = A (ix3 (headOf t) (rowOf t r) 0) := by
  obtain ⟨e0, e1, e2⟩ := index4 t
  blk_ext [e0, e1, e2, headOf, rowOf]

theorem lseBlk_apply (t : Fin grid0.N) (r : Fin 1024) : lseBlk m c t (ix3 0 r 0) = V m c main_v17 (ix3 (headOf t) (rowOf t r) 0) := by
  unfold lseBlk iblk V
  generalize StableHlo.after hostOps0 (fun b => m (c, b)) = W
  exact blk4_apply t (W (Pipeline.arrRef spec0 4)) r

theorem doBlk_apply (t : Fin grid0.N) (r : Fin 1024) (d : Fin 64) : doBlk m c t (ix3 0 r d) = argG m c (ix3 (headOf t) (rowOf t r) d) := by
  obtain ⟨e0, e1, e2⟩ := index5 t
  rw [show argG m c = V m c main_arg3 from (V_main_arg3 m c).symm]
  unfold doBlk
  blk_ext [iblk, e0, e1, e2, headOf, rowOf]

end Cert.KernelIdeal.Bwd

end
-- ==== Proof.Bwd.Run.lean ====
/- The backward call's run over the extended reals: the proof data of its pipeline, the body's obligation at every grid point, and the launch. -/
module

public import proofs.«01_k».proof.Proof.Bwd.Parts
public import Idealize.ShloMosaic.Lib.Pipeline.DatRel
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The proof data -/

/-- The result windows: what the body leaves there is held to a predicate. -/
def isResult : Fin 9 → Bool := fun w => w.val == 6 || w.val == 7 || w.val == 8

/-- What the body leaves in each result window at each point. -/
def holds (c : Dev nD) : (w : Fin cfg0.W) → Fin cfg0.N → ((cfg0.win w).block.Idx → Elt Ideal (cfg0.win w).elt) → Prop := fun w t =>
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Holds6 m c t.val X
  | ⟨7, _⟩ => fun X => Holds7 m c t.val X
  | ⟨8, _⟩ => fun X => Holds8 m c t.val X

/-- The arrays as the region finds them, each input's buffer at its block throughout. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same, with the result windows held to `holds`. -/
def rdat (c : Dev nD) : RDat τ (Elt Ideal) Unit ℕ (UR sig nD τ) ℕ cfg0 c := (dats m 0 c).toRRel isResult (holds m c)

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d

/-! ## What the body finds in the result windows -/

theorem found6 (c : Dev nD) (t : Fin cfg0.N) (Y : Vec Ideal S1x8192x96 .f32) (hF : (rdat m c).Finds 6 t Y) (h : t.val % 32 ≠ 0) :
    Holds6 m c (t.val - 1) Y := by
  have hX := (RDat.finds_of_pos (rdat m c) (w := 6) (t := t) rfl (by omega) Y).mp hF
  rcases hX with hX | hX
  · have := (flush0_6 _).mp hX
    dsimp only at this
    omega
  · exact (dats m 0 c).toRRel_leaves (w := 6) rfl hX

theorem found7 (c : Dev nD) (t : Fin cfg0.N) (Y : Vec Ideal S1x2048x96 .f32) (hF : (rdat m c).Finds 7 t Y) (h : t.val % 8 ≠ 0) :
    Holds7 m c (t.val - 1) Y := by
  have hX := (RDat.finds_of_pos (rdat m c) (w := 7) (t := t) rfl (by omega) Y).mp hF
  rcases hX with hX | hX
  · have := (flush0_7 _).mp hX
    dsimp only at this
    omega
  · exact (dats m 0 c).toRRel_leaves (w := 7) rfl hX

theorem found8 (c : Dev nD) (t : Fin cfg0.N) (Y : Vec Ideal S1x2048x64 .f32) (hF : (rdat m c).Finds 8 t Y) (h : t.val % 8 ≠ 0) :
    Holds8 m c (t.val - 1) Y := by
  have hX := (RDat.finds_of_pos (rdat m c) (w := 8) (t := t) rfl (by omega) Y).mp hF
  rcases hX with hX | hX
  · have := (flush0_8 _).mp hX
    dsimp only at this
    omega
  · exact (dats m 0 c).toRRel_leaves (w := 8) rfl hX

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜holds m c 6 t X⌝ ∗ owns (c : Thread nD τ) (st0_6 t) fullShare X)
    ∗ (∃ X, ⌜holds m c 7 t X⌝ ∗ owns (c : Thread nD τ) (st0_7 t) fullShare X)
    ∗ (∃ X, ⌜holds m c 8 t X⌝ ∗ owns (c : Thread nD τ) (st0_8 t) fullShare X))

set_option maxHeartbeats 3200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [dats_before0, dats_before1, dats_before2, dats_before3, dats_before4, dats_before5]
  rw [dats_after0, dats_after1, dats_after2, dats_after3, dats_after4, dats_after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
  iapply (run_body c (grid0.coords t) _ _ _ _ _ _ _ _ _ _ _ _ _ _ _ _ _ _ ((later_query t).trans (not_congr (first_query t)).symm)
    ((later_key t).trans (not_congr (first_key t)).symm) (qBlk m c t) (kBlk m c t) (vBlk m c t) (oBlk m c t) (lseBlk m c t) (doBlk m c t) Y6 Y7 Y8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact holds6_step m c t Y6 (found6 m c t Y6 hY6)
  isplitl [H7]
  · iexists _; isplitr; swap; · iexact H7
    ipureintro; exact holds7_step m c t Y7 (found7 m c t Y7 hY7)
  iexists _; isplitr; swap; · iexact H8
  ipureintro; exact holds8_step m c t Y8 (found8 m c t Y8 hY8)

theorem body_row (t : Fin cfg0.N) : defs₀ (F := Ideal) .tc cfg0.body (cfg0.bodyArgs t (cfg0.slots t)) = bodyAt0 t := by
  unfold defs₀; rw [Defs.onTc_tc]

theorem body_obligation (c : Dev nD) :
    BodyObligationRel (dats m 0 c) (defs₀ (F := Ideal)) Variants.none () Set.univ isResult (holds m c) := fun t => by
  rw [bigSep_W0, bigSep_W0, body_row]
  exact triple_restated (sound_body m c t) rfl .rfl fun _ => .rfl

/-! ## The launch -/

set_option backward.isDefEq.respectTransparency.types false in
/-- Every execution ends, with the arrays at what the proof data say of them and every counter at zero. -/
theorem run_main : θ_run defs (onTc (τ := τ) (main (F := Ideal))) (s₀ m ρ)
    (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := dats_A m) (hΦ := fun _ _ => rfl)

/-- The argument arrays after the run. -/
theorem args_kept (c : Dev nD) (r : PUnit × MemSt nD τ sig (Elt Ideal)) (h : RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((dats_A m c 0).trans (V_main_arg0 m c)),
    (RDat.FramePost.arr_in h c 1 rfl).trans ((dats_A m c 1).trans (V_main_arg1 m c)),
    (RDat.FramePost.arr_in h c 2 rfl).trans ((dats_A m c 2).trans (V_main_arg2 m c)),
    (RDat.FramePost.arr_in h c 5 rfl).trans ((dats_A m c 5).trans (V_main_arg3 m c))⟩

/-- The frame of the idealized program. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.KernelIdeal.Bwd

end
-- ==== Proof.Bwd.Grad.lean ====
/- The backward call's results in closed form: what every grid point adds, summed over the points that add to an entry, is the gradient of
   attention with softmax. -/
module

public import proofs.«01_k».proof.Proof.Bwd.Entry
public import proofs.«01_k».proof.Proof.Bwd.Run
public import Idealize.ShloMosaic.Lib.Pipeline.ArrRel

@[expose] public section

set_option maxRecDepth 16384

noncomputable section

namespace Cert.KernelIdeal.Bwd

open Idealize.ShloMosaic Idealize.ShloMosaic.TcCoe
open Idealize.ShloMosaic.Pipeline (Dat RDat Cfg Window)
open Cert.KernelIdeal.Gen Cert.Softmax

/-! ## The gradient over the reals -/

section Gradient

variable (qr kr : Fin 4 → Fin 8192 → Fin 96 → ℝ) (vr gr : Fin 4 → Fin 8192 → Fin 64 → ℝ)

/-- The gradient of the probabilities. -/
def dprob (h : Fin 4) (r s : Fin 8192) : ℝ := ∑ e, gr h r e * vr h s e

/-- The gradient of the softmax's argument. -/
def dsoft (h : Fin 4) (r s : Fin 8192) : ℝ := softGrad (logit qr kr h r) (dprob vr gr h r) s

/-- q's gradient. -/
def gradQ (h : Fin 4) (r : Fin 8192) (d : Fin 96) : ℝ := (∑ s, dsoft qr kr vr gr h r s * kr h s d) * scale
/-- k's gradient. -/
def gradK (h : Fin 4) (s : Fin 8192) (d : Fin 96) : ℝ := (∑ r, dsoft qr kr vr gr h r s * qr h r d) * scale
/-- v's gradient. -/
def gradV (h : Fin 4) (s : Fin 8192) (e : Fin 64) : ℝ := ∑ r, soft (logit qr kr h r) s * gr h r e

end Gradient

variable {m : (ℓ : Loc nD τ sig) → Buf (Elt Ideal) ℓ} {c : Dev nD}
  {qr kr : Fin 4 → Fin 8192 → Fin 96 → ℝ} {vr gr : Fin 4 → Fin 8192 → Fin 64 → ℝ}

/-! ## A point's addends -/

/-- A point's addends, from the whole arrays. -/
theorem Reads.parts (H : Reads m c qr kr vr gr) (t : Fin grid0.N) :
    (∀ r d, dqPart m c t (ix2 r d) = (((∑ s, dsoft qr kr vr gr (headOf t) (rowOf t r) (colOf t s) * kr (headOf t) (colOf t s) d) * scale : ℝ) : EReal))
    ∧ (∀ s d, dkPart m c t (ix2 s d) = (((∑ r, dsoft qr kr vr gr (headOf t) (rowOf t r) (colOf t s) * qr (headOf t) (rowOf t r) d) * scale : ℝ) : EReal))
    ∧ ∀ s e, dvPart m c t (ix2 s e) = ((∑ r, soft (logit qr kr (headOf t) (rowOf t r)) (colOf t s) * gr (headOf t) (rowOf t r) e : ℝ) : EReal) := by
  obtain ⟨Mr, ho, hl⟩ := H.saved
  have h0 := fun r d => (qBlk_apply t r d).trans (H.q (headOf t) (rowOf t r) d)
  have h1 := fun s d => (kBlk_apply t s d).trans (H.k (headOf t) (colOf t s) d)
  have h2 := fun s e => (vBlk_apply t s e).trans (H.v (headOf t) (colOf t s) e)
  have h3 := fun r e => (oBlk_apply t r e).trans (ho (headOf t) (rowOf t r) e)
  have h4 := fun r => (lseBlk_apply t r).trans (hl (headOf t) (rowOf t r))
  have h5 := fun r e => (doBlk_apply t r e).trans (H.g (headOf t) (rowOf t r) e)
  have hp : ∀ r s, prob (fun r d => qr (headOf t) (rowOf t r) d) (fun s d => kr (headOf t) (colOf t s) d)
      (fun r => Mr (headOf t) (rowOf t r) + Real.log (∑ s, Real.exp (logit qr kr (headOf t) (rowOf t r) s - Mr (headOf t) (rowOf t r)))) r s
      = soft (logit qr kr (headOf t) (rowOf t r)) (colOf t s) := fun r s => soft_lse (logit qr kr (headOf t) (rowOf t r)) _ _
  have hd : ∀ r s, dlog (fun r d => qr (headOf t) (rowOf t r) d) (fun s d => kr (headOf t) (colOf t s) d)
      (fun s e => vr (headOf t) (colOf t s) e)
      (fun r e => ∑ s, soft (logit qr kr (headOf t) (rowOf t r)) s * vr (headOf t) s e) (fun r e => gr (headOf t) (rowOf t r) e)
      (fun r => Mr (headOf t) (rowOf t r) + Real.log (∑ s, Real.exp (logit qr kr (headOf t) (rowOf t r) s - Mr (headOf t) (rowOf t r)))) r s
      = dsoft qr kr vr gr (headOf t) (rowOf t r) (colOf t s) := fun r s => by
    unfold dlog dsoft softGrad dprob
    rw [hp, sum_output]
  refine ⟨fun r d => (dq_real h0 h1 h2 h3 h4 h5 r d).trans ?_, fun s d => (dk_real h0 h1 h2 h3 h4 h5 s d).trans ?_,
    fun s e => (dv_real h0 h1 h4 h5 s e).trans ?_⟩
  · simp only [hd]
  · simp only [hd]
  · simp only [hp]

/-! ## The sums over the points -/

/-- The row of the array that a block of 1024 rows has at a place. -/
def row8 (i : Fin 8) (r : Fin 1024) : Fin 8192 := ⟨i.val * 1024 + r.val, by have := i.isLt; have := r.isLt; omega⟩
/-- The row of the array that a block of 2048 rows has at a place. -/
def row4 (j : Fin 4) (s : Fin 2048) : Fin 8192 := ⟨j.val * 2048 + s.val, by have := j.isLt; have := s.isLt; omega⟩

theorem sum_row8 (f : Fin 8192 → ℝ) : ∑ i, ∑ r, f (row8 i r) = ∑ r, f r := Fin.sum_mul_add_fin 8 1024 f
theorem sum_row4 (f : Fin 8192 → ℝ) : ∑ j, ∑ s, f (row4 j s) = ∑ s, f s := Fin.sum_mul_add_fin 4 2048 f

/-- The point of a head, a key block and a query block. -/
def pointOf (h j : Fin 4) (i : Fin 8) : Fin grid0.N :=
  ⟨32 * h.val + 8 * j.val + i.val, by have := h.isLt; have := j.isLt; have := i.isLt; show _ < 128; omega⟩

theorem headOf_pointOf (h j : Fin 4) (i : Fin 8) : headOf (pointOf h j i) = h := by
  have := h.isLt; have := j.isLt; have := i.isLt
  exact Fin.ext (by show (32 * h.val + 8 * j.val + i.val) / 32 = h.val; omega)
theorem rowOf_pointOf (h j : Fin 4) (i : Fin 8) (r : Fin 1024) : rowOf (pointOf h j i) r = row8 i r := by
  have := h.isLt; have := j.isLt; have := i.isLt
  exact Fin.ext (by show 1024 * ((32 * h.val + 8 * j.val + i.val) % 8) + r.val = i.val * 1024 + r.val; omega)
theorem colOf_pointOf (h j : Fin 4) (i : Fin 8) (s : Fin 2048) : colOf (pointOf h j i) s = row4 j s := by
  have := h.isLt; have := j.isLt; have := i.isLt
  exact Fin.ext (by show 2048 * ((32 * h.val + 8 * j.val + i.val) / 8 % 4) + s.val = j.val * 2048 + s.val; omega)

/-- The addends to an entry of q's gradient sum to it. -/
theorem Reads.sum_dq (H : Reads m c qr kr vr gr) (h : Fin 4) (i : Fin 8) (r : Fin 1024) (d : Fin 96) :
    ∑ j ∈ Finset.range 4, dqAt m c (32 * h.val + 8 * j + i.val) r d = ((gradQ qr kr vr gr h (row8 i r) d : ℝ) : EReal) := by
  rw [Finset.sum_range]
  have e : ∀ j : Fin 4, dqAt m c (32 * h.val + 8 * j.val + i.val) r d
      = (((∑ s, dsoft qr kr vr gr h (row8 i r) (row4 j s) * kr h (row4 j s) d) * scale : ℝ) : EReal) := fun j => by
    refine (dqAt_val m c (pointOf h j i) r d).trans (((H.parts (pointOf h j i)).1 r d).trans ?_)
    simp only [headOf_pointOf, rowOf_pointOf, colOf_pointOf]
  rw [Finset.sum_congr rfl fun j _ => e j, coe_sum, ← Finset.sum_mul,
    sum_row4 fun s => dsoft qr kr vr gr h (row8 i r) s * kr h s d]
  rfl

/-- The addends to an entry of k's gradient sum to it. -/
theorem Reads.sum_dk (H : Reads m c qr kr vr gr) (h j : Fin 4) (s : Fin 2048) (d : Fin 96) :
    ∑ i ∈ Finset.range 8, dkAt m c (32 * h.val + 8 * j.val + i) s d = ((gradK qr kr vr gr h (row4 j s) d : ℝ) : EReal) := by
  rw [Finset.sum_range]
  have e : ∀ i : Fin 8, dkAt m c (32 * h.val + 8 * j.val + i.val) s d
      = (((∑ r, dsoft qr kr vr gr h (row8 i r) (row4 j s) * qr h (row8 i r) d) * scale : ℝ) : EReal) := fun i => by
    refine (dkAt_val m c (pointOf h j i) s d).trans (((H.parts (pointOf h j i)).2.1 s d).trans ?_)
    simp only [headOf_pointOf, rowOf_pointOf, colOf_pointOf]
  rw [Finset.sum_congr rfl fun i _ => e i, coe_sum, ← Finset.sum_mul,
    sum_row8 fun r => dsoft qr kr vr gr h r (row4 j s) * qr h r d]
  rfl

/-- The addends to an entry of v's gradient sum to it. -/
theorem Reads.sum_dv (H : Reads m c qr kr vr gr) (h j : Fin 4) (s : Fin 2048) (d : Fin 64) :
    ∑ i ∈ Finset.range 8, dvAt m c (32 * h.val + 8 * j.val + i) s d = ((gradV qr kr gr h (row4 j s) d : ℝ) : EReal) := by
  rw [Finset.sum_range]
  have e : ∀ i : Fin 8, dvAt m c (32 * h.val + 8 * j.val + i.val) s d
      = ((∑ r, soft (logit qr kr h (row8 i r)) (row4 j s) * gr h (row8 i r) d : ℝ) : EReal) := fun i => by
    refine (dvAt_val m c (pointOf h j i) s d).trans (((H.parts (pointOf h j i)).2.2 s d).trans ?_)
    simp only [headOf_pointOf, rowOf_pointOf, colOf_pointOf]
  rw [Finset.sum_congr rfl fun i _ => e i, coe_sum, sum_row8 fun r => soft (logit qr kr h r) (row4 j s) * gr h r d]
  rfl

/-! ## The arrays after the run -/

theorem index6 (t : Fin grid0.N) : win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0) t
theorem index7 (t : Fin grid0.N) : win0_7.index t 0 = t.val / 32 ∧ win0_7.index t 1 = t.val / 8 % 4 ∧ win0_7.index t 2 = 0 :=
  (by decide +kernel : ∀ t : Fin grid0.N, win0_7.index t 0 = t.val / 32 ∧ win0_7.index t 1 = t.val / 8 % 4 ∧ win0_7.index t 2 = 0) t
theorem index8 (t : Fin grid0.N) : win0_8.index t 0 = t.val / 32 ∧ win0_8.index t 1 = t.val / 8 % 4 ∧ win0_8.index t 2 = 0 :=
  (by decide +kernel : ∀ t : Fin grid0.N, win0_8.index t 0 = t.val / 32 ∧ win0_8.index t 1 = t.val / 8 % 4 ∧ win0_8.index t 2 = 0) t

/-- What a block of q's gradient holds when it is written back. -/
theorem Reads.left6 (H : Reads m c qr kr vr gr) (t : Fin grid0.N) (ht : t.val % 32 = 31) (X : Vec Ideal S1x8192x96 .f32) (hX : Holds6 m c t.val X)
    (r : Fin 8192) (d : Fin 96) : X (ix3 0 r d) = ((gradQ qr kr vr gr (headOf t) r d : ℝ) : EReal) := by
  have hr : r.val / 1024 < 8 := by have := r.isLt; omega
  have ha : added t.val (r.val / 1024) = 4 := by unfold added; rw [if_pos (by omega)]; omega
  refine (hX r d (by omega)).trans ?_
  rw [ha, show 32 * (t.val / 32) = 32 * (headOf t).val from rfl]
  refine (H.sum_dq (headOf t) ⟨r.val / 1024, hr⟩ ⟨r.val % 1024, Nat.mod_lt _ (by decide)⟩ d).trans ?_
  rw [show row8 ⟨r.val / 1024, hr⟩ ⟨r.val % 1024, Nat.mod_lt _ (by decide)⟩ = r from Fin.ext (by show r.val / 1024 * 1024 + r.val % 1024 = r.val; omega)]

/-- What a block of k's gradient holds when it is written back. -/
theorem Reads.left7 (H : Reads m c qr kr vr gr) (t : Fin grid0.N) (ht : t.val % 8 = 7) (X : Vec Ideal S1x2048x96 .f32) (hX : Holds7 m c t.val X)
    (s : Fin 2048) (d : Fin 96) : X (ix3 0 s d) = ((gradK qr kr vr gr (headOf t) (colOf t s) d : ℝ) : EReal) := by
  have hj : t.val / 8 % 4 < 4 := Nat.mod_lt _ (by decide)
  refine (hX s d).trans ?_
  rw [ht, show 8 * (t.val / 8) = 32 * (headOf t).val + 8 * (⟨t.val / 8 % 4, hj⟩ : Fin 4).val by
    show 8 * (t.val / 8) = 32 * (t.val / 32) + 8 * (t.val / 8 % 4); omega]
  refine (H.sum_dk (headOf t) ⟨t.val / 8 % 4, hj⟩ s d).trans ?_
  rw [show row4 ⟨t.val / 8 % 4, hj⟩ s = colOf t s from Fin.ext (by show t.val / 8 % 4 * 2048 + s.val = 2048 * (t.val / 8 % 4) + s.val; omega)]

/-- What a block of v's gradient holds when it is written back. -/
theorem Reads.left8 (H : Reads m c qr kr vr gr) (t : Fin grid0.N) (ht : t.val % 8 = 7) (X : Vec Ideal S1x2048x64 .f32) (hX : Holds8 m c t.val X)
    (s : Fin 2048) (d : Fin 64) : X (ix3 0 s d) = ((gradV qr kr gr (headOf t) (colOf t s) d : ℝ) : EReal) := by
  have hj : t.val / 8 % 4 < 4 := Nat.mod_lt _ (by decide)
  refine (hX s d).trans ?_
  rw [ht, show 8 * (t.val / 8) = 32 * (headOf t).val + 8 * (⟨t.val / 8 % 4, hj⟩ : Fin 4).val by
    show 8 * (t.val / 8) = 32 * (t.val / 32) + 8 * (t.val / 8 % 4); omega]
  refine (H.sum_dv (headOf t) ⟨t.val / 8 % 4, hj⟩ s d).trans ?_
  rw [show row4 ⟨t.val / 8 % 4, hj⟩ s = colOf t s from Fin.ext (by show t.val / 8 % 4 * 2048 + s.val = 2048 * (t.val / 8 % 4) + s.val; omega)]

/-- q's gradient as an array. -/
def arrQ (qr kr : Fin 4 → Fin 8192 → Fin 96 → ℝ) (vr gr : Fin 4 → Fin 8192 → Fin 64 → ℝ) : FVec Ideal S4x8192x96 .f32 :=
  fun i => ((gradQ qr kr vr gr (i 0) (i 1) (i 2) : ℝ) : EReal)
/-- k's gradient as an array. -/
def arrK (qr kr : Fin 4 → Fin 8192 → Fin 96 → ℝ) (vr gr : Fin 4 → Fin 8192 → Fin 64 → ℝ) : FVec Ideal S4x8192x96 .f32 :=
  fun i => ((gradK qr kr vr gr (i 0) (i 1) (i 2) : ℝ) : EReal)
/-- v's gradient as an array. -/
def arrV (qr kr : Fin 4 → Fin 8192 → Fin 96 → ℝ) (gr : Fin 4 → Fin 8192 → Fin 64 → ℝ) : FVec Ideal S4x8192x64 .f32 :=
  fun i => ((gradV qr kr gr (i 0) (i 1) (i 2) : ℝ) : EReal)

/-- An index of rank three, from its coordinates. -/
theorem eq_ix3 {a b e : ℕ} (i : (⟨3, ![a, b, e]⟩ : Shape).Idx) (x : Fin a) (y : Fin b) (z : Fin e) (h0 : (i 0).val = x.val) (h1 : (i 1).val = y.val)
    (h2 : (i 2).val = z.val) : i = ix3 x y z := by
  funext k; fin_cases k
  · exact Fin.ext h0
  · exact Fin.ext h1
  · exact Fin.ext h2

/-- The results after the run. -/
theorem Reads.results (H : Reads m c qr kr vr gr) (r : PUnit × MemSt nD τ sig (Elt Ideal))
    (h : RDat.FramePost (cfgs 0) (fun c => rdat m c) (V m) r) :
    r.2.mem ((c.tc : Thread nD τ).loc main_v18_0) = arrQ qr kr vr gr
      ∧ r.2.mem ((c.tc : Thread nD τ).loc main_v18_1) = arrK qr kr vr gr
      ∧ r.2.mem ((c.tc : Thread nD τ).loc main_v18_2) = arrV qr kr gr := by
  obtain ⟨after, hL, hA⟩ := RDat.FramePost.exists_exact h c
  refine ⟨(hA 6).trans ?_, (hA 7).trans ?_, (hA 8).trans ?_⟩
  · refine ((rdat m c).withAfter after).arrAt_eq_of_covers 6 _ (by decide +kernel) fun t hf y => ?_
    have hX := H.left6 t ((flush0_6 t).mp hf) _ ((dats m 0 c).toRRel_leaves (w := 6) rfl (hL 6 t hf))
    obtain ⟨e0, e1, e2⟩ := index6 t
    have hy : y = ix3 0 (⟨(y 1).val, (y 1).isLt⟩ : Fin 8192) (⟨(y 2).val, (y 2).isLt⟩ : Fin 96) :=
      eq_ix3 _ _ _ _ (Nat.lt_one_iff.mp (y 0).isLt) rfl rfl
    have hi : (win0_6.blk t).view.emb y = ix3 (headOf t) (⟨(y 1).val, (y 1).isLt⟩ : Fin 8192) (⟨(y 2).val, (y 2).isLt⟩ : Fin 96) := by
      have h0 : (y 0).val = 0 := Nat.lt_one_iff.mp (y 0).isLt
      refine eq_ix3 _ _ _ _ ?_ ?_ ?_ <;> blk_simp [e0, e1, e2, h0, headOf] <;> omega
    blk_simp
    rw [hi]
    exact (congrArg (after 6 t) hy).trans (hX _ _)
  · refine ((rdat m c).withAfter after).arrAt_eq_of_covers 7 _ (by decide +kernel) fun t hf y => ?_
    have hX := H.left7 t ((flush0_7 t).mp hf) _ ((dats m 0 c).toRRel_leaves (w := 7) rfl (hL 7 t hf))
    obtain ⟨e0, e1, e2⟩ := index7 t
    have hy : y = ix3 0 (⟨(y 1).val, (y 1).isLt⟩ : Fin 2048) (⟨(y 2).val, (y 2).isLt⟩ : Fin 96) :=
      eq_ix3 _ _ _ _ (Nat.lt_one_iff.mp (y 0).isLt) rfl rfl
    have hi : (win0_7.blk t).view.emb y = ix3 (headOf t) (colOf t ⟨(y 1).val, (y 1).isLt⟩ : Fin 8192) (⟨(y 2).val, (y 2).isLt⟩ : Fin 96) := by
      have h0 : (y 0).val = 0 := Nat.lt_one_iff.mp (y 0).isLt
      refine eq_ix3 _ _ _ _ ?_ ?_ ?_
      · blk_simp [e0, h0, headOf]
      · show _ = 2048 * (t.val / 8 % 4) + (y 1).val
        blk_simp [e1]; omega
      · blk_simp [e2]
    blk_simp
    rw [hi]
    exact (congrArg (after 7 t) hy).trans (hX _ _)
  · refine ((rdat m c).withAfter after).arrAt_eq_of_covers 8 _ (by decide +kernel) fun t hf y => ?_
    have hX := H.left8 t ((flush0_8 t).mp hf) _ ((dats m 0 c).toRRel_leaves (w := 8) rfl (hL 8 t hf))
    obtain ⟨e0, e1, e2⟩ := index8 t
    have hy : y = ix3 0 (⟨(y 1).val, (y 1).isLt⟩ : Fin 2048) (⟨(y 2).val, (y 2).isLt⟩ : Fin 64) :=
      eq_ix3 _ _ _ _ (Nat.lt_one_iff.mp (y 0).isLt) rfl rfl
    have hi : (win0_8.blk t).view.emb y = ix3 (headOf t) (colOf t ⟨(y 1).val, (y 1).isLt⟩ : Fin 8192) (⟨(y 2).val, (y 2).isLt⟩ : Fin 64) := by
      have h0 : (y 0).val = 0 := Nat.lt_one_iff.mp (y 0).isLt
      refine eq_ix3 _ _ _ _ ?_ ?_ ?_
      · blk_simp [e0, h0, headOf]
      · show _ = 2048 * (t.val / 8 % 4) + (y 1).val
        blk_simp [e1]; omega
      · blk_simp [e2]
    blk_simp
    rw [hi]
    exact (congrArg (after 8 t) hy).trans (hX _ _)

end Cert.KernelIdeal.Bwd

end
-- ==== Proof.Bwd.Reference.lean ====
/- The reference's results in closed form: its lines as functions of the arrays, their entries over the reals, and the gradient they spell. -/
module

public import proofs.«01_k».proof.Proof.Bwd.Grad
public import proofs.«01_k».proof.Proof.Gen.ReferenceIdeal.Run

@[expose] public section

set_option maxRecDepth 16384

noncomputable section

namespace Cert.ReferenceIdeal.Bwd

open Idealize.ShloMosaic Idealize.ShloMosaic.TcCoe
open Cert.ReferenceIdeal Cert.ReferenceIdeal.Gen Cert.Softmax
open Cert.KernelIdeal.Bwd (logits rowMax expo rowSum probs scale logit dprob dsoft gradQ gradK gradV arrQ arrK arrV scale_word minus_infinity
  logits_real rowMax_real expo_real rowSum_real probs_real)

/-! ## The lines as functions of arrays -/

/-- The rows' maxima, each once more against minus infinity. -/
def topMax (x : FVec Ideal S4x8192x8192 .f32) : FVec Ideal S4x8192x1 .f32 :=
  broadcastInDim S4x8192x1 ![0, 1] bcast_S4x8192_S4x8192x1_0_1
    (maximumf (broadcastInDim S4x8192 ![] bcast_S_S4x8192 (constant (F := Ideal) S_ .f32 0xFF800000#32))
      (Host.reduce FloatOps.maximumf x (constant (F := Ideal) S_ .f32 0xFF800000#32) reducesTo_S4x8192x8192_S4x8192_d2 h_S_))

/-- The gradient of the probabilities. -/
def dprobs (g v : FVec Ideal S4x8192x64 .f32) : FVec Ideal S4x8192x8192 .f32 :=
  Host.dotGeneral dot_S4x8192x64_S4x8192x64_S4x8192x8192_2_2_1_1_0_0 none g v

/-- The gradient of the rows' sums, as a number per row. -/
def dsum (y e : FVec Ideal S4x8192x8192 .f32) (l : FVec Ideal S4x8192x1 .f32) : FVec Ideal S4x8192 .f32 :=
  Host.reduceAdd (Host.negf (shapeCast S4x8192x1 (Host.reduceAdd (mulf (mulf y (broadcastInDim S4x8192x8192 ![0, 1, 2] bcast_S4x8192x1_S4x8192x8192_0_1_2
      (Host.divf (broadcastInDim S4x8192x1 ![] bcast_S_S4x8192x1 (constant (F := Ideal) S_ .f32 0x3F800000#32)) (mulf l l)))) e)
    (constant (F := Ideal) S_ .f32 0x00000000#32) reducesTo_S4x8192x8192_S4x8192_d2 h_S_) shapeCasts_S4x8192_S4x8192x1))
    (constant (F := Ideal) S_ .f32 0x00000000#32) reducesTo_S4x8192x1_S4x8192_d2 h_S_

/-- The gradient of the unscaled logits. -/
def dlogits (y e : FVec Ideal S4x8192x8192 .f32) (l : FVec Ideal S4x8192x1 .f32) : FVec Ideal S4x8192x8192 .f32 :=
  mulf (mulf (addf (Host.divf y (broadcastInDim S4x8192x8192 ![0, 1, 2] bcast_S4x8192x1_S4x8192x8192_0_1_2 l))
      (broadcastInDim S4x8192x8192 ![0, 1] bcast_S4x8192_S4x8192x8192_0_1 (dsum y e l))) e)
    (broadcastInDim S4x8192x8192 ![] bcast_S_S4x8192x8192 (constant (F := Ideal) S_ .f32 0x3DD105EC#32))

/-- q's gradient. -/
def outQ (ds : FVec Ideal S4x8192x8192 .f32) (k : FVec Ideal S4x8192x96 .f32) : FVec Ideal S4x8192x96 .f32 :=
  Host.dotGeneral dot_S4x8192x8192_S4x8192x96_S4x8192x96_2_1_1_2_0_0 none ds k
/-- k's gradient. -/
def outK (ds : FVec Ideal S4x8192x8192 .f32) (q : FVec Ideal S4x8192x96 .f32) : FVec Ideal S4x8192x96 .f32 :=
  Host.dotGeneral dot_S4x8192x8192_S4x8192x96_S4x8192x96_1_1_2_2_0_0 none ds q
/-- v's gradient. -/
def outV (g : FVec Ideal S4x8192x64 .f32) (p : FVec Ideal S4x8192x8192 .f32) : FVec Ideal S4x8192x64 .f32 :=
  transpose S4x8192x64 [0, 2, 1] (Host.dotGeneral dot_S4x8192x64_S4x8192x8192_S4x64x8192_1_1_2_2_0_0 none g p) transposes_S4x64x8192_S4x8192x64_0_2_1

/-! ## Their entries -/

/-- A row of numbers against minus infinity, spread to a column. -/
theorem top_spread (R : FVec Ideal S4x8192 .f32) (h : Fin 4) (r : Fin 8192) :
    broadcastInDim S4x8192x1 ![0, 1] bcast_S4x8192_S4x8192x1_0_1
      (maximumf (broadcastInDim S4x8192 ![] bcast_S_S4x8192 (constant (F := Ideal) S_ .f32 0xFF800000#32)) R) (ix3 h r 0)
    = broadcastInDim S4x8192x1 ![0, 1] bcast_S4x8192_S4x8192x1_0_1 R (ix3 h r 0) := by
  pointwise
  rw [minus_infinity]
  exact max_eq_right bot_le

theorem topMax_eq (x : FVec Ideal S4x8192x8192 .f32) (h : Fin 4) (r : Fin 8192) : topMax x (ix3 h r 0) = rowMax x (ix3 h r 0) :=
  top_spread _ h r

variable {y e x : FVec Ideal S4x8192x8192 .f32} {l : FVec Ideal S4x8192x1 .f32} {yr er xr : Fin 4 → Fin 8192 → Fin 8192 → ℝ} {lr : Fin 4 → Fin 8192 → ℝ}
  {g v : FVec Ideal S4x8192x64 .f32} {q : FVec Ideal S4x8192x96 .f32} {gr vr : Fin 4 → Fin 8192 → Fin 64 → ℝ} {qr : Fin 4 → Fin 8192 → Fin 96 → ℝ}

theorem dprobs_real (hg : ∀ h r d, g (ix3 h r d) = ((gr h r d : ℝ) : EReal)) (hv : ∀ h s d, v (ix3 h s d) = ((vr h s d : ℝ) : EReal))
    (h : Fin 4) (r s : Fin 8192) : dprobs g v (ix3 h r s) = ((dprob vr gr h r s : ℝ) : EReal) := by
  unfold dprobs
  pointwise
  exact coe_sum_mul _ _ _ (fun d => gr h r d) (fun d => vr h s d) (hg h r) (hv h s)

theorem dsum_real (hy : ∀ h r s, y (ix3 h r s) = ((yr h r s : ℝ) : EReal)) (he : ∀ h r s, e (ix3 h r s) = ((er h r s : ℝ) : EReal))
    (hl : ∀ h r, l (ix3 h r 0) = ((lr h r : ℝ) : EReal)) (h0 : ∀ h r, lr h r ≠ 0) (h : Fin 4) (r : Fin 8192) :
    dsum y e l (ix2 h r) = ((-∑ s, yr h r s * (1 / (lr h r * lr h r)) * er h r s : ℝ) : EReal) := by
  unfold dsum
  pointwise
  simp only [hy, he, hl]
  have e1 : ∀ s, ((yr h r s : ℝ) : EReal) * Ideal.div 1 ((lr h r : EReal) * (lr h r : EReal)) * ((er h r s : ℝ) : EReal)
      = ((yr h r s * (1 / (lr h r * lr h r)) * er h r s : ℝ) : EReal) := fun s => by
    rw [← EReal.coe_mul, Ideal.div_coe (mul_ne_zero (h0 h r) (h0 h r)), one_mul, EReal.coe_mul, EReal.coe_mul]
  simp only [e1, coe_sum]
  rw [Fin.sum_univ_one, EReal.coe_neg]

theorem dlogits_real (hy : ∀ h r s, y (ix3 h r s) = ((yr h r s : ℝ) : EReal)) (he : ∀ h r s, e (ix3 h r s) = ((er h r s : ℝ) : EReal))
    (hl : ∀ h r, l (ix3 h r 0) = ((lr h r : ℝ) : EReal)) (h0 : ∀ h r, lr h r ≠ 0) (h : Fin 4) (r s : Fin 8192) :
    dlogits y e l (ix3 h r s)
      = (((yr h r s / lr h r + -∑ s', yr h r s' * (1 / (lr h r * lr h r)) * er h r s') * er h r s * scale : ℝ) : EReal) := by
  unfold dlogits
  pointwise
  rw [hy, he, hl, dsum_real hy he hl h0, scale_word, Ideal.div_coe (h0 h r), ← EReal.coe_mul, ← EReal.coe_add, ← EReal.coe_mul, ← EReal.coe_mul]
  congr 1; ring

theorem outQ_real (hx : ∀ h r s, x (ix3 h r s) = ((xr h r s : ℝ) : EReal)) (hq : ∀ h s d, q (ix3 h s d) = ((qr h s d : ℝ) : EReal))
    (h : Fin 4) (r : Fin 8192) (d : Fin 96) : outQ x q (ix3 h r d) = ((∑ s, xr h r s * qr h s d : ℝ) : EReal) := by
  unfold outQ
  pointwise
  exact coe_sum_mul _ _ _ (fun s => xr h r s) (fun s => qr h s d) (hx h r) (fun s => hq h s d)

theorem outK_real (hx : ∀ h r s, x (ix3 h r s) = ((xr h r s : ℝ) : EReal)) (hq : ∀ h s d, q (ix3 h s d) = ((qr h s d : ℝ) : EReal))
    (h : Fin 4) (s : Fin 8192) (d : Fin 96) : outK x q (ix3 h s d) = ((∑ r, xr h r s * qr h r d : ℝ) : EReal) := by
  unfold outK
  pointwise
  exact coe_sum_mul _ _ _ (fun r => xr h r s) (fun r => qr h r d) (fun r => hx h r s) (fun r => hq h r d)

theorem outV_real (hg : ∀ h r d, g (ix3 h r d) = ((gr h r d : ℝ) : EReal)) (hx : ∀ h r s, x (ix3 h r s) = ((xr h r s : ℝ) : EReal))
    (h : Fin 4) (s : Fin 8192) (d : Fin 64) : outV g x (ix3 h s d) = ((∑ r, xr h r s * gr h r d : ℝ) : EReal) := by
  unfold outV
  pointwise
  refine (coe_sum_mul _ _ _ (fun r => gr h r d) (fun r => xr h r s) (fun r => hg h r d) (fun r => hx h r s)).trans ?_
  simp only [mul_comm]

/-! ## The program's results -/

variable (m : (ℓ : Loc nD τ sig) → Buf (Elt Ideal) ℓ) (c : Dev nD)

/-- The queries as launched. -/
def argQ : FVec Ideal S4x8192x96 .bf16 := m ((c.tc : Thread nD τ).loc main_arg0)
/-- The keys as launched. -/
def argK : FVec Ideal S4x8192x96 .bf16 := m ((c.tc : Thread nD τ).loc main_arg1)
/-- The values as launched. -/
def argV : FVec Ideal S4x8192x64 .bf16 := m ((c.tc : Thread nD τ).loc main_arg2)
/-- The cotangent as launched. -/
def argG : FVec Ideal S4x8192x64 .f32 := m ((c.tc : Thread nD τ).loc main_arg3)

/-- The exponentials the reference computes. -/
def exps : FVec Ideal S4x8192x8192 .f32 := expo (logits (argQ m c) (argK m c)) (topMax (logits (argQ m c) (argK m c)))
/-- The gradient of the unscaled logits the reference computes. -/
def dl : FVec Ideal S4x8192x8192 .f32 := dlogits (dprobs (argG m c) (extf .f32 (argV m c) bitsLt_bf16_f32)) (exps m c) (rowSum (exps m c))

end Cert.ReferenceIdeal.Bwd

end
-- ==== Proof.Bwd.RefValue.lean ====
/- The reference's results are the gradient of attention with softmax. -/
module

public import proofs.«01_k».proof.Proof.Bwd.Reference

@[expose] public section

set_option maxRecDepth 16384

noncomputable section

namespace Cert.ReferenceIdeal.Bwd

open Idealize.ShloMosaic Idealize.ShloMosaic.TcCoe
open Cert.ReferenceIdeal Cert.ReferenceIdeal.Gen Cert.Softmax
open Cert.KernelIdeal.Bwd (logits rowMax expo rowSum probs scale logit dprob dsoft gradQ gradK gradV arrQ arrK arrV
  logits_real rowMax_real expo_real rowSum_real probs_real eq_ix3)

variable (m : (ℓ : Loc nD τ sig) → Buf (Elt Ideal) ℓ) (c : Dev nD)

theorem res_v53 : Value.res_main_v53 m c = outQ (dl m c) (extf .f32 (argK m c) bitsLt_bf16_f32) := by
  unfold Value.res_main_v53 outQ dl dlogits dsum dprobs exps expo rowSum topMax logits argQ argK argV argG
  rfl

theorem res_v52 : Value.res_main_v52 m c = outK (dl m c) (extf .f32 (argQ m c) bitsLt_bf16_f32) := by
  unfold Value.res_main_v52 outK dl dlogits dsum dprobs exps expo rowSum topMax logits argQ argK argV argG
  rfl

/-- What the reference returns as v's gradient. -/
def res_v36 : FVec Ideal S4x8192x64 .f32 := outV (argG m c) (probs (exps m c) (rowSum (exps m c)))

/-- The reference's run: its results, and its arguments as launched. -/
theorem run (ρ : Dev nD → PrngReg) : θ_run defs (onTc (τ := τ) (main (F := Ideal))) ⟨m, fun _ => 0, ρ⟩ fun r => ∀ c : Dev nD,
    r.2.mem ((c.tc : Thread nD τ).loc main_v53) = outQ (dl m c) (extf .f32 (argK m c) bitsLt_bf16_f32)
    ∧ r.2.mem ((c.tc : Thread nD τ).loc main_v52) = outK (dl m c) (extf .f32 (argQ m c) bitsLt_bf16_f32)
    ∧ r.2.mem ((c.tc : Thread nD τ).loc main_v36) = res_v36 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (res_v53 m c), (h c).2.1.trans (res_v52 m c), (h c).2.2.1.trans (by
    unfold res_v36 outV probs exps expo rowSum topMax logits argQ argK argG
    rfl), (h c).2.2.2⟩) (Value.run m ρ)

variable {m c} {qr kr : Fin 4 → Fin 8192 → Fin 96 → ℝ} {vr gr : Fin 4 → Fin 8192 → Fin 64 → ℝ}

/-- The reference's results over the reals. -/
theorem results (hq : ∀ h r d, argQ m c (ix3 h r d) = ((qr h r d : ℝ) : EReal)) (hk : ∀ h s d, argK m c (ix3 h s d) = ((kr h s d : ℝ) : EReal))
    (hv : ∀ h s e, argV m c (ix3 h s e) = ((vr h s e : ℝ) : EReal)) (hg : ∀ h r e, argG m c (ix3 h r e) = ((gr h r e : ℝ) : EReal)) :
    outQ (dl m c) (extf .f32 (argK m c) bitsLt_bf16_f32) = arrQ qr kr vr gr
      ∧ outK (dl m c) (extf .f32 (argQ m c) bitsLt_bf16_f32) = arrK qr kr vr gr
      ∧ res_v36 m c = arrV qr kr gr := by
  have hL := logits_real hq hk
  obtain ⟨Mr, hM⟩ := rowMax_real hL
  have hE := expo_real hL fun h r => (topMax_eq _ h r).trans (hM h r)
  have hS := rowSum_real hE
  have h0 : ∀ h r, ∑ s, Real.exp (logit qr kr h r s - Mr h r) ≠ 0 := fun h r => (sum_exp_pos _).ne'
  have hP := probs_real hE hS h0
  have hD : ∀ h r s, dl m c (ix3 h r s) = ((dsoft qr kr vr gr h r s * scale : ℝ) : EReal) := fun h r s =>
    (dlogits_real (dprobs_real hg hv) hE hS h0 h r s).trans (by
      rw [softGrad_quotient (logit qr kr h r) (dprob vr gr h r) (Mr h r) _ rfl s]; rfl)
  have split : ∀ {a b e : ℕ} (i : (⟨3, ![a, b, e]⟩ : Shape).Idx), i = ix3 (i 0) (i 1) (i 2) := fun i => eq_ix3 i _ _ _ rfl rfl rfl
  refine ⟨funext fun i => ?_, funext fun i => ?_, funext fun i => ?_⟩
  · rw [split i]
    refine (outQ_real hD hk _ _ _).trans ?_
    unfold arrQ gradQ
    rw [Finset.sum_mul]
    exact congrArg _ (Finset.sum_congr rfl fun s _ => mul_right_comm _ _ _)
  · rw [split i]
    refine (outK_real hD hq _ _ _).trans ?_
    unfold arrK gradK
    rw [Finset.sum_mul]
    exact congrArg _ (Finset.sum_congr rfl fun s _ => mul_right_comm _ _ _)
  · rw [split i]
    unfold res_v36
    refine (outV_real hg hP _ _ _).trans ?_
    unfold arrV gradV
    exact congrArg _ (Finset.sum_congr rfl fun r _ => congrArg (· * gr (i 0) r (i 2)) (soft_shift (logit qr kr (i 0) r) (Mr (i 0) r) (i 1)))

end Cert.ReferenceIdeal.Bwd

end
-- ==== Proof.Fwd.Body.lean ====
/- The forward call's body at one grid point: one pass over all the keys, so what it stores is a function of the three blocks it reads. -/
module

public import proofs.«01_k».proof.Proof.Gen.Kernel2Ideal.Value
public import Idealize.ShloMosaic.Lib.Pipeline.ValueKit
public import Idealize.ShloMosaic.Lib.VecWindow
public import Idealize.ShloMosaic.Lib.WritesUnit
public import Idealize.ShloMosaic.Lib.Claim
public import Idealize.ShloMosaic.PureOps.Ideal

@[expose] public section

set_option maxRecDepth 16384

noncomputable section

namespace Cert.Kernel2Ideal.Fwd

open Idealize.ShloMosaic Idealize.ShloMosaic.TcCoe Idealize.SL.Sem
open Cert.Kernel2Ideal.Gen

theorem origin2 : (![0, 0] : Fin 2 → ℕ) = 0 := by funext a; fin_cases a <;> rfl
theorem origin3 : (![0, 0, 0] : Fin 3 → ℕ) = 0 := by funext a; fin_cases a <;> rfl

/-- The values, widened by columns of ones. -/
def wide (v : Vec Ideal S1x8192x64 .bf16) : Vec Ideal S8192x128 .bf16 := VecWindow.put (k0_pay9 (F := Ideal)) ![0, 0] ![8192, 64] (k0_pay10 v)

section body

variable (c : Dev nD) (i : grid0.Coords) (a3 : Memref sig .tc .vmem S1x512x96 .bf16) (h3 : a3.IsWhole) (a4 : Memref sig .tc .vmem S1x8192x96 .bf16)
  (h4 : a4.IsWhole) (a5 : Memref sig .tc .vmem S1x8192x64 .bf16) (h5 : a5.IsWhole) (a6 : Memref sig .tc .vmem S1x512x64 .f32) (h6 : a6.IsWhole)
  (a7 : Memref sig .tc .vmem S1x512x1 .f32) (h7 : a7.IsWhole) (a8 : Memref sig .tc .vmem S512x1 .f32) (h8 : a8.IsWhole)
  (a9 : Memref sig .tc .vmem S512x128 .f32) (h9 : a9.IsWhole) (a10 : Memref sig .tc .vmem S8192x128 .bf16) (h10 : a10.IsWhole)
  (c0 : cond0_0 i) (c1 : cond0_1 i) (q : Vec Ideal S1x512x96 .bf16) (k : Vec Ideal S1x8192x96 .bf16) (v : Vec Ideal S1x8192x64 .bf16)

/-- The widened values as the body reads them back. -/
theorem wide_read : a10.view.readCov [⟨Rect.unit (s := S8192x128) ![0, 0] ![8192, 64] inb_S8192x128_S8192x64_0_0, k0_pay10 v⟩,
      ⟨Rect.unit (s := S8192x128) ![0, 0] S8192x128.size inb_S8192x128_S8192x128_0_0, k0_pay9 (F := Ideal)⟩]
      (Rect.unit (s := S8192x128) ![0, 0] S8192x128.size inb_S8192x128_S8192x128_0_0).toLoadRect = wide v := by
  unfold View.readCov
  rw [View.readAt_full, View.read_writes_cons_put _ _ _ _ _ rfl, View.read_writes_full]
  rfl

/-- What the body stores for the output, -/
theorem stored3 : out0_A_3 c i a3 h3 a4 h4 a5 h5 a6 h6 a7 h7 a8 h8 a9 h9 a10 h10 c0 c1 q k v
    = k0_pay5 (k0_pay13 (k0_pay7 (F := Ideal)) q k) (k0_pay14 (k0_pay7 (F := Ideal)) q k (k0_pay8 (F := Ideal))) (wide v) := by
  unfold out0_A_3
  rw [View.read_writes_eq_canon _ _ _ (cover0_A_3 c i a3 h3 a4 h4 a5 h5 a6 h6 a7 h7 a8 h8 a9 h9 a10 h10 c0 c1 q k v)]
  unfold kernelRun0_A
  dsimp only
  sl_unfold_words
  rw [View.canon_cons_unit_zero (S := S1x512x64) origin3, View.readCov_unit_zero (S := S512x1) _ origin2,
    View.readCov_unit_zero (S := S512x128) _ origin2]
  simp only [View.readAt_eq_ld, h3.read_unread, h4.read_unread, h5.read_unread, View.ld_unit_zero (S := S1x512x96) origin3,
    View.ld_unit_zero (S := S1x8192x96) origin3, View.ld_unit_zero (S := S1x8192x64) origin3]
  exact congrArg _ (wide_read a10 v)

/-- and for the log-sums. -/
theorem stored4 : out0_A_4 c i a3 h3 a4 h4 a5 h5 a6 h6 a7 h7 a8 h8 a9 h9 a10 h10 c0 c1 q k v
    = k0_pay6 (k0_pay12 (k0_pay7 (F := Ideal)) q k) (k0_pay13 (k0_pay7 (F := Ideal)) q k) (k0_pay14 (k0_pay7 (F := Ideal)) q k (k0_pay8 (F := Ideal))) (wide v) := by
  unfold out0_A_4
  rw [View.read_writes_eq_canon _ _ _ (cover0_A_4 c i a3 h3 a4 h4 a5 h5 a6 h6 a7 h7 a8 h8 a9 h9 a10 h10 c0 c1 q k v)]
  unfold kernelRun0_A
  dsimp only
  sl_unfold_words
  rw [View.canon_cons_unit_zero (S := S1x512x1) origin3, View.readCov_unit_zero (S := S512x1) _ origin2,
    View.readCov_unit_zero (S := S512x128) _ origin2]
  simp only [View.readAt_eq_ld, h3.read_unread, h4.read_unread, h5.read_unread, View.ld_unit_zero (S := S1x512x96) origin3,
    View.ld_unit_zero (S := S1x8192x96) origin3, View.ld_unit_zero (S := S1x8192x64) origin3]
  exact congrArg _ (wide_read a10 v)

end body

end Cert.Kernel2Ideal.Fwd

end
-- ==== Proof.Fwd.Point.lean ====
/- What one grid point of the forward call computes, entry by entry, when the entries of its queries and keys are real numbers. Of the values
   nothing is asked. -/
module

public import proofs.«01_k».proof.Proof.Bwd.Host
public import proofs.«01_k».proof.Proof.Fwd.Body

@[expose] public section

set_option maxRecDepth 16384

noncomputable section

namespace Cert.Kernel2Ideal.Fwd

open Idealize.ShloMosaic Idealize.ShloMosaic.TcCoe
open Cert.Kernel2Ideal.Gen Cert.Softmax
open Cert.KernelIdeal.Bwd (scale scale_word two_rpow minus_infinity)

/-! ## Constants -/

theorem scale_log2e_val : (Named.named κ "scale_log2e" 0x3E16C740#32 : Ideal .f32) = ((scale * (Real.log 2)⁻¹ : ℝ) : EReal) :=
  IdealRules.named_const.ideal_named_scalar _ _ _ _ rfl

/-- The number a running maximum starts from. -/
def floorVal : ℝ := -(13234890 * 2 ^ 76)

theorem floor_word : Ideal.ofBits FTy.f32 0xF149F2CA#32 = (floorVal : EReal) := by
  unfold floorVal; simp [Ideal.ofBits, Ideal.ieee, -EReal.coe_mul]

/-! ## The extended reals -/

/-- A nonnegative real factor goes into a sum of extended reals. -/
theorem sum_mul_coe {ι : Type} (t : Finset ι) (f : ι → EReal) (a : ℝ) (h : 0 ≤ a) : (∑ i ∈ t, f i) * (a : EReal) = ∑ i ∈ t, f i * (a : EReal) := by
  classical
  induction t using Finset.induction_on with
  | empty => simp
  | insert b t hb ih =>
    rw [Finset.sum_insert hb, Finset.sum_insert hb, ← ih]
    exact EReal.right_distrib_of_nonneg_of_ne_top (by exact_mod_cast h) (EReal.coe_ne_top a) _ _

/-! ## The widened values -/

variable (v : Vec Ideal S1x8192x64 .bf16)

theorem wide_value (s : Fin 8192) (e : Fin 64) : wide v (ix2 s ⟨e.val, by have := e.isLt; omega⟩) = v (ix3 0 s e) := by
  have he := e.isLt
  have hs := s.isLt
  unfold wide VecWindow.put
  rw [dif_pos (by intro a; fin_cases a <;> simp [ix2])]
  have : k0_pay10 v (ix2 s e) = v (ix3 0 s e) := by unfold k0_pay10; pointwise
  rw [← this]
  refine congrArg (k0_pay10 v) (funext fun a => ?_)
  fin_cases a <;> exact Fin.ext (Nat.sub_zero _)

theorem wide_one (s : Fin 8192) : wide v (ix2 s 64) = 1 := by
  unfold wide VecWindow.put
  rw [dif_neg (by intro h; have := (h 1).2; simp [ix2] at this)]
  unfold k0_pay9
  pointwise

/-! ## The payloads -/

variable {q : Vec Ideal S1x512x96 .bf16} {k : Vec Ideal S1x8192x96 .bf16} {qr : Fin 512 → Fin 96 → ℝ} {kr : Fin 8192 → Fin 96 → ℝ}

/-- A product of a query and a key. -/
def dot (qr : Fin 512 → Fin 96 → ℝ) (kr : Fin 8192 → Fin 96 → ℝ) (r : Fin 512) (s : Fin 8192) : ℝ := ∑ d, qr r d * kr s d

theorem pay11_real (hq : ∀ r d, q (ix3 0 r d) = ((qr r d : ℝ) : EReal)) (hk : ∀ s d, k (ix3 0 s d) = ((kr s d : ℝ) : EReal)) (r : Fin 512) (s : Fin 8192) :
    k0_pay11 q k (ix2 r s) = ((dot qr kr r s : ℝ) : EReal) := by
  unfold k0_pay11
  pointwise
  exact coe_sum_mul _ _ _ (fun d => qr r d) (fun d => kr s d) (hq r) (hk s)

/-- The rows' maxima as a column. -/
theorem rows_apply (x : FVec Ideal S512x8192 .f32) (r : Fin 512) :
    shapeCast S512x1 (multiReduction (F := Ideal) .maximumf [1] S512 x 0xFF800000#32 reduces_S512x8192_S512 (.inl rfl) rfl) shapeCasts_S512_S512x1 (ix2 r 0)
      = Finset.fold max (⊥ : EReal) (fun s => x (ix2 r s)) Finset.univ := by
  have cast (y : FVec Ideal S512 .f32) : shapeCast S512x1 y shapeCasts_S512_S512x1 (ix2 r 0) = y (ix1 r) := by pointwise
  rw [cast]
  pointwise
  rw [minus_infinity]

theorem max_apply (m n : FVec Ideal S512x1 .f32) (r : Fin 512) : maximumf m n (ix2 r 0) = max (m (ix2 r 0)) (n (ix2 r 0)) := by
  pointwise

/-- Some real number is each row's running maximum. -/
theorem pay12_real (hq : ∀ r d, q (ix3 0 r d) = ((qr r d : ℝ) : EReal)) (hk : ∀ s d, k (ix3 0 s d) = ((kr s d : ℝ) : EReal)) :
    ∃ M : Fin 512 → ℝ, ∀ r, k0_pay12 (k0_pay7 (F := Ideal)) q k (ix2 r 0) = ((M r : ℝ) : EReal) := by
  have key : ∀ r, ∃ M : ℝ, k0_pay12 (k0_pay7 (F := Ideal)) q k (ix2 r 0) = (M : EReal) := by
    intro r
    obtain ⟨M, hM⟩ := fold_max_real (dot qr kr r)
    have hf : k0_pay7 (F := Ideal) (ix2 r 0) = (floorVal : EReal) := by
      rw [← floor_word]; unfold k0_pay7; pointwise
    refine ⟨max floorVal M, ?_⟩
    unfold k0_pay12
    refine (max_apply _ _ r).trans ?_
    rw [hf, rows_apply, funext (pay11_real hq hk r), hM]
    exact EReal.coe_strictMono.monotone.map_max.symm
  choose M hM using key
  exact ⟨M, hM⟩

/-- An exponential in base two, of a number and its row's number scaled. -/
theorem weight_apply (x : FVec Ideal S512x8192 .f32) (m : FVec Ideal S512x1 .f32) (a : Ideal .f32) (r : Fin 512) (s : Fin 8192) :
    exp2 (subf (mulf x (broadcast S512x8192 a)) (broadcastTo S512x8192 (mulf m (broadcast S512x1 a)) broadcasts_S512x1_S512x8192)) (ix2 r s)
      = FloatOps.exp2 (x (ix2 r s) * a - m (ix2 r 0) * a) := by
  pointwise

variable {M : Fin 512 → ℝ}

theorem pay13_real (hq : ∀ r d, q (ix3 0 r d) = ((qr r d : ℝ) : EReal)) (hk : ∀ s d, k (ix3 0 s d) = ((kr s d : ℝ) : EReal))
    (hM : ∀ r, k0_pay12 (k0_pay7 (F := Ideal)) q k (ix2 r 0) = ((M r : ℝ) : EReal)) (r : Fin 512) (s : Fin 8192) :
    k0_pay13 (k0_pay7 (F := Ideal)) q k (ix2 r s) = ((Real.exp (dot qr kr r s * scale - M r * scale) : ℝ) : EReal) := by
  unfold k0_pay13
  refine (weight_apply _ _ _ r s).trans ?_
  rw [pay11_real hq hk, hM, scale_log2e_val]
  refine Eq.trans (congrArg Ideal.exp2 ?_) ((Ideal.exp2_coe _).trans (congrArg _ (two_rpow (dot qr kr r s) scale (M r * scale))))
  simp only [EReal.coe_sub, EReal.coe_mul, mul_assoc]

/-- A row's number times nothing. -/
theorem times_zero (m : FVec Ideal S512x1 .f32) (z : FVec Ideal S512x128 .f32) (r : Fin 512) (j : Fin 128) (h : z (ix2 r j) = 0) :
    mulf (broadcastTo S512x128 m broadcasts_S512x1_S512x128) z (ix2 r j) = 0 := by
  have : mulf (broadcastTo S512x128 m broadcasts_S512x1_S512x128) z (ix2 r j) = m (ix2 r 0) * z (ix2 r j) := by pointwise
  rw [this, h, mul_zero]

theorem pay14_zero (r : Fin 512) (j : Fin 128) : k0_pay14 (k0_pay7 (F := Ideal)) q k (k0_pay8 (F := Ideal)) (ix2 r j) = 0 := by
  have h : k0_pay8 (F := Ideal) (ix2 r j) = 0 := by unfold k0_pay8; pointwise
  unfold k0_pay14
  exact times_zero _ _ r j h

/-- The sums over the keys. -/
theorem pay1_apply (p : FVec Ideal S512x8192 .f32) (acc : FVec Ideal S512x128 .f32) (w : Vec Ideal S8192x128 .bf16) (h0 : ∀ r j, acc (ix2 r j) = 0)
    (r : Fin 512) (j : Fin 128) : k0_pay1 p acc w (ix2 r j) = ∑ s : Fin 8192, p (ix2 r s) * w (ix2 s j) := by
  unfold k0_pay1
  pointwise
  rw [h0, zero_add]

/-! ## The two results -/

/-- A quotient of two columns of the sums. -/
theorem pay5_apply (p : FVec Ideal S512x8192 .f32) (acc : FVec Ideal S512x128 .f32) (w : Vec Ideal S8192x128 .bf16) (r : Fin 512) (e : Fin 64) :
    k0_pay5 p acc w (ix3 0 r e) = Ideal.div (k0_pay1 p acc w (ix2 r ⟨e.val, by have := e.isLt; omega⟩)) (k0_pay1 p acc w (ix2 r 64)) := by
  unfold k0_pay5 k0_pay4
  generalize k0_pay1 p acc w = x
  pointwise

/-- The scaled maximum and the logarithm of the sum. -/
theorem pay6_apply (m : FVec Ideal S512x1 .f32) (p : FVec Ideal S512x8192 .f32) (acc : FVec Ideal S512x128 .f32) (w : Vec Ideal S8192x128 .bf16) (r : Fin 512) :
    k0_pay6 m p acc w (ix3 0 r 0) = m (ix2 r 0) * (scale : EReal) + Ideal.log (k0_pay1 p acc w (ix2 r 64)) := by
  rw [← scale_word]
  unfold k0_pay6 k0_pay4
  generalize k0_pay1 p acc w = x
  pointwise

section results

variable (hq : ∀ r d, q (ix3 0 r d) = ((qr r d : ℝ) : EReal)) (hk : ∀ s d, k (ix3 0 s d) = ((kr s d : ℝ) : EReal))
include hq hk

/-- The row's sum of exponentials is the column of the ones. -/
theorem total (hM : ∀ r, k0_pay12 (k0_pay7 (F := Ideal)) q k (ix2 r 0) = ((M r : ℝ) : EReal)) (r : Fin 512) :
    k0_pay1 (k0_pay13 (k0_pay7 (F := Ideal)) q k) (k0_pay14 (k0_pay7 (F := Ideal)) q k (k0_pay8 (F := Ideal))) (wide v) (ix2 r 64)
      = ((∑ s, Real.exp (dot qr kr r s * scale - M r * scale) : ℝ) : EReal) := by
  rw [pay1_apply _ _ _ pay14_zero, ← coe_sum]
  exact Finset.sum_congr rfl fun s _ => by rw [pay13_real hq hk hM, wide_one, mul_one]

/-- The output: the mean of the values under the row's softmax. -/
theorem output_point (r : Fin 512) (e : Fin 64) :
    k0_pay5 (k0_pay13 (k0_pay7 (F := Ideal)) q k) (k0_pay14 (k0_pay7 (F := Ideal)) q k (k0_pay8 (F := Ideal))) (wide v) (ix3 0 r e)
      = ∑ s : Fin 8192, ((soft (fun s => dot qr kr r s * scale) s : ℝ) : EReal) * v (ix3 0 s e) := by
  obtain ⟨M, hM⟩ := pay12_real hq hk
  have hpos := sum_exp_pos fun s => dot qr kr r s * scale - M r * scale
  rw [pay5_apply, total v hq hk hM, Ideal.div_coe hpos.ne', pay1_apply _ _ _ pay14_zero, sum_mul_coe _ _ _ (one_div_pos.mpr hpos).le]
  refine Finset.sum_congr rfl fun s _ => ?_
  rw [pay13_real hq hk hM, wide_value, mul_right_comm, ← EReal.coe_mul, mul_one_div,
    soft_shift (fun s => dot qr kr r s * scale) (M r * scale) s]

/-- The log-sum of the row's exponentials. -/
theorem lse_point (r : Fin 512) :
    k0_pay6 (k0_pay12 (k0_pay7 (F := Ideal)) q k) (k0_pay13 (k0_pay7 (F := Ideal)) q k) (k0_pay14 (k0_pay7 (F := Ideal)) q k (k0_pay8 (F := Ideal)))
        (wide v) (ix3 0 r 0)
      = ((Real.log (∑ s, Real.exp (dot qr kr r s * scale)) : ℝ) : EReal) := by
  obtain ⟨M, hM⟩ := pay12_real hq hk
  have hpos := sum_exp_pos fun s => dot qr kr r s * scale - M r * scale
  have h0 := sum_exp_pos fun s => dot qr kr r s * scale
  rw [pay6_apply, total v hq hk hM, hM, ← EReal.coe_mul, Ideal.log_coe, if_neg (not_le.mpr hpos), ← EReal.coe_add]
  congr 1
  rw [sum_exp_shift, Real.log_div h0.ne' (Real.exp_pos _).ne', Real.log_exp]
  ring

end results

end Cert.Kernel2Ideal.Fwd

end
-- ==== Proof.Fwd.Arrays.lean ====
/- The forward call's two arrays: every block of rows of a head holds what its grid point computed, so the arrays are the attention's output and
   log-sums, whatever the values are. -/
module

public import proofs.«01_k».proof.Proof.Fwd.Point

@[expose] public section

set_option maxRecDepth 16384

noncomputable section

namespace Cert.Kernel2Ideal.Fwd

open Idealize.ShloMosaic Idealize.ShloMosaic.TcCoe
open Cert.Kernel2Ideal.Gen Cert.Softmax
open Cert.KernelIdeal.Bwd (logit)

/-! ## The blocks -/

theorem index0 (t : Fin grid0.N) : win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0) t
theorem index1 (t : Fin grid0.N) : win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0) t
theorem index2 (t : Fin grid0.N) : win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0) t
theorem index3 (t : Fin grid0.N) : win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0) t
theorem index4 (t : Fin grid0.N) : win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0) t
theorem flushes3 : ∀ t : Fin cfg0.N, (cfg0.win 3).flush t = true := (by decide +kernel : ∀ t : Fin grid0.N, (cfg0.win 3).flush t = true)
theorem flushes4 : ∀ t : Fin cfg0.N, (cfg0.win 4).flush t = true := (by decide +kernel : ∀ t : Fin grid0.N, (cfg0.win 4).flush t = true)

/-- The head a point works on. -/
def headOf (t : Fin grid0.N) : Fin 4 := ⟨t.val / 16, by have : t.val < 64 := t.isLt; omega⟩
/-- A row of the head, from a row of the point's block. -/
def rowOf (t : Fin grid0.N) (r : Fin 512) : Fin 8192 := ⟨512 * (t.val % 16) + r.val, by have := r.isLt; omega⟩

/-- The point that has a row, and the row of its block. -/
def pointAt (h : Fin 4) (r : Fin 8192) : Fin grid0.N := ⟨h.val * 16 + r.val / 512, show _ < 64 by have := h.isLt; have := r.isLt; omega⟩
def rowIn (r : Fin 8192) : Fin 512 := ⟨r.val % 512, Nat.mod_lt _ (by decide)⟩

theorem headOf_pointAt (h : Fin 4) (r : Fin 8192) : headOf (pointAt h r) = h :=
  Fin.ext (show (h.val * 16 + r.val / 512) / 16 = h.val by have := r.isLt; omega)
theorem rowOf_pointAt (h : Fin 4) (r : Fin 8192) : rowOf (pointAt h r) (rowIn r) = r :=
  Fin.ext (show 512 * ((h.val * 16 + r.val / 512) % 16) + r.val % 512 = r.val by have := r.isLt; omega)

variable (m : (ℓ : Loc nD τ sig) → Buf (Elt Ideal) ℓ) (c : Dev nD)

/-- The queries as launched. -/
def argQ : Vec Ideal S4x8192x96 .bf16 := m ((c.tc : Thread nD τ).loc main_arg0)
/-- The keys as launched. -/
def argK : Vec Ideal S4x8192x96 .bf16 := m ((c.tc : Thread nD τ).loc main_arg1)
/-- The values as launched. -/
def argV : Vec Ideal S4x8192x64 .bf16 := m ((c.tc : Thread nD τ).loc main_arg2)

theorem qBlk_apply (t : Fin grid0.N) (r : Fin 512) (d : Fin 96) :
    (iblk m c 0 t : Vec Ideal S1x512x96 .bf16) (ix3 0 r d) = argQ m c (ix3 (headOf t) (rowOf t r) d) := by
  obtain ⟨e0, e1, e2⟩ := index0 t
  rw [show argQ m c = V m c main_arg0 from (V_main_arg0 m c).symm]
  blk_ext [iblk, e0, e1, e2, rowOf, headOf]

theorem kBlk_apply (t : Fin grid0.N) (s : Fin 8192) (d : Fin 96) :
    (iblk m c 1 t : Vec Ideal S1x8192x96 .bf16) (ix3 0 s d) = argK m c (ix3 (headOf t) s d) := by
  obtain ⟨e0, e1, e2⟩ := index1 t
  rw [show argK m c = V m c main_arg1 from (V_main_arg1 m c).symm]
  blk_ext [iblk, e0, e1, e2, headOf]

theorem vBlk_apply (t : Fin grid0.N) (s : Fin 8192) (e : Fin 64) :
    (iblk m c 2 t : Vec Ideal S1x8192x64 .bf16) (ix3 0 s e) = argV m c (ix3 (headOf t) s e) := by
  obtain ⟨e0, e1, e2⟩ := index2 t
  rw [show argV m c = V m c main_arg2 from (V_main_arg2 m c).symm]
  blk_ext [iblk, e0, e1, e2, headOf]

theorem oBlk_apply (t : Fin grid0.N) (A : Vec Ideal S4x8192x64 .f32) (r : Fin 512) (e : Fin 64) :
    ((cfg0.win 3).blk t).view.read (Elt Ideal) A (ix3 0 r e) = A (ix3 (headOf t) (rowOf t r) e) := by
  obtain ⟨e0, e1, e2⟩ := index3 t
  blk_ext [e0, e1, e2, rowOf, headOf]

theorem lBlk_apply (t : Fin grid0.N) (A : Vec Ideal S4x8192x1 .f32) (r : Fin 512) :
    ((cfg0.win 4).blk t).view.read (Elt Ideal) A (ix3 0 r 0) = A (ix3 (headOf t) (rowOf t r) 0) := by
  obtain ⟨e0, e1, e2⟩ := index4 t
  blk_ext [e0, e1, e2, rowOf, headOf]

/-! ## The arrays -/

/-- Attention's output: each row the mean of the values under the softmax of its logits. -/
def arrO (qr kr : Fin 4 → Fin 8192 → Fin 96 → ℝ) (v : Vec Ideal S4x8192x64 .bf16) : Vec Ideal S4x8192x64 .f32 :=
  fun i => ∑ s : Fin 8192, ((soft (logit qr kr (i 0) (i 1)) s : ℝ) : EReal) * v (ix3 (i 0) s (i 2))

/-- Attention's log-sums: of each row the logarithm of the sum of the exponentials of its logits. -/
def arrL (qr kr : Fin 4 → Fin 8192 → Fin 96 → ℝ) : Vec Ideal S4x8192x1 .f32 :=
  fun i => ((Real.log (∑ s, Real.exp (logit qr kr (i 0) (i 1) s)) : ℝ) : EReal)

variable {qr kr : Fin 4 → Fin 8192 → Fin 96 → ℝ} (hq : ∀ h r d, argQ m c (ix3 h r d) = ((qr h r d : ℝ) : EReal))
  (hk : ∀ h s d, argK m c (ix3 h s d) = ((kr h s d : ℝ) : EReal))
include hq hk

theorem result3 : (dats m 0 c).arrAt 3 cfg0.N = arrO qr kr (argV m c) := by
  have at_entry : ∀ (h : Fin 4) (r : Fin 8192) (e : Fin 64), (dats m 0 c).arrAt 3 cfg0.N (ix3 h r e) = arrO qr kr (argV m c) (ix3 h r e) := by
    intro h r e
    have hb := congrFun (Value.blocks3 m c (pointAt h r) (flushes3 _)) (ix3 0 (rowIn r) e)
    rw [Value.flushed3_A, stored3] at hb
    have hb' := (oBlk_apply (pointAt h r) _ (rowIn r) e).symm.trans hb
    rw [headOf_pointAt, rowOf_pointAt] at hb'
    refine hb'.trans ?_
    refine (output_point (q := iblk m c 0 (pointAt h r)) (k := iblk m c 1 (pointAt h r)) (qr := fun r' => qr h (rowOf (pointAt h r) r')) (kr := kr h)
      (iblk m c 2 (pointAt h r)) (fun r' d => ?_) (fun s d => ?_) (rowIn r) e).trans ?_
    · rw [qBlk_apply, hq, headOf_pointAt]
    · rw [kBlk_apply, hk, headOf_pointAt]
    · refine Finset.sum_congr rfl fun s _ => ?_
      rw [vBlk_apply, headOf_pointAt]
      refine congrArg (fun y : Fin 8192 => ((soft (logit qr kr h y) s : ℝ) : EReal) * argV m c (ix3 h s e)) (rowOf_pointAt h r)
  funext i
  have := at_entry (i 0) (i 1) (i 2)
  rwa [show (ix3 (i 0) (i 1) (i 2) : S4x8192x64.Idx) = i from by funext a; fin_cases a <;> rfl] at this

theorem result4 : (dats m 0 c).arrAt 4 cfg0.N = arrL qr kr := by
  have at_entry : ∀ (h : Fin 4) (r : Fin 8192), (dats m 0 c).arrAt 4 cfg0.N (ix3 h r 0) = arrL qr kr (ix3 h r 0) := by
    intro h r
    have hb := congrFun (Value.blocks4 m c (pointAt h r) (flushes4 _)) (ix3 0 (rowIn r) 0)
    rw [Value.flushed4_A, stored4] at hb
    have hb' := (lBlk_apply (pointAt h r) _ (rowIn r)).symm.trans hb
    rw [headOf_pointAt, rowOf_pointAt] at hb'
    refine hb'.trans ?_
    refine (lse_point (q := iblk m c 0 (pointAt h r)) (k := iblk m c 1 (pointAt h r)) (qr := fun r' => qr h (rowOf (pointAt h r) r')) (kr := kr h)
      (iblk m c 2 (pointAt h r)) (fun r' d => ?_) (fun s d => ?_) (rowIn r)).trans ?_
    · rw [qBlk_apply, hq, headOf_pointAt]
    · rw [kBlk_apply, hk, headOf_pointAt]
    · exact congrArg (fun y : Fin 8192 => ((Real.log (∑ s, Real.exp (logit qr kr h y s)) : ℝ) : EReal)) (rowOf_pointAt h r)
  funext i
  have := at_entry (i 0) (i 1)
  rwa [show (ix3 (i 0) (i 1) 0 : S4x8192x1.Idx) = i from by funext a; fin_cases a; rfl; rfl; exact Subsingleton.elim (α := Fin 1) _ _] at this

end Cert.Kernel2Ideal.Fwd

end
-- ==== Proof.Fwd.Reference.lean ====
/- The forward reference: its lines as functions of the arrays, and the output and log-sums they spell. -/
module

public import proofs.«01_k».proof.Proof.Bwd.Reference
public import proofs.«01_k».proof.Proof.Fwd.Arrays
public import proofs.«01_k».proof.Proof.Gen.Reference2Ideal.Run

@[expose] public section

set_option maxRecDepth 16384

noncomputable section

namespace Cert.Reference2Ideal.Fwd

open Idealize.ShloMosaic Idealize.ShloMosaic.TcCoe
open Cert.Reference2Ideal Cert.Softmax
open Cert.KernelIdeal.Bwd (logits expo rowSum probs output logit logits_real rowMax_real expo_real rowSum_real probs_real)
open Cert.ReferenceIdeal.Bwd (topMax topMax_eq)
open Cert.Kernel2Ideal.Fwd (arrO arrL)

/-- The exponentials less the rows' maxima. -/
def exps (q k : FVec Ideal S4x8192x96 .bf16) : FVec Ideal S4x8192x8192 .f32 := expo (logits q k) (topMax (logits q k))

/-- The output's line. -/
def lineO (q k : FVec Ideal S4x8192x96 .bf16) (v : FVec Ideal S4x8192x64 .bf16) : FVec Ideal S4x8192x64 .f32 :=
  output (probs (exps q k) (rowSum (exps q k))) v

/-- The log-sums' line. -/
def lineL (q k : FVec Ideal S4x8192x96 .bf16) : FVec Ideal S4x8192x1 .f32 := Host.log (rowSum (Host.exp (logits q k)))

theorem output_apply (p : FVec Ideal S4x8192x8192 .f32) (v : FVec Ideal S4x8192x64 .bf16) (h : Fin 4) (r : Fin 8192) (e : Fin 64) :
    output p v (ix3 h r e) = ∑ s : Fin 8192, p (ix3 h r s) * v (ix3 h s e) := by
  unfold output
  pointwise

variable {q k : FVec Ideal S4x8192x96 .bf16} {qr kr : Fin 4 → Fin 8192 → Fin 96 → ℝ}
  (hq : ∀ h r d, q (ix3 h r d) = ((qr h r d : ℝ) : EReal)) (hk : ∀ h s d, k (ix3 h s d) = ((kr h s d : ℝ) : EReal))
include hq hk

theorem lineO_eq (v : FVec Ideal S4x8192x64 .bf16) : lineO q k v = arrO qr kr v := by
  have hx := logits_real hq hk
  obtain ⟨M, hM⟩ := rowMax_real hx
  have hT : ∀ h r, topMax (logits q k) (ix3 h r 0) = ((M h r : ℝ) : EReal) := fun h r => (topMax_eq _ h r).trans (hM h r)
  have he : ∀ h r s, exps q k (ix3 h r s) = ((Real.exp (logit qr kr h r s - M h r) : ℝ) : EReal) := expo_real hx hT
  have hl := rowSum_real he
  have hp := probs_real he hl fun h r => (sum_exp_pos fun s => logit qr kr h r s - M h r).ne'
  have at_entry : ∀ (h : Fin 4) (r : Fin 8192) (e : Fin 64), lineO q k v (ix3 h r e) = arrO qr kr v (ix3 h r e) := by
    intro h r e
    refine (output_apply _ v h r e).trans (Finset.sum_congr rfl fun s _ => ?_)
    rw [hp, soft_shift (logit qr kr h r) (M h r) s]
    rfl
  funext i
  have := at_entry (i 0) (i 1) (i 2)
  rwa [show (ix3 (i 0) (i 1) (i 2) : S4x8192x64.Idx) = i from by funext a; fin_cases a <;> rfl] at this

theorem lineL_eq : lineL q k = arrL qr kr := by
  have hx := logits_real hq hk
  have he : ∀ h r s, (Host.exp (logits q k) : FVec Ideal S4x8192x8192 .f32) (ix3 h r s) = ((Real.exp (logit qr kr h r s) : ℝ) : EReal) := fun h r s =>
    (congrArg Ideal.exp (hx h r s)).trans (Ideal.exp_coe _)
  have hl := rowSum_real he
  have at_entry : ∀ (h : Fin 4) (r : Fin 8192), lineL q k (ix3 h r 0) = arrL qr kr (ix3 h r 0) := by
    intro h r
    refine (congrArg Ideal.log (hl h r)).trans ((Ideal.log_coe _).trans (if_neg (not_le.mpr ?_)))
    exact sum_exp_pos (logit qr kr h r)
  funext i
  have := at_entry (i 0) (i 1)
  rwa [show (ix3 (i 0) (i 1) 0 : S4x8192x1.Idx) = i from by funext a; fin_cases a; rfl; rfl; exact Subsingleton.elim (α := Fin 1) _ _] at this

end Cert.Reference2Ideal.Fwd

end
-- ==== Proof.OrigB.Run.lean ====
/- The backward call of mixer B as the version states it, its two constants not yet named, at the machine's numbers: the body ends at every grid point
   and returns its input blocks as they were, whatever the result blocks hold; so every execution ends with the arguments as they were. -/
module

public import proofs.«01_k».proof.Proof.Gen.Kernel7.Frame
public import proofs.«01_k».proof.Proof.Gen.Kernel7.Skeleton
public import Idealize.ShloMosaic.PureOps.BitExact
public import Idealize.ShloMosaic.Lib.Pipeline.DatRel
public import Idealize.ShloMosaic.Lib.Claim

@[expose] public section

set_option maxRecDepth 16384

noncomputable section

namespace Cert.Kernel7.Orig

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)
open Cert.Kernel7.Gen

local notation "𝕄" => MT nD τ sig Unit (Elt Bits) ℕ (UR sig nD τ) ℕ

/-- Of the two branches on the query block exactly one is taken. -/
theorem query_branch (t : Fin grid0.N) : k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1) t
/-- Of the two branches on the key block exactly one is taken. -/
theorem key_branch (t : Fin grid0.N) : k0_cond4 (grid0.coords t) = 1#1 ↔ ¬ k0_cond3 (grid0.coords t) = 1#1 :=
  (by decide +kernel : ∀ t : Fin grid0.N, k0_cond4 (grid0.coords t) = 1#1 ↔ ¬ k0_cond3 (grid0.coords t) = 1#1) t

set_option maxHeartbeats 4000000 in
/-- The body's run at one grid point. -/
theorem run_body {F : FTy → Type} [FloatOps F] (c : Dev nD) (i : grid0.Coords)
    (arg3 : Memref sig .tc .vmem S1x1024x64 .bf16) (harg3 : arg3.IsWhole)
    (arg4 : Memref sig .tc .vmem S1x2048x64 .bf16) (harg4 : arg4.IsWhole)
    (arg5 : Memref sig .tc .vmem S1x2048x64 .bf16) (harg5 : arg5.IsWhole)
    (arg6 : Memref sig .tc .vmem S1x1024x64 .f32) (harg6 : arg6.IsWhole)
    (arg7 : Memref sig .tc .vmem S1x1024x1 .f32) (harg7 : arg7.IsWhole)
    (arg8 : Memref sig .tc .vmem S1x1024x64 .f32) (harg8 : arg8.IsWhole)
    (arg9 : Memref sig .tc .vmem S1x16384x64 .f32) (harg9 : arg9.IsWhole)
    (arg10 : Memref sig .tc .vmem S1x2048x64 .f32) (harg10 : arg10.IsWhole)
    (arg11 : Memref sig .tc .vmem S1x2048x64 .f32) (harg11 : arg11.IsWhole)
    (h12 : k0_cond2 i = 1#1 ↔ ¬ k0_cond1 i = 1#1) (h34 : k0_cond4 i = 1#1 ↔ ¬ k0_cond3 i = 1#1)
    (x0 : Vec F S1x1024x64 .bf16) (x1 : Vec F S1x2048x64 .bf16) (x2 : Vec F S1x2048x64 .bf16) (x3 : Vec F S1x1024x64 .f32) (x4 : Vec F S1x1024x1 .f32) (x5 : Vec F S1x1024x64 .f32)
    (E : Set ℕ) (K : PUnit → sProp (MT nD τ sig Unit (Elt F) ℕ (UR sig nD τ) ℕ)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ (∃ Y, owns (c : Thread nD τ) arg9 fullShare Y)
        ∗ (∃ Y, owns (c : Thread nD τ) arg10 fullShare Y)
        ∗ (∃ Y, owns (c : Thread nD τ) arg11 fullShare Y)
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ (∃ Y, owns (c : Thread nD τ) arg9 fullShare Y)
        ∗ (∃ Y, owns (c : Thread nD τ) arg10 fullShare Y)
        ∗ (∃ Y, owns (c : Thread nD τ) arg11 fullShare Y)) -∗ K ⟨⟩))
      ⊢ wp frame (wpE (defs₀ (F := F)) Variants.none c none) E
          (cc0_gqa_bwd i arg3 harg3 arg4 harg4 arg5 harg5 arg6 harg6 arg7 harg7 arg8 harg8 arg9 harg9 arg10 harg10 arg11 harg11) K := by
  simp only [cc0_gqa_bwd_eq_skeleton]; unfold cc0_gqa_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%Y6, %f6, %hf6, H6⟩, ⟨%Y7, %f7, %hf7, H7⟩, ⟨%Y8, %f8, %hf8, H8⟩, Hk⟩
  by_cases hc0 : k0_cond1 i = 1#1 <;> by_cases hc2 : k0_cond3 i = 1#1
  all_goals
    first
      | have hc1 : k0_cond2 i = 1#1 := h12.mpr hc0
      | have hc1 : ¬ k0_cond2 i = 1#1 := fun h => h12.mp h hc0
    first
      | have hc3 : k0_cond4 i = 1#1 := h34.mpr hc2
      | have hc3 : ¬ k0_cond4 i = 1#1 := fun h => h34.mp h hc2
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; iexists _; isplitr; swap; · iexact H6
      ipureintro; rfl
    isplitl [H7]
    · iexists _; iexists _; isplitr; swap; · iexact H7
      ipureintro; rfl
    iexists _; iexists _; isplitr; swap; · iexact H8
    ipureintro; rfl

variable (m : (ℓ : Loc nD τ sig) → Buf (Elt Bits) ℓ) (ρ : Dev nD → PrngReg)

/-! ## The proof data -/

/-- The result windows: what the body leaves there is held to a predicate. -/
def isResult : Fin 9 → Bool := fun w => w.val == 6 || w.val == 7 || w.val == 8

/-- Nothing is said of what the body leaves there. -/
def holds : (w : Fin cfg0.W) → Fin cfg0.N → ((cfg0.win w).block.Idx → Elt Bits (cfg0.win w).elt) → Prop := fun _ _ _ => True

/-- The arrays as the region finds them, each input's buffer at its block throughout. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same, with the result windows held to `holds`. -/
def rdat (c : Dev nD) : RDat τ (Elt Bits) Unit ℕ (UR sig nD τ) ℕ cfg0 c := (dats m 0 c).toRRel isResult (holds)

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜holds 6 t X⌝ ∗ owns (c : Thread nD τ) (st0_6 t) fullShare X)
    ∗ (∃ X, ⌜holds 7 t X⌝ ∗ owns (c : Thread nD τ) (st0_7 t) fullShare X)
    ∗ (∃ X, ⌜holds 8 t X⌝ ∗ owns (c : Thread nD τ) (st0_8 t) fullShare X))

set_option maxHeartbeats 3200000 in
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [dats_before0, dats_before1, dats_before2, dats_before3, dats_before4, dats_before5]
  rw [dats_after0, dats_after1, dats_after2, dats_after3, dats_after4, dats_after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
  iapply (run_body c (grid0.coords t) _ _ _ _ _ _ _ _ _ _ _ _ _ _ _ _ _ _ (query_branch t) (key_branch t)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists Y6; iexact H6
  isplitl [H7]; · iexists Y7; iexact H7
  isplitl [H8]; · iexists Y8; iexact H8
  iintro ⟨H0, H1, H2, H3, H4, H5, ⟨%Z6, H6⟩, ⟨%Z7, H7⟩, ⟨%Z8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists Z6; isplitr; · ipureintro; exact trivial
    iexact H6
  isplitl [H7]
  · iexists Z7; isplitr; · ipureintro; exact trivial
    iexact H7
  iexists Z8; isplitr; · ipureintro; exact trivial
  iexact H8

theorem body_row (t : Fin cfg0.N) : defs₀ (F := Bits) .tc cfg0.body (cfg0.bodyArgs t (cfg0.slots t)) = bodyAt0 t := by
  unfold defs₀; rw [Defs.onTc_tc]

theorem body_obligation (c : Dev nD) :
    BodyObligationRel (dats m 0 c) (defs₀ (F := Bits)) Variants.none () Set.univ isResult (holds) := fun t => by
  rw [bigSep_W0, bigSep_W0, body_row]
  exact triple_restated (sound_body m c t) rfl .rfl fun _ => .rfl

/-! ## The launch -/

set_option backward.isDefEq.respectTransparency.types false in
/-- Every execution ends, with the arrays at what the proof data say of them and every counter at zero. -/
theorem run_main : θ_run defs (onTc (τ := τ) (main (F := Bits))) (s₀ m ρ)
    (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := dats_A m) (hΦ := fun _ _ => rfl)

/-- The argument arrays after the run. -/
theorem args_kept (c : Dev nD) (r : PUnit × MemSt nD τ sig (Elt Bits)) (h : RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((dats_A m c 0).trans (V_main_arg0 m c)),
    (RDat.FramePost.arr_in h c 1 rfl).trans ((dats_A m c 1).trans (V_main_arg1 m c)),
    (RDat.FramePost.arr_in h c 2 rfl).trans ((dats_A m c 2).trans (V_main_arg2 m c)),
    (RDat.FramePost.arr_in h c 5 rfl).trans ((dats_A m c 5).trans (V_main_arg3 m c))⟩

/-- The frame of the program as the version states it. -/
theorem frame_main : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.Kernel7.Orig

end
-- ==== Proof.BwdB.Body.lean ====
/- What one grid point of the backward call leaves in its three result blocks, as plain functions of the six input blocks and of what the
   result blocks held before, and the run of the body that shows it. -/
module

public import proofs.«01_k».proof.Proof.Gen.Kernel7Ideal.Frame
public import proofs.«01_k».proof.Proof.Gen.Kernel7Ideal.Skeleton
public import Idealize.ShloMosaic.Lib.VecWindow

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal.Gen

variable {F : FTy → Type} [FloatOps F] [Named F]

local notation "𝕄" => MT nD τ sig Unit (Elt F) ℕ (UR sig nD τ) ℕ

/-! ## The conditions and the place of the rows, in closed form -/

/-- The first query block of a key block. -/
theorem first_query (t : Fin grid0.N) : k0_cond1 (grid0.coords t) = 1#1 ↔ t.val % 16 = 0 :=
  (by decide +kernel : ∀ t : Fin grid0.N, k0_cond1 (grid0.coords t) = 1#1 ↔ t.val % 16 = 0) t
/-- A later query block. -/
theorem later_query (t : Fin grid0.N) : k0_cond2 (grid0.coords t) = 1#1 ↔ ¬ t.val % 16 = 0 :=
  (by decide +kernel : ∀ t : Fin grid0.N, k0_cond2 (grid0.coords t) = 1#1 ↔ ¬ t.val % 16 = 0) t
/-- The first key block of a head. -/
theorem first_key (t : Fin grid0.N) : k0_cond3 (grid0.coords t) = 1#1 ↔ t.val / 16 % 4 = 0 :=
  (by decide +kernel : ∀ t : Fin grid0.N, k0_cond3 (grid0.coords t) = 1#1 ↔ t.val / 16 % 4 = 0) t
/-- A later key block. -/
theorem later_key (t : Fin grid0.N) : k0_cond4 (grid0.coords t) = 1#1 ↔ ¬ t.val / 16 % 4 = 0 :=
  (by decide +kernel : ∀ t : Fin grid0.N, k0_cond4 (grid0.coords t) = 1#1 ↔ ¬ t.val / 16 % 4 = 0) t

/-- The rows of the query block lie inside the head's block. -/
theorem rows_inb (i : grid0.Coords) : ∀ a, (![0, 1024 * (i 2).val, 0] : Fin 3 → ℕ) a + S1x1024x64.size a ≤ S1x16384x64.size a :=
  (by decide +kernel : ∀ i : grid0.Coords, ∀ a, (![0, 1024 * (i 2).val, 0] : Fin 3 → ℕ) a + S1x1024x64.size a ≤ S1x16384x64.size a) i

/-! ## What the body leaves -/

/-- The rows of the query block that `y` holds. -/
def rowsOf (i : grid0.Coords) (y : Vec F S1x16384x64 .f32) : Vec F S1x1024x64 .f32 :=
  VecWindow.window y ![0, 1024 * (i 2).val, 0] S1x1024x64.size (rows_inb i)

/-- What the body leaves in the block of q's gradient: the query block's rows set by the first key block and added to by a later one. -/
def left6 (i : grid0.Coords) (x0 : Vec F S1x1024x64 .bf16) (x1 : Vec F S1x2048x64 .bf16) (x2 : Vec F S1x2048x64 .bf16)
    (x3 : Vec F S1x1024x64 .f32) (x4 : Vec F S1x1024x1 .f32) (x5 : Vec F S1x1024x64 .f32) (y : Vec F S1x16384x64 .f32) : Vec F S1x16384x64 .f32 :=
  VecWindow.put y ![0, 1024 * (i 2).val, 0] S1x1024x64.size
    (if k0_cond3 i = 1#1 then k0_pay7 (k0_pay10 x1) (k0_pay14 x0 x1 x2 x5 x4 x3)
      else k0_pay8 (k0_pay10 x1) (k0_pay14 x0 x1 x2 x5 x4 x3) (rowsOf i y))

/-- What the body leaves in the block of k's gradient. -/
def left7 (i : grid0.Coords) (x0 : Vec F S1x1024x64 .bf16) (x1 : Vec F S1x2048x64 .bf16) (x2 : Vec F S1x2048x64 .bf16)
    (x3 : Vec F S1x1024x64 .f32) (x4 : Vec F S1x1024x1 .f32) (x5 : Vec F S1x1024x64 .f32) (y : Vec F S1x2048x64 .f32) : Vec F S1x2048x64 .f32 :=
  if k0_cond1 i = 1#1 then k0_pay3 (k0_pay16 x0 x1 x2 x5 x4 x3) else k0_pay5 (k0_pay16 x0 x1 x2 x5 x4 x3) y

/-- What the body leaves in the block of v's gradient. -/
def left8 (i : grid0.Coords) (x0 : Vec F S1x1024x64 .bf16) (x1 : Vec F S1x2048x64 .bf16) (x4 : Vec F S1x1024x1 .f32)
    (x5 : Vec F S1x1024x64 .f32) (y : Vec F S1x2048x64 .f32) : Vec F S1x2048x64 .f32 :=
  if k0_cond1 i = 1#1 then k0_pay4 (k0_pay15 x0 x1 x5 x4) else k0_pay6 (k0_pay15 x0 x1 x5 x4) y

/-- A load of a whole block through its memref, at contents that read as `x`. -/
theorem load_whole {s : Shape} {e : EltTy} (a : Memref sig .tc .vmem s e) (ha : a.IsWhole) (x : s.Idx → Elt F e) {off : Fin s.rank → ℕ}
    (inb : ∀ k, off k + s.size k ≤ s.size k) :
    a.view.readAt (Elt F) (Rect.unit off s.size inb).toLoadRect (ha.unread x) = x := by
  rw [View.readAt_full, ha.read_unread]

/-- A load of the query block's rows of the head's block, at contents that read as `y`. -/
theorem load_rows {i : grid0.Coords} (a : Memref sig .tc .vmem S1x16384x64 .f32) (ha : a.IsWhole) (y : Vec F S1x16384x64 .f32)
    (h : k0_cond4 i = 1#1) :
    a.view.readAt (Elt F) (Rect.unit (s := S1x16384x64) (k0_off2 i) S1x1024x64.size (k0_off2_inb i h)).toLoadRect (ha.unread y)
      = rowsOf i y := by
  rw [View.readAt_unit (h := k0_off2_eq i) (inb' := rows_inb i), ha.read_unread]; rfl

set_option maxHeartbeats 4000000 in
/-- The body's run at one grid point: exactly one of each pair of conditions holds; the inputs are left as they were, and each result block
    at what the definitions above say. -/
theorem run_body (c : Dev nD) (i : grid0.Coords) (arg3 : Memref sig .tc .vmem S1x1024x64 .bf16) (harg3 : arg3.IsWhole)
    (arg4 : Memref sig .tc .vmem S1x2048x64 .bf16) (harg4 : arg4.IsWhole) (arg5 : Memref sig .tc .vmem S1x2048x64 .bf16)
    (harg5 : arg5.IsWhole) (arg6 : Memref sig .tc .vmem S1x1024x64 .f32) (harg6 : arg6.IsWhole)
    (arg7 : Memref sig .tc .vmem S1x1024x1 .f32) (harg7 : arg7.IsWhole) (arg8 : Memref sig .tc .vmem S1x1024x64 .f32)
    (harg8 : arg8.IsWhole) (arg9 : Memref sig .tc .vmem S1x16384x64 .f32) (harg9 : arg9.IsWhole)
    (arg10 : Memref sig .tc .vmem S1x2048x64 .f32) (harg10 : arg10.IsWhole) (arg11 : Memref sig .tc .vmem S1x2048x64 .f32)
    (harg11 : arg11.IsWhole) (h12 : k0_cond2 i = 1#1 ↔ ¬ k0_cond1 i = 1#1) (h34 : k0_cond4 i = 1#1 ↔ ¬ k0_cond3 i = 1#1)
    (x0 : Vec F S1x1024x64 .bf16) (x1 : Vec F S1x2048x64 .bf16) (x2 : Vec F S1x2048x64 .bf16) (x3 : Vec F S1x1024x64 .f32)
    (x4 : Vec F S1x1024x1 .f32) (x5 : Vec F S1x1024x64 .f32) (y6 : Vec F S1x16384x64 .f32) (y7 : Vec F S1x2048x64 .f32)
    (y8 : Vec F S1x2048x64 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare y6 ∗ owns (c : Thread nD τ) arg10 fullShare y7 ∗ owns (c : Thread nD τ) arg11 fullShare y8
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (left6 i x0 x1 x2 x3 x4 x5 y6)
            ∗ owns (c : Thread nD τ) arg10 fullShare (left7 i x0 x1 x2 x3 x4 x5 y7)
            ∗ owns (c : Thread nD τ) arg11 fullShare (left8 i x0 x1 x4 x5 y8)) -∗ K ⟨⟩))
      ⊢ wp frame (wpE (defs₀ (F := F)) Variants.none c none) E
          (cc0_gqa_bwd i arg3 harg3 arg4 harg4 arg5 harg5 arg6 harg6 arg7 harg7 arg8 harg8 arg9 harg9 arg10 harg10 arg11 harg11) K := by
  simp only [cc0_gqa_bwd_eq_skeleton]; unfold cc0_gqa_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  have l0 := load_whole arg3 harg3 x0 inb_S1x1024x64_S1x1024x64_0_0_0
  have l1 := load_whole arg4 harg4 x1 inb_S1x2048x64_S1x2048x64_0_0_0
  have l2 := load_whole arg5 harg5 x2 inb_S1x2048x64_S1x2048x64_0_0_0
  have l3 := load_whole arg6 harg6 x3 inb_S1x1024x64_S1x1024x64_0_0_0
  have l4 := load_whole arg7 harg7 x4 inb_S1x1024x1_S1x1024x1_0_0_0
  have l5 := load_whole arg8 harg8 x5 inb_S1x1024x64_S1x1024x64_0_0_0
  have l7 := load_whole arg10 harg10 y7 inb_S1x2048x64_S1x2048x64_0_0_0
  have l8 := load_whole arg11 harg11 y8 inb_S1x2048x64_S1x2048x64_0_0_0
  by_cases hc0 : k0_cond1 i = 1#1 <;> by_cases hc2 : k0_cond3 i = 1#1
  all_goals
    first
      | have hc1 : k0_cond2 i = 1#1 := h12.mpr hc0
      | have hc1 : ¬ k0_cond2 i = 1#1 := fun h => h12.mp h hc0
    first
      | have hc3 : k0_cond4 i = 1#1 := h34.mpr hc2
        have l6 := load_rows arg9 harg9 y6 hc3
      | have hc3 : ¬ k0_cond4 i = 1#1 := fun h => h34.mp h hc2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; unfold left6
      first
        | rw [if_pos hc2, View.read_writes_cons_put (h := k0_off1_eq i), View.writes_nil, harg9.read_unread]
        | rw [if_neg hc2, View.read_writes_cons_put (h := k0_off2_eq i), View.writes_nil, harg9.read_unread]
    isplitl [H7]
    · iexists _; isplitr; swap; · iexact H7
      ipureintro; unfold left7
      first | rw [if_pos hc0] | rw [if_neg hc0]
      exact View.read_writes_full (s := S1x2048x64) _ _ _ _ _
    iexists _; isplitr; swap; · iexact H8
    ipureintro; unfold left8
    first | rw [if_pos hc0] | rw [if_neg hc0]
    exact View.read_writes_full (s := S1x2048x64) _ _ _ _ _

end Cert.Kernel7Ideal.Bwd

end
-- ==== Proof.BwdB.Point.lean ====
/- What one grid point of mixer B's backward call computes, entry by entry, when the entries of its input blocks are real numbers. -/
module

public import proofs.«01_k».proof.Proof.BwdB.Body
public import proofs.«01_k».proof.Proof.Bwd.Host
public import Idealize.ShloMosaic.Lib.Pipeline.ValueKit
public import Idealize.ShloMosaic.Lib.Claim

@[expose] public section

set_option maxRecDepth 16384

noncomputable section

namespace Cert.Kernel7Ideal.Bwd

open Idealize.ShloMosaic Idealize.ShloMosaic.TcCoe
open Cert.Kernel7Ideal.Gen Cert.Softmax

/-! ## The constants -/

/-- The scale of the logits, the inverse root of the 64 columns. -/
def scale : ℝ := 1 / 8

theorem scale_word : Ideal.ofBits FTy.f32 0x3E000000#32 = (scale : EReal) := by
  unfold scale; simp [Ideal.ofBits, Ideal.ieee, -EReal.coe_mul]; norm_num

theorem log2e_val : (Named.named κ "log2e" 0x3FB8AA3B#32 : Ideal .f32) = (((Real.log 2)⁻¹ : ℝ) : EReal) :=
  IdealRules.named_const.ideal_named_scalar _ _ _ _ rfl

theorem scale_log2e_val :
    (Named.named κ "scale_log2e_b" 0x3E38AA3B#32 : Ideal .f32) = ((scale * (Real.log 2)⁻¹ : ℝ) : EReal) :=
  IdealRules.named_const.ideal_named_scalar _ _ _ _ rfl

/-! ## The payloads -/

variable {x0 : Vec Ideal S1x1024x64 .bf16} {x1 : Vec Ideal S1x2048x64 .bf16} {x2 : Vec Ideal S1x2048x64 .bf16}
  {x3 : Vec Ideal S1x1024x64 .f32} {x4 : Vec Ideal S1x1024x1 .f32} {x5 : Vec Ideal S1x1024x64 .f32}
  {q : Fin 1024 → Fin 64 → ℝ} {k : Fin 2048 → Fin 64 → ℝ} {v : Fin 2048 → Fin 64 → ℝ} {o g : Fin 1024 → Fin 64 → ℝ} {l : Fin 1024 → ℝ}

/-- A probability, from the row's log-sum. -/
def prob (q : Fin 1024 → Fin 64 → ℝ) (k : Fin 2048 → Fin 64 → ℝ) (l : Fin 1024 → ℝ) (r : Fin 1024) (s : Fin 2048) : ℝ :=
  Real.exp ((∑ d, q r d * k s d) * scale - l r)

/-- A logit's gradient, before the scale. -/
def dlog (q : Fin 1024 → Fin 64 → ℝ) (k : Fin 2048 → Fin 64 → ℝ) (v : Fin 2048 → Fin 64 → ℝ) (o g : Fin 1024 → Fin 64 → ℝ) (l : Fin 1024 → ℝ)
    (r : Fin 1024) (s : Fin 2048) : ℝ :=
  prob q k l r s * (∑ e, g r e * v s e - ∑ e, g r e * o r e)

theorem pay13_real (h0 : ∀ r d, x0 (ix3 0 r d) = ((q r d : ℝ) : EReal)) (h1 : ∀ s d, x1 (ix3 0 s d) = ((k s d : ℝ) : EReal))
    (h4 : ∀ r, x4 (ix3 0 r 0) = ((l r : ℝ) : EReal)) (r : Fin 1024) (s : Fin 2048) :
    k0_pay13 x0 x1 x4 (ix2 r s) = ((prob q k l r s : ℝ) : EReal) := by
  unfold k0_pay13 k0_pay9 k0_pay10
  pointwise
  rw [coe_sum_mul _ _ _ (fun d => q r d) (fun d => k s d) (h0 r) (h1 s), h4, log2e_val, scale_log2e_val]
  refine (congrArg Ideal.exp2 ?_).trans ((Ideal.exp2_coe _).trans (congrArg _ (Cert.KernelIdeal.Bwd.two_rpow _ _ _)))
  simp only [EReal.coe_sub, EReal.coe_mul]

theorem pay14_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (r : Fin 1024) (s : Fin 2048) :
    k0_pay14 x0 x1 x2 x5 x4 x3 (ix2 r s) = ((dlog q k v o g l r s : ℝ) : EReal) := by
  unfold k0_pay14 k0_pay11 k0_pay12 k0_pay11
  pointwise
  rw [pay13_real h0 h1 h4, coe_sum_mul _ _ _ (fun e => g r e) (fun e => v s e) (h5 r) (h2 s),
    coe_sum_mul _ _ _ (fun e => g r e) (fun e => o r e) (h5 r) (h3 r)]
  unfold dlog
  rw [EReal.coe_mul, EReal.coe_sub]

/-- A point's addend to q's gradient. -/
theorem dq_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (r : Fin 1024) (d : Fin 64) :
    k0_pay2 (k0_pay10 x1) (k0_pay14 x0 x1 x2 x5 x4 x3) (ix2 r d) = (((∑ s, dlog q k v o g l r s * k s d) * scale : ℝ) : EReal) := by
  unfold k0_pay2 k0_pay10
  pointwise
  rw [coe_sum_mul _ _ _ (fun s => dlog q k v o g l r s) (fun s => k s d) (pay14_real h0 h1 h2 h3 h4 h5 r) (fun s => h1 s d), scale_word, EReal.coe_mul]

/-- A point's addend to k's gradient. -/
theorem dk_real (h0 : ∀ r d, x0 (ix3 0 r d) = ((q r d : ℝ) : EReal)) (h1 : ∀ s d, x1 (ix3 0 s d) = ((k s d : ℝ) : EReal))
    (h2 : ∀ s e, x2 (ix3 0 s e) = ((v s e : ℝ) : EReal)) (h3 : ∀ r e, x3 (ix3 0 r e) = ((o r e : ℝ) : EReal))
    (h4 : ∀ r, x4 (ix3 0 r 0) = ((l r : ℝ) : EReal)) (h5 : ∀ r e, x5 (ix3 0 r e) = ((g r e : ℝ) : EReal)) (s : Fin 2048) (d : Fin 64) :
    k0_pay1 (k0_pay16 x0 x1 x2 x5 x4 x3) (ix2 s d) = (((∑ r, dlog q k v o g l r s * q r d) * scale : ℝ) : EReal) := by
  unfold k0_pay1 k0_pay16 k0_pay9
  pointwise
  rw [coe_sum_mul _ _ _ (fun r => dlog q k v o g l r s) (fun r => q r d) (fun r => pay14_real h0 h1 h2 h3 h4 h5 r s) (fun r => h0 r d), scale_word, EReal.coe_mul]

/-- A point's addend to v's gradient. -/
theorem dv_real (h0 : ∀ r d, x0 (ix3 0 r d) = ((q r d : ℝ) : EReal)) (h1 : ∀ s d, x1 (ix3 0 s d) = ((k s d : ℝ) : EReal))
    (h4 : ∀ r, x4 (ix3 0 r 0) = ((l r : ℝ) : EReal)) (h5 : ∀ r e, x5 (ix3 0 r e) = ((g r e : ℝ) : EReal)) (s : Fin 2048) (e : Fin 64) :
    k0_pay15 x0 x1 x5 x4 (ix2 s e) = ((∑ r, prob q k l r s * g r e : ℝ) : EReal) := by
  unfold k0_pay15 k0_pay12 k0_pay11
  pointwise
  rw [coe_sum_mul _ _ _ (fun r => prob q k l r s) (fun r => g r e) (fun r => pay13_real h0 h1 h4 r s) (fun r => h5 r e)]

end Cert.Kernel7Ideal.Bwd

end
-- ==== Proof.BwdB.Host.lean ====
/- Mixer B's forward pass on the host, entry by entry: what the two programs share of it, as functions of the arrays. -/
module

public import proofs.«01_k».proof.Proof.BwdB.Point
public import Idealize.ShloMosaic.Lib.StableHlo.ReadAt

@[expose] public section

set_option maxRecDepth 16384

noncomputable section

namespace Cert.Kernel7Ideal.Bwd

open Idealize.ShloMosaic Idealize.ShloMosaic.TcCoe
open Cert.Kernel7Ideal.Gen Cert.Softmax

/-! ## The lines as functions of arrays -/

/-- The scaled logits. -/
def logits (q : FVec Ideal S2x16384x64 .bf16) (k : FVec Ideal S2x8192x64 .bf16) : FVec Ideal S2x16384x8192 .f32 :=
  mulf (Host.dotGeneral dot_S2x16384x64_S2x8192x64_S2x16384x8192_2_2_1_1_0_0 none (extf .f32 q bitsLt_bf16_f32) (extf .f32 k bitsLt_bf16_f32))
    (broadcastInDim S2x16384x8192 ![] bcast_S_S2x16384x8192 (constant (F := Ideal) S_ .f32 0x3E000000#32))

/-- The rows' maxima. -/
def rowMax (x : FVec Ideal S2x16384x8192 .f32) : FVec Ideal S2x16384x1 .f32 :=
  broadcastInDim S2x16384x1 ![0, 1] bcast_S2x16384_S2x16384x1_0_1
    (Host.reduce FloatOps.maximumf x (constant (F := Ideal) S_ .f32 0xFF800000#32) reducesTo_S2x16384x8192_S2x16384_d2 h_S_)

/-- The exponentials of the rows' logits less `M`. -/
def expo (x : FVec Ideal S2x16384x8192 .f32) (M : FVec Ideal S2x16384x1 .f32) : FVec Ideal S2x16384x8192 .f32 :=
  Host.exp (subf x (broadcastInDim S2x16384x8192 ![0, 1, 2] bcast_S2x16384x1_S2x16384x8192_0_1_2 M))

/-- The rows' sums. -/
def rowSum (e : FVec Ideal S2x16384x8192 .f32) : FVec Ideal S2x16384x1 .f32 :=
  broadcastInDim S2x16384x1 ![0, 1] bcast_S2x16384_S2x16384x1_0_1
    (Host.reduceAdd e (constant (F := Ideal) S_ .f32 0x00000000#32) reducesTo_S2x16384x8192_S2x16384_d2 h_S_)

/-- The probabilities. -/
def probs (e : FVec Ideal S2x16384x8192 .f32) (l : FVec Ideal S2x16384x1 .f32) : FVec Ideal S2x16384x8192 .f32 :=
  Host.divf e (broadcastInDim S2x16384x8192 ![0, 1, 2] bcast_S2x16384x1_S2x16384x8192_0_1_2 l)

/-- The output. -/
def output (p : FVec Ideal S2x16384x8192 .f32) (v : FVec Ideal S2x8192x64 .bf16) : FVec Ideal S2x16384x64 .f32 :=
  Host.dotGeneral dot_S2x16384x8192_S2x8192x64_S2x16384x64_2_1_1_2_0_0 none p (extf .f32 v bitsLt_bf16_f32)

/-! ## Their entries -/

variable {q : FVec Ideal S2x16384x64 .bf16} {k : FVec Ideal S2x8192x64 .bf16} {v : FVec Ideal S2x8192x64 .bf16}
  {qr : Fin 2 → Fin 16384 → Fin 64 → ℝ} {kr : Fin 2 → Fin 8192 → Fin 64 → ℝ} {vr : Fin 2 → Fin 8192 → Fin 64 → ℝ}

/-- A head's logits over the reals. -/
def logit (qr : Fin 2 → Fin 16384 → Fin 64 → ℝ) (kr : Fin 2 → Fin 8192 → Fin 64 → ℝ) (h : Fin 2) (r : Fin 16384) (s : Fin 8192) : ℝ := (∑ d, qr h r d * kr h s d) * scale

theorem logits_real (hq : ∀ h r d, q (ix3 h r d) = ((qr h r d : ℝ) : EReal)) (hk : ∀ h s d, k (ix3 h s d) = ((kr h s d : ℝ) : EReal))
    (h : Fin 2) (r : Fin 16384) (s : Fin 8192) : logits q k (ix3 h r s) = ((logit qr kr h r s : ℝ) : EReal) := by
  unfold logits
  pointwise
  rw [coe_sum_mul _ _ _ (fun d => qr h r d) (fun d => kr h s d) (hq h r) (hk h s), scale_word]
  unfold logit; rw [EReal.coe_mul]

variable {x : FVec Ideal S2x16384x8192 .f32} {xr : Fin 2 → Fin 16384 → Fin 8192 → ℝ} {M l : FVec Ideal S2x16384x1 .f32} {Mr lr : Fin 2 → Fin 16384 → ℝ}

theorem rowMax_real (hx : ∀ h r s, x (ix3 h r s) = ((xr h r s : ℝ) : EReal)) :
    ∃ Mr : Fin 2 → Fin 16384 → ℝ, ∀ h r, rowMax x (ix3 h r 0) = ((Mr h r : ℝ) : EReal) := by
  have key : ∀ h r, ∃ M : ℝ, rowMax x (ix3 h r 0) = (M : EReal) := by
    intro h r
    obtain ⟨M, hM⟩ := fold_max_real (xr h r)
    refine ⟨M, ?_⟩
    unfold rowMax
    pointwise
    rw [Cert.KernelIdeal.Bwd.minus_infinity, ← hM]
    exact congrArg (fun f => Finset.fold max (⊥ : EReal) f Finset.univ) (funext fun s => hx h r s)
  choose Mr hMr using key
  exact ⟨Mr, hMr⟩

theorem expo_real (hx : ∀ h r s, x (ix3 h r s) = ((xr h r s : ℝ) : EReal)) (hM : ∀ h r, M (ix3 h r 0) = ((Mr h r : ℝ) : EReal))
    (h : Fin 2) (r : Fin 16384) (s : Fin 8192) : expo x M (ix3 h r s) = ((Real.exp (xr h r s - Mr h r) : ℝ) : EReal) := by
  unfold expo
  pointwise
  rw [hx, hM, ← EReal.coe_sub]
  exact Ideal.exp_coe _

theorem rowSum_real (hx : ∀ h r s, x (ix3 h r s) = ((xr h r s : ℝ) : EReal)) (h : Fin 2) (r : Fin 16384) :
    rowSum x (ix3 h r 0) = ((∑ s, xr h r s : ℝ) : EReal) := by
  unfold rowSum
  pointwise
  rw [← coe_sum]
  exact Finset.sum_congr rfl fun s _ => hx h r s

theorem probs_real (hx : ∀ h r s, x (ix3 h r s) = ((xr h r s : ℝ) : EReal)) (hl : ∀ h r, l (ix3 h r 0) = ((lr h r : ℝ) : EReal))
    (h0 : ∀ h r, lr h r ≠ 0) (h : Fin 2) (r : Fin 16384) (s : Fin 8192) : probs x l (ix3 h r s) = ((xr h r s / lr h r : ℝ) : EReal) := by
  unfold probs
  pointwise
  rw [hx, hl, Ideal.div_coe (h0 h r), ← EReal.coe_mul]
  congr 1; ring

theorem output_real (hx : ∀ h r s, x (ix3 h r s) = ((xr h r s : ℝ) : EReal)) (hv : ∀ h s e, v (ix3 h s e) = ((vr h s e : ℝ) : EReal))
    (h : Fin 2) (r : Fin 16384) (e : Fin 64) : output x v (ix3 h r e) = ((∑ s, xr h r s * vr h s e : ℝ) : EReal) := by
  unfold output
  pointwise
  exact coe_sum_mul _ _ _ (fun s => xr h r s) (fun s => vr h s e) (hx h r) (fun s => hv h s e)

/-- The rows' log-sums. -/
def lseOf (M l : FVec Ideal S2x16384x1 .f32) : FVec Ideal S2x16384x1 .f32 := addf M (Host.log l)

theorem lseOf_real (hM : ∀ h r, M (ix3 h r 0) = ((Mr h r : ℝ) : EReal)) (hl : ∀ h r, l (ix3 h r 0) = ((lr h r : ℝ) : EReal))
    (h0 : ∀ h r, 0 < lr h r) (h : Fin 2) (r : Fin 16384) : lseOf M l (ix3 h r 0) = ((Mr h r + Real.log (lr h r) : ℝ) : EReal) := by
  unfold lseOf
  pointwise
  rw [hM, hl, EReal.coe_add]
  refine congrArg₂ (· + ·) rfl ((Ideal.log_coe _).trans (if_neg (not_le.mpr (h0 h r))))

end Cert.Kernel7Ideal.Bwd

end
-- ==== Proof.BwdB.Parts.lean ====
/- What each grid point of the backward call adds to the three gradients, what the result blocks therefore hold after each point, and that the
   body carries this from one point to the next. Everything is over the extended reals, where addition is associative without conditions. -/
module

public import proofs.«01_k».proof.Proof.BwdB.Body
public import Idealize.ShloMosaic.Lib.ValueLayout
public import Idealize.ShloMosaic.Lib.ValueIdx

@[expose] public section

set_option maxRecDepth 16384

noncomputable section

namespace Cert.Kernel7Ideal.Bwd

open Idealize.ShloMosaic Idealize.ShloMosaic.TcCoe Idealize.ShloMosaic.ValueIdx
open Cert.Kernel7Ideal.Gen

variable (m : (ℓ : Loc nD τ sig) → Buf (Elt Ideal) ℓ) (c : Dev nD)

/-! ## The input blocks of a point and its addends -/

/-- The queries' block. -/
def qBlk (t : Fin grid0.N) : Vec Ideal S1x1024x64 .bf16 := iblk m c 0 t
/-- The keys' block. -/
def kBlk (t : Fin grid0.N) : Vec Ideal S1x2048x64 .bf16 := iblk m c 1 t
/-- The values' block. -/
def vBlk (t : Fin grid0.N) : Vec Ideal S1x2048x64 .bf16 := iblk m c 2 t
/-- The block of the forward pass's output. -/
def oBlk (t : Fin grid0.N) : Vec Ideal S1x1024x64 .f32 := iblk m c 3 t
/-- The block of the rows' log-sums. -/
def lseBlk (t : Fin grid0.N) : Vec Ideal S1x1024x1 .f32 := iblk m c 4 t
/-- The block of the output's cotangent. -/
def doBlk (t : Fin grid0.N) : Vec Ideal S1x1024x64 .f32 := iblk m c 5 t

/-- What point `t` adds to the query block's rows of q's gradient. -/
def dqPart (t : Fin grid0.N) : FVec Ideal S1024x64 .f32 :=
  k0_pay2 (k0_pay10 (kBlk m c t)) (k0_pay14 (qBlk m c t) (kBlk m c t) (vBlk m c t) (doBlk m c t) (lseBlk m c t) (oBlk m c t))
/-- What point `t` adds to the key block's rows of k's gradient. -/
def dkPart (t : Fin grid0.N) : FVec Ideal S2048x64 .f32 :=
  k0_pay1 (k0_pay16 (qBlk m c t) (kBlk m c t) (vBlk m c t) (doBlk m c t) (lseBlk m c t) (oBlk m c t))
/-- What point `t` adds to the key block's rows of v's gradient. -/
def dvPart (t : Fin grid0.N) : FVec Ideal S2048x64 .f32 :=
  k0_pay15 (qBlk m c t) (kBlk m c t) (doBlk m c t) (lseBlk m c t)

/-- `dqPart` at a number, zero beyond the grid. -/
def dqAt (n : ℕ) (r : Fin 1024) (d : Fin 64) : EReal := if h : n < grid0.N then dqPart m c ⟨n, h⟩ (ix2 r d) else 0
/-- `dkPart` at a number, zero beyond the grid. -/
def dkAt (n : ℕ) (r : Fin 2048) (d : Fin 64) : EReal := if h : n < grid0.N then dkPart m c ⟨n, h⟩ (ix2 r d) else 0
/-- `dvPart` at a number, zero beyond the grid. -/
def dvAt (n : ℕ) (r : Fin 2048) (d : Fin 64) : EReal := if h : n < grid0.N then dvPart m c ⟨n, h⟩ (ix2 r d) else 0

theorem dqAt_val (t : Fin grid0.N) (r : Fin 1024) (d : Fin 64) : dqAt m c t.val r d = dqPart m c t (ix2 r d) := dif_pos t.isLt
theorem dkAt_val (t : Fin grid0.N) (r : Fin 2048) (d : Fin 64) : dkAt m c t.val r d = dkPart m c t (ix2 r d) := dif_pos t.isLt
theorem dvAt_val (t : Fin grid0.N) (r : Fin 2048) (d : Fin 64) : dvAt m c t.val r d = dvPart m c t (ix2 r d) := dif_pos t.isLt

/-! ## What the result blocks hold after a point -/

/-- How many key blocks have been added into query block `b`'s rows after point `t`. -/
def added (t b : ℕ) : ℕ := t / 16 % 4 + if b ≤ t % 16 then 1 else 0

/-- q's gradient after point `t`: the rows of a query block already met hold the sum of what was added to them. -/
def Holds6 (t : ℕ) (X : Vec Ideal S1x16384x64 .f32) : Prop :=
  ∀ (r : Fin 16384) (d : Fin 64), 0 < added t (r.val / 1024) →
    X (ix3 0 r d) = ∑ j ∈ Finset.range (added t (r.val / 1024)),
      dqAt m c (64 * (t / 64) + 16 * j + r.val / 1024) ⟨r.val % 1024, Nat.mod_lt _ (by decide)⟩ d

/-- k's gradient after point `t`. -/
def Holds7 (t : ℕ) (X : Vec Ideal S1x2048x64 .f32) : Prop :=
  ∀ (r : Fin 2048) (d : Fin 64), X (ix3 0 r d) = ∑ i ∈ Finset.range (t % 16 + 1), dkAt m c (16 * (t / 16) + i) r d

/-- v's gradient after point `t`. -/
def Holds8 (t : ℕ) (X : Vec Ideal S1x2048x64 .f32) : Prop :=
  ∀ (r : Fin 2048) (d : Fin 64), X (ix3 0 r d) = ∑ i ∈ Finset.range (t % 16 + 1), dvAt m c (16 * (t / 16) + i) r d

/-! ## The body carries it on -/

theorem holds7_step (t : Fin grid0.N) (Y : Vec Ideal S1x2048x64 .f32) (hY : t.val % 16 ≠ 0 → Holds7 m c (t.val - 1) Y) :
    Holds7 m c t.val (left7 (grid0.coords t) (qBlk m c t) (kBlk m c t) (vBlk m c t) (oBlk m c t) (lseBlk m c t) (doBlk m c t) Y) := by
  intro r d
  unfold left7
  by_cases h : t.val % 16 = 0
  · rw [if_pos ((first_query t).mpr h), h]
    unfold k0_pay3
    refine (shapeCast_ab_1ab_apply _ _ _ _ _).trans ?_
    rw [zero_add, Finset.sum_range_one, show 16 * (t.val / 16) + 0 = t.val by omega, dkAt_val]
    rfl
  · rw [if_neg (fun e => h ((first_query t).mp e))]
    unfold k0_pay5
    refine (shapeCast_ab_1ab_apply _ _ _ _ _).trans ?_
    refine (addf_apply _ _ _).trans ?_
    rw [Finset.sum_range_succ, show 16 * (t.val / 16) + t.val % 16 = t.val by omega, dkAt_val]
    refine congrArg₂ (· + ·) ?_ rfl
    refine (shapeCast_1ab_ab_apply _ _ _ _).trans ((hY h r d).trans ?_)
    rw [show (t.val - 1) % 16 + 1 = t.val % 16 by omega, show (t.val - 1) / 16 = t.val / 16 by omega]

theorem holds8_step (t : Fin grid0.N) (Y : Vec Ideal S1x2048x64 .f32) (hY : t.val % 16 ≠ 0 → Holds8 m c (t.val - 1) Y) :
    Holds8 m c t.val (left8 (grid0.coords t) (qBlk m c t) (kBlk m c t) (lseBlk m c t) (doBlk m c t) Y) := by
  intro r d
  unfold left8
  by_cases h : t.val % 16 = 0
  · rw [if_pos ((first_query t).mpr h), h]
    unfold k0_pay4
    refine (shapeCast_ab_1ab_apply _ _ _ _ _).trans ?_
    rw [zero_add, Finset.sum_range_one, show 16 * (t.val / 16) + 0 = t.val by omega, dvAt_val]
    rfl
  · rw [if_neg (fun e => h ((first_query t).mp e))]
    unfold k0_pay6
    refine (shapeCast_ab_1ab_apply _ _ _ _ _).trans ?_
    refine (addf_apply _ _ _).trans ?_
    rw [Finset.sum_range_succ, show 16 * (t.val / 16) + t.val % 16 = t.val by omega, dvAt_val]
    refine congrArg₂ (· + ·) ?_ rfl
    refine (shapeCast_1ab_ab_apply _ _ _ _).trans ((hY h r d).trans ?_)
    rw [show (t.val - 1) % 16 + 1 = t.val % 16 by omega, show (t.val - 1) / 16 = t.val / 16 by omega]

/-- The query block of a point. -/
theorem query_block (t : Fin grid0.N) : (grid0.coords t 2).val = t.val % 16 :=
  (by decide +kernel : ∀ t : Fin grid0.N, (grid0.coords t 2).val = t.val % 16) t

/-- Rows put into the head's block, read inside them. -/
theorem put_rows_inside (t : Fin grid0.N) (Y : Vec Ideal S1x16384x64 .f32) (w : Vec Ideal S1x1024x64 .f32) (r : Fin 16384) (d : Fin 64)
    (h : r.val / 1024 = t.val % 16) :
    VecWindow.put Y ![0, 1024 * (grid0.coords t 2).val, 0] S1x1024x64.size w (ix3 0 r d)
      = w (ix3 0 ⟨r.val % 1024, Nat.mod_lt _ (by decide)⟩ d) := by
  have hq := query_block t
  have hd := d.isLt
  unfold VecWindow.put
  rw [dif_pos (by
    intro a; fin_cases a
    · exact ⟨le_refl 0, Nat.zero_lt_one⟩
    · show 1024 * (grid0.coords t 2).val ≤ r.val ∧ r.val < 1024 * (grid0.coords t 2).val + 1024
      omega
    · exact ⟨Nat.zero_le _, by show d.val < 0 + 64; omega⟩)]
  refine congrArg w (funext fun a => Fin.ext ?_)
  fin_cases a
  · rfl
  · show r.val - 1024 * (grid0.coords t 2).val = r.val % 1024
    omega
  · rfl

/-- Rows put into the head's block, read outside them. -/
theorem put_rows_outside (t : Fin grid0.N) (Y : Vec Ideal S1x16384x64 .f32) (w : Vec Ideal S1x1024x64 .f32) (r : Fin 16384) (d : Fin 64)
    (h : r.val / 1024 ≠ t.val % 16) :
    VecWindow.put Y ![0, 1024 * (grid0.coords t 2).val, 0] S1x1024x64.size w (ix3 0 r d) = Y (ix3 0 r d) := by
  have hq := query_block t
  unfold VecWindow.put
  rw [dif_neg (by
    intro e
    have e1 : 1024 * (grid0.coords t 2).val ≤ r.val ∧ r.val < 1024 * (grid0.coords t 2).val + 1024 := e 1
    omega)]

/-- The query block's rows of the head's block, read at a row. -/
theorem rowsOf_apply (t : Fin grid0.N) (Y : Vec Ideal S1x16384x64 .f32) (r : Fin 16384) (d : Fin 64) (h : r.val / 1024 = t.val % 16) :
    rowsOf (grid0.coords t) Y (ix3 0 ⟨r.val % 1024, Nat.mod_lt _ (by decide)⟩ d) = Y (ix3 0 r d) := by
  have hq := query_block t
  unfold rowsOf VecWindow.window
  refine congrArg Y (funext fun a => Fin.ext ?_)
  fin_cases a
  · rfl
  · show 1024 * (grid0.coords t 2).val + 1 * (r.val % 1024) = r.val
    omega
  · show 0 + 1 * d.val = d.val
    omega

theorem holds6_step (t : Fin grid0.N) (Y : Vec Ideal S1x16384x64 .f32) (hY : t.val % 64 ≠ 0 → Holds6 m c (t.val - 1) Y) :
    Holds6 m c t.val (left6 (grid0.coords t) (qBlk m c t) (kBlk m c t) (vBlk m c t) (oBlk m c t) (lseBlk m c t) (doBlk m c t) Y) := by
  intro r d hpos
  have hr : r.val / 1024 < 16 := by have := r.isLt; omega
  unfold left6
  by_cases hb : r.val / 1024 = t.val % 16
  · rw [put_rows_inside t Y _ r d hb]
    by_cases h : t.val / 16 % 4 = 0
    · rw [if_pos ((first_key t).mpr h)]
      have hn : added t.val (r.val / 1024) = 1 := by unfold added; rw [h, if_pos (by omega)]
      unfold k0_pay7
      refine (shapeCast_ab_1ab_apply _ _ _ _ _).trans ?_
      rw [hn, Finset.sum_range_one, show 64 * (t.val / 64) + 16 * 0 + r.val / 1024 = t.val by omega, dqAt_val]
      rfl
    · rw [if_neg (fun e => h ((first_key t).mp e))]
      have hn : added t.val (r.val / 1024) = t.val / 16 % 4 + 1 := by unfold added; rw [if_pos (by omega)]
      have hn' : added (t.val - 1) (r.val / 1024) = t.val / 16 % 4 := by
        unfold added; split_ifs <;> omega
      unfold k0_pay8
      refine (shapeCast_ab_1ab_apply _ _ _ _ _).trans ?_
      refine (addf_apply _ _ _).trans ?_
      rw [hn, Finset.sum_range_succ, show 64 * (t.val / 64) + 16 * (t.val / 16 % 4) + r.val / 1024 = t.val by omega, dqAt_val]
      refine congrArg₂ (· + ·) ?_ rfl
      refine (shapeCast_1ab_ab_apply _ _ _ _).trans ((rowsOf_apply t Y r d hb).trans ?_)
      rw [hY (by omega) r d (by omega), hn', show (t.val - 1) / 64 = t.val / 64 by omega]
  · rw [put_rows_outside t Y _ r d hb]
    have h64 : t.val % 64 ≠ 0 := by
      intro e; unfold added at hpos; split_ifs at hpos <;> omega
    have hn : added (t.val - 1) (r.val / 1024) = added t.val (r.val / 1024) := by
      unfold added; split_ifs <;> omega
    rw [hY h64 r d (by omega), hn, show (t.val - 1) / 64 = t.val / 64 by omega]

end Cert.Kernel7Ideal.Bwd

end
-- ==== Proof.BwdB.Entry.lean ====
/- What mixer B's backward call is entered with, entry by entry: the arguments' arrays and the two arrays the host computes, and each grid point's
   blocks of them. -/
module

public import proofs.«01_k».proof.Proof.BwdB.Host
public import proofs.«01_k».proof.Proof.BwdB.Parts

@[expose] public section

set_option maxRecDepth 16384

noncomputable section

namespace Cert.Kernel7Ideal.Bwd

open Idealize.ShloMosaic Idealize.ShloMosaic.TcCoe
open Cert.Kernel7Ideal.Gen Cert.Softmax

variable (m : (ℓ : Loc nD τ sig) → Buf (Elt Ideal) ℓ) (c : Dev nD)

/-! ## The arguments, and what the host makes of them -/

/-- The queries as launched. -/
def argQ : FVec Ideal S2x16384x64 .bf16 := m ((c.tc : Thread nD τ).loc main_arg0)
/-- The keys as launched. -/
def argK : FVec Ideal S2x8192x64 .bf16 := m ((c.tc : Thread nD τ).loc main_arg1)
/-- The values as launched. -/
def argV : FVec Ideal S2x8192x64 .bf16 := m ((c.tc : Thread nD τ).loc main_arg2)
/-- The cotangent as launched. -/
def argG : FVec Ideal S2x16384x64 .f32 := m ((c.tc : Thread nD τ).loc main_arg3)

theorem V_output : V m c main_v15
    = output (probs (expo (logits (argQ m c) (argK m c)) (rowMax (logits (argQ m c) (argK m c))))
        (rowSum (expo (logits (argQ m c) (argK m c)) (rowMax (logits (argQ m c) (argK m c)))))) (argV m c) := by
  entry_read; rfl

theorem V_lse : V m c main_v17
    = lseOf (rowMax (logits (argQ m c) (argK m c)))
        (rowSum (expo (logits (argQ m c) (argK m c)) (rowMax (logits (argQ m c) (argK m c))))) := by
  entry_read; rfl

/-- The arguments' entries are these real numbers. -/
structure Reads (qr : Fin 2 → Fin 16384 → Fin 64 → ℝ) (kr : Fin 2 → Fin 8192 → Fin 64 → ℝ) (vr : Fin 2 → Fin 8192 → Fin 64 → ℝ) (gr : Fin 2 → Fin 16384 → Fin 64 → ℝ) : Prop where
  q : ∀ h r d, argQ m c (ix3 h r d) = ((qr h r d : ℝ) : EReal)
  k : ∀ h s d, argK m c (ix3 h s d) = ((kr h s d : ℝ) : EReal)
  v : ∀ h s e, argV m c (ix3 h s e) = ((vr h s e : ℝ) : EReal)
  g : ∀ h r e, argG m c (ix3 h r e) = ((gr h r e : ℝ) : EReal)

variable {m c} {qr : Fin 2 → Fin 16384 → Fin 64 → ℝ} {kr : Fin 2 → Fin 8192 → Fin 64 → ℝ} {vr : Fin 2 → Fin 8192 → Fin 64 → ℝ} {gr : Fin 2 → Fin 16384 → Fin 64 → ℝ}

/-- The attention's output and log-sums, from one shift `Mr` of every row. -/
theorem Reads.saved (H : Reads m c qr kr vr gr) : ∃ Mr : Fin 2 → Fin 16384 → ℝ,
    (∀ h r e, V m c main_v15 (ix3 h r e) = ((∑ s, soft (logit qr kr h r) s * vr h s e : ℝ) : EReal))
    ∧ ∀ h r, V m c main_v17 (ix3 h r 0) = ((Mr h r + Real.log (∑ s, Real.exp (logit qr kr h r s - Mr h r)) : ℝ) : EReal) := by
  have hL := logits_real H.q H.k
  obtain ⟨Mr, hM⟩ := rowMax_real hL
  have hE := expo_real hL hM
  have hS := rowSum_real hE
  have hpos : ∀ h r, 0 < ∑ s, Real.exp (logit qr kr h r s - Mr h r) := fun h r => sum_exp_pos _
  have hP := probs_real hE hS fun h r => (hpos h r).ne'
  refine ⟨Mr, fun h r e => ?_, fun h r => ?_⟩
  · rw [V_output, output_real hP H.v]
    simp only [soft_shift]
  · rw [V_lse, lseOf_real hM hS hpos]

/-! ## A point's blocks -/

/-- The head of a point. -/
def headOf (t : Fin grid0.N) : Fin 2 := ⟨t.val / 64, by have : t.val < 128 := t.isLt; omega⟩
/-- A row of the array, from a row of the point's query block. -/
def rowOf (t : Fin grid0.N) (r : Fin 1024) : Fin 16384 := ⟨1024 * (t.val % 16) + r.val, by have := r.isLt; omega⟩
/-- A row of the array, from a row of the point's key block. -/
def colOf (t : Fin grid0.N) (s : Fin 2048) : Fin 8192 := ⟨2048 * (t.val / 16 % 4) + s.val, by have := s.isLt; omega⟩

theorem index0 (t : Fin grid0.N) : win0_0.index t 0 = t.val / 64 ∧ win0_0.index t 1 = t.val % 16 ∧ win0_0.index t 2 = 0 :=
  (by decide +kernel : ∀ t : Fin grid0.N, win0_0.index t 0 = t.val / 64 ∧ win0_0.index t 1 = t.val % 16 ∧ win0_0.index t 2 = 0) t
theorem index1 (t : Fin grid0.N) : win0_1.index t 0 = t.val / 64 ∧ win0_1.index t 1 = t.val / 16 % 4 ∧ win0_1.index t 2 = 0 :=
  (by decide +kernel : ∀ t : Fin grid0.N, win0_1.index t 0 = t.val / 64 ∧ win0_1.index t 1 = t.val / 16 % 4 ∧ win0_1.index t 2 = 0) t
theorem index2 (t : Fin grid0.N) : win0_2.index t 0 = t.val / 64 ∧ win0_2.index t 1 = t.val / 16 % 4 ∧ win0_2.index t 2 = 0 :=
  (by decide +kernel : ∀ t : Fin grid0.N, win0_2.index t 0 = t.val / 64 ∧ win0_2.index t 1 = t.val / 16 % 4 ∧ win0_2.index t 2 = 0) t
theorem index3 (t : Fin grid0.N) : win0_3.index t 0 = t.val / 64 ∧ win0_3.index t 1 = t.val % 16 ∧ win0_3.index t 2 = 0 :=
  (by decide +kernel : ∀ t : Fin grid0.N, win0_3.index t 0 = t.val / 64 ∧ win0_3.index t 1 = t.val % 16 ∧ win0_3.index t 2 = 0) t
theorem index4 (t : Fin grid0.N) : win0_4.index t 0 = t.val / 64 ∧ win0_4.index t 1 = t.val % 16 ∧ win0_4.index t 2 = 0 :=
  (by decide +kernel : ∀ t : Fin grid0.N, win0_4.index t 0 = t.val / 64 ∧ win0_4.index t 1 = t.val % 16 ∧ win0_4.index t 2 = 0) t
theorem index5 (t : Fin grid0.N) : win0_5.index t 0 = t.val / 64 ∧ win0_5.index t 1 = t.val % 16 ∧ win0_5.index t 2 = 0 :=
  (by decide +kernel : ∀ t : Fin grid0.N, win0_5.index t 0 = t.val / 64 ∧ win0_5.index t 1 = t.val % 16 ∧ win0_5.index t 2 = 0) t

theorem qBlk_apply (t : Fin grid0.N) (r : Fin 1024) (d : Fin 64) : qBlk m c t (ix3 0 r d) = argQ m c (ix3 (headOf t) (rowOf t r) d) := by
  obtain ⟨e0, e1, e2⟩ := index0 t
  rw [show argQ m c = V m c main_arg0 from (V_main_arg0 m c).symm]
  unfold qBlk
  blk_ext [iblk, e0, e1, e2, headOf, rowOf]

theorem kBlk_apply (t : Fin grid0.N) (s : Fin 2048) (d : Fin 64) : kBlk m c t (ix3 0 s d) = argK m c (ix3 (headOf t) (colOf t s) d) := by
  obtain ⟨e0, e1, e2⟩ := index1 t
  rw [show argK m c = V m c main_arg1 from (V_main_arg1 m c).symm]
  unfold kBlk
  blk_ext [iblk, e0, e1, e2, headOf, colOf]

theorem vBlk_apply (t : Fin grid0.N) (s : Fin 2048) (d : Fin 64) : vBlk m c t (ix3 0 s d) = argV m c (ix3 (headOf t) (colOf t s) d) := by
  obtain ⟨e0, e1, e2⟩ := index2 t
  rw [show argV m c = V m c main_arg2 from (V_main_arg2 m c).symm]
  unfold vBlk
  blk_ext [iblk, e0, e1, e2, headOf, colOf]

/-- The output's block of any array. -/
theorem blk3_apply (t : Fin grid0.N) (A : Vec Ideal S2x16384x64 .f32) (r : Fin 1024) (d : Fin 64) :
    ((cfg0.win 3).blk t).view.read (Elt Ideal) A (ix3 0 r d) = A (ix3 (headOf t) (rowOf t r) d) := by
  obtain ⟨e0, e1, e2⟩ := index3 t
  blk_ext [e0, e1, e2, headOf, rowOf]

theorem oBlk_apply (t : Fin grid0.N) (r : Fin 1024) (d : Fin 64) : oBlk m c t (ix3 0 r d) = V m c main_v15 (ix3 (headOf t) (rowOf t r) d) := by
  unfold oBlk iblk V
  generalize StableHlo.after hostOps0 (fun b => m (c, b)) = W
  exact blk3_apply t (W (Pipeline.arrRef spec0 3)) r d

/-- The log-sums' block of any array. -/
theorem blk4_apply (t : Fin grid0.N) (A : Vec Ideal S2x16384x1 .f32) (r : Fin 1024) :
    ((cfg0.win 4).blk t).view.read (Elt Ideal) A (ix3 0 r 0) = A (ix3 (headOf t) (rowOf t r) 0) := by
  obtain ⟨e0, e1, e2⟩ := index4 t
  blk_ext [e0, e1, e2, headOf, rowOf]

theorem lseBlk_apply (t : Fin grid0.N) (r : Fin 1024) : lseBlk m c t (ix3 0 r 0) = V m c main_v17 (ix3 (headOf t) (rowOf t r) 0) := by
  unfold lseBlk iblk V
  generalize StableHlo.after hostOps0 (fun b => m (c, b)) = W
  exact blk4_apply t (W (Pipeline.arrRef spec0 4)) r

theorem doBlk_apply (t : Fin grid0.N) (r : Fin 1024) (d : Fin 64) : doBlk m c t (ix3 0 r d) = argG m c (ix3 (headOf t) (rowOf t r) d) := by
  obtain ⟨e0, e1, e2⟩ := index5 t
  rw [show argG m c = V m c main_arg3 from (V_main_arg3 m c).symm]
  unfold doBlk
  blk_ext [iblk, e0, e1, e2, headOf, rowOf]

end Cert.Kernel7Ideal.Bwd

end
-- ==== Proof.BwdB.Run.lean ====
/- The backward call's run over the extended reals: the proof data of its pipeline, the body's obligation at every grid point, and the launch. -/
module

public import proofs.«01_k».proof.Proof.BwdB.Parts
public import Idealize.ShloMosaic.Lib.Pipeline.DatRel
public import Idealize.ShloMosaic.Lib.Claim

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)
open Cert.Kernel7Ideal.Gen

local notation "𝕄" => MT nD τ sig Unit (Elt Ideal) ℕ (UR sig nD τ) ℕ

variable (m : (ℓ : Loc nD τ sig) → Buf (Elt Ideal) ℓ) (ρ : Dev nD → PrngReg)

/-! ## The proof data -/

/-- The result windows: what the body leaves there is held to a predicate. -/
def isResult : Fin 9 → Bool := fun w => w.val == 6 || w.val == 7 || w.val == 8

/-- What the body leaves in each result window at each point. -/
def holds (c : Dev nD) : (w : Fin cfg0.W) → Fin cfg0.N → ((cfg0.win w).block.Idx → Elt Ideal (cfg0.win w).elt) → Prop := fun w t =>
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Holds6 m c t.val X
  | ⟨7, _⟩ => fun X => Holds7 m c t.val X
  | ⟨8, _⟩ => fun X => Holds8 m c t.val X

/-- The arrays as the region finds them, each input's buffer at its block throughout. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same, with the result windows held to `holds`. -/
def rdat (c : Dev nD) : RDat τ (Elt Ideal) Unit ℕ (UR sig nD τ) ℕ cfg0 c := (dats m 0 c).toRRel isResult (holds m c)

theorem dats_A (c : Dev nD) (w : Fin cfg0.W) : (dats m 0 c).A w = V m c (Pipeline.arrRef spec0 w) := by dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]

theorem dats_before0 (c : Dev nD) (t : Fin cfg0.N) (d) : (dats m 0 c).before 0 t d = iblk m c 0 t :=
  before0_0_of m (dats m 0 c) (dats_A m c 0) (dats_after0 m c) t d
theorem dats_before1 (c : Dev nD) (t : Fin cfg0.N) (d) : (dats m 0 c).before 1 t d = iblk m c 1 t :=
  before0_1_of m (dats m 0 c) (dats_A m c 1) (dats_after1 m c) t d
theorem dats_before2 (c : Dev nD) (t : Fin cfg0.N) (d) : (dats m 0 c).before 2 t d = iblk m c 2 t :=
  before0_2_of m (dats m 0 c) (dats_A m c 2) (dats_after2 m c) t d
theorem dats_before3 (c : Dev nD) (t : Fin cfg0.N) (d) : (dats m 0 c).before 3 t d = iblk m c 3 t :=
  before0_3_of m (dats m 0 c) (dats_A m c 3) (dats_after3 m c) t d
theorem dats_before4 (c : Dev nD) (t : Fin cfg0.N) (d) : (dats m 0 c).before 4 t d = iblk m c 4 t :=
  before0_4_of m (dats m 0 c) (dats_A m c 4) (dats_after4 m c) t d
theorem dats_before5 (c : Dev nD) (t : Fin cfg0.N) (d) : (dats m 0 c).before 5 t d = iblk m c 5 t :=
  before0_5_of m (dats m 0 c) (dats_A m c 5) (dats_after5 m c) t d

/-! ## What the body finds in the result windows -/

theorem found6 (c : Dev nD) (t : Fin cfg0.N) (Y : Vec Ideal S1x16384x64 .f32) (hF : (rdat m c).Finds 6 t Y) (h : t.val % 64 ≠ 0) :
    Holds6 m c (t.val - 1) Y := by
  have hX := (RDat.finds_of_pos (rdat m c) (w := 6) (t := t) rfl (by omega) Y).mp hF
  rcases hX with hX | hX
  · have := (flush0_6 _).mp hX
    dsimp only at this
    omega
  · exact (dats m 0 c).toRRel_leaves (w := 6) rfl hX

theorem found7 (c : Dev nD) (t : Fin cfg0.N) (Y : Vec Ideal S1x2048x64 .f32) (hF : (rdat m c).Finds 7 t Y) (h : t.val % 16 ≠ 0) :
    Holds7 m c (t.val - 1) Y := by
  have hX := (RDat.finds_of_pos (rdat m c) (w := 7) (t := t) rfl (by omega) Y).mp hF
  rcases hX with hX | hX
  · have := (flush0_7 _).mp hX
    dsimp only at this
    omega
  · exact (dats m 0 c).toRRel_leaves (w := 7) rfl hX

theorem found8 (c : Dev nD) (t : Fin cfg0.N) (Y : Vec Ideal S1x2048x64 .f32) (hF : (rdat m c).Finds 8 t Y) (h : t.val % 16 ≠ 0) :
    Holds8 m c (t.val - 1) Y := by
  have hX := (RDat.finds_of_pos (rdat m c) (w := 8) (t := t) rfl (by omega) Y).mp hF
  rcases hX with hX | hX
  · have := (flush0_8 _).mp hX
    dsimp only at this
    omega
  · exact (dats m 0 c).toRRel_leaves (w := 8) rfl hX

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜holds m c 6 t X⌝ ∗ owns (c : Thread nD τ) (st0_6 t) fullShare X)
    ∗ (∃ X, ⌜holds m c 7 t X⌝ ∗ owns (c : Thread nD τ) (st0_7 t) fullShare X)
    ∗ (∃ X, ⌜holds m c 8 t X⌝ ∗ owns (c : Thread nD τ) (st0_8 t) fullShare X))

set_option maxHeartbeats 3200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [dats_before0, dats_before1, dats_before2, dats_before3, dats_before4, dats_before5]
  rw [dats_after0, dats_after1, dats_after2, dats_after3, dats_after4, dats_after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩⟩
  iapply (run_body c (grid0.coords t) _ _ _ _ _ _ _ _ _ _ _ _ _ _ _ _ _ _ ((later_query t).trans (not_congr (first_query t)).symm)
    ((later_key t).trans (not_congr (first_key t)).symm) (qBlk m c t) (kBlk m c t) (vBlk m c t) (oBlk m c t) (lseBlk m c t) (doBlk m c t) Y6 Y7 Y8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact holds6_step m c t Y6 (found6 m c t Y6 hY6)
  isplitl [H7]
  · iexists _; isplitr; swap; · iexact H7
    ipureintro; exact holds7_step m c t Y7 (found7 m c t Y7 hY7)
  iexists _; isplitr; swap; · iexact H8
  ipureintro; exact holds8_step m c t Y8 (found8 m c t Y8 hY8)

theorem body_row (t : Fin cfg0.N) : defs₀ (F := Ideal) .tc cfg0.body (cfg0.bodyArgs t (cfg0.slots t)) = bodyAt0 t := by
  unfold defs₀; rw [Defs.onTc_tc]

theorem body_obligation (c : Dev nD) :
    BodyObligationRel (dats m 0 c) (defs₀ (F := Ideal)) Variants.none () Set.univ isResult (holds m c) := fun t => by
  rw [bigSep_W0, bigSep_W0, body_row]
  exact triple_restated (sound_body m c t) rfl .rfl fun _ => .rfl

/-! ## The launch -/

set_option backward.isDefEq.respectTransparency.types false in
/-- Every execution ends, with the arrays at what the proof data say of them and every counter at zero. -/
theorem run_main : θ_run defs (onTc (τ := τ) (main (F := Ideal))) (s₀ m ρ)
    (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := dats_A m) (hΦ := fun _ _ => rfl)

/-- The argument arrays after the run. -/
theorem args_kept (c : Dev nD) (r : PUnit × MemSt nD τ sig (Elt Ideal)) (h : RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((dats_A m c 0).trans (V_main_arg0 m c)),
    (RDat.FramePost.arr_in h c 1 rfl).trans ((dats_A m c 1).trans (V_main_arg1 m c)),
    (RDat.FramePost.arr_in h c 2 rfl).trans ((dats_A m c 2).trans (V_main_arg2 m c)),
    (RDat.FramePost.arr_in h c 5 rfl).trans ((dats_A m c 5).trans (V_main_arg3 m c))⟩

/-- The frame of the idealized program. -/
theorem frame_main : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.Kernel7Ideal.Bwd

end
-- ==== Proof.BwdB.Grad.lean ====
/- The results of mixer B's backward call in closed form: what every grid point adds, summed over the points that add to an entry, is the gradient of
   attention with softmax. -/
module

public import proofs.«01_k».proof.Proof.Bwd.Grad
public import proofs.«01_k».proof.Proof.BwdB.Entry
public import proofs.«01_k».proof.Proof.BwdB.Run
public import Idealize.ShloMosaic.Lib.Pipeline.ArrRel

@[expose] public section

set_option maxRecDepth 16384

noncomputable section

namespace Cert.Kernel7Ideal.Bwd

open Idealize.ShloMosaic Idealize.ShloMosaic.TcCoe
open Idealize.ShloMosaic.Pipeline (Dat RDat Cfg Window)
open Cert.Kernel7Ideal.Gen Cert.Softmax
open Cert.KernelIdeal.Bwd (eq_ix3)

/-! ## The gradient over the reals -/

section Gradient

variable (qr : Fin 2 → Fin 16384 → Fin 64 → ℝ) (kr : Fin 2 → Fin 8192 → Fin 64 → ℝ) (vr : Fin 2 → Fin 8192 → Fin 64 → ℝ) (gr : Fin 2 → Fin 16384 → Fin 64 → ℝ)

/-- The gradient of the probabilities. -/
def dprob (h : Fin 2) (r : Fin 16384) (s : Fin 8192) : ℝ := ∑ e, gr h r e * vr h s e

/-- The gradient of the softmax's argument. -/
def dsoft (h : Fin 2) (r : Fin 16384) (s : Fin 8192) : ℝ := softGrad (logit qr kr h r) (dprob vr gr h r) s

/-- q's gradient. -/
def gradQ (h : Fin 2) (r : Fin 16384) (d : Fin 64) : ℝ := (∑ s, dsoft qr kr vr gr h r s * kr h s d) * scale
/-- k's gradient. -/
def gradK (h : Fin 2) (s : Fin 8192) (d : Fin 64) : ℝ := (∑ r, dsoft qr kr vr gr h r s * qr h r d) * scale
/-- v's gradient. -/
def gradV (h : Fin 2) (s : Fin 8192) (e : Fin 64) : ℝ := ∑ r, soft (logit qr kr h r) s * gr h r e

end Gradient

variable {m : (ℓ : Loc nD τ sig) → Buf (Elt Ideal) ℓ} {c : Dev nD}
  {qr : Fin 2 → Fin 16384 → Fin 64 → ℝ} {kr : Fin 2 → Fin 8192 → Fin 64 → ℝ} {vr : Fin 2 → Fin 8192 → Fin 64 → ℝ} {gr : Fin 2 → Fin 16384 → Fin 64 → ℝ}

/-! ## A point's addends -/

/-- A point's addends, from the whole arrays. -/
theorem Reads.parts (H : Reads m c qr kr vr gr) (t : Fin grid0.N) :
    (∀ r d, dqPart m c t (ix2 r d) = (((∑ s, dsoft qr kr vr gr (headOf t) (rowOf t r) (colOf t s) * kr (headOf t) (colOf t s) d) * scale : ℝ) : EReal))
    ∧ (∀ s d, dkPart m c t (ix2 s d) = (((∑ r, dsoft qr kr vr gr (headOf t) (rowOf t r) (colOf t s) * qr (headOf t) (rowOf t r) d) * scale : ℝ) : EReal))
    ∧ ∀ s e, dvPart m c t (ix2 s e) = ((∑ r, soft (logit qr kr (headOf t) (rowOf t r)) (colOf t s) * gr (headOf t) (rowOf t r) e : ℝ) : EReal) := by
  obtain ⟨Mr, ho, hl⟩ := H.saved
  have h0 := fun r d => (qBlk_apply t r d).trans (H.q (headOf t) (rowOf t r) d)
  have h1 := fun s d => (kBlk_apply t s d).trans (H.k (headOf t) (colOf t s) d)
  have h2 := fun s e => (vBlk_apply t s e).trans (H.v (headOf t) (colOf t s) e)
  have h3 := fun r e => (oBlk_apply t r e).trans (ho (headOf t) (rowOf t r) e)
  have h4 := fun r => (lseBlk_apply t r).trans (hl (headOf t) (rowOf t r))
  have h5 := fun r e => (doBlk_apply t r e).trans (H.g (headOf t) (rowOf t r) e)
  have hp : ∀ r s, prob (fun r d => qr (headOf t) (rowOf t r) d) (fun s d => kr (headOf t) (colOf t s) d)
      (fun r => Mr (headOf t) (rowOf t r) + Real.log (∑ s, Real.exp (logit qr kr (headOf t) (rowOf t r) s - Mr (headOf t) (rowOf t r)))) r s
      = soft (logit qr kr (headOf t) (rowOf t r)) (colOf t s) := fun r s => soft_lse (logit qr kr (headOf t) (rowOf t r)) _ _
  have hd : ∀ r s, dlog (fun r d => qr (headOf t) (rowOf t r) d) (fun s d => kr (headOf t) (colOf t s) d)
      (fun s e => vr (headOf t) (colOf t s) e)
      (fun r e => ∑ s, soft (logit qr kr (headOf t) (rowOf t r)) s * vr (headOf t) s e) (fun r e => gr (headOf t) (rowOf t r) e)
      (fun r => Mr (headOf t) (rowOf t r) + Real.log (∑ s, Real.exp (logit qr kr (headOf t) (rowOf t r) s - Mr (headOf t) (rowOf t r)))) r s
      = dsoft qr kr vr gr (headOf t) (rowOf t r) (colOf t s) := fun r s => by
    unfold dlog dsoft softGrad dprob
    rw [hp, sum_output]
  refine ⟨fun r d => (dq_real h0 h1 h2 h3 h4 h5 r d).trans ?_, fun s d => (dk_real h0 h1 h2 h3 h4 h5 s d).trans ?_,
    fun s e => (dv_real h0 h1 h4 h5 s e).trans ?_⟩
  · simp only [hd]
  · simp only [hd]
  · simp only [hp]

/-! ## The sums over the points -/

/-- The row of the array that a block of 1024 rows has at a place. -/
def row16 (i : Fin 16) (r : Fin 1024) : Fin 16384 := ⟨i.val * 1024 + r.val, by have := i.isLt; have := r.isLt; omega⟩
/-- The row of the array that a block of 2048 rows has at a place. -/
def row4 (j : Fin 4) (s : Fin 2048) : Fin 8192 := ⟨j.val * 2048 + s.val, by have := j.isLt; have := s.isLt; omega⟩

theorem sum_row16 (f : Fin 16384 → ℝ) : ∑ i, ∑ r, f (row16 i r) = ∑ r, f r := Fin.sum_mul_add_fin 16 1024 f
theorem sum_row4 (f : Fin 8192 → ℝ) : ∑ j, ∑ s, f (row4 j s) = ∑ s, f s := Fin.sum_mul_add_fin 4 2048 f

/-- The point of a head, a key block and a query block. -/
def pointOf (h : Fin 2) (j : Fin 4) (i : Fin 16) : Fin grid0.N :=
  ⟨64 * h.val + 16 * j.val + i.val, by have := h.isLt; have := j.isLt; have := i.isLt; show _ < 128; omega⟩

theorem headOf_pointOf (h : Fin 2) (j : Fin 4) (i : Fin 16) : headOf (pointOf h j i) = h := by
  have := h.isLt; have := j.isLt; have := i.isLt
  exact Fin.ext (by show (64 * h.val + 16 * j.val + i.val) / 64 = h.val; omega)
theorem rowOf_pointOf (h : Fin 2) (j : Fin 4) (i : Fin 16) (r : Fin 1024) : rowOf (pointOf h j i) r = row16 i r := by
  have := h.isLt; have := j.isLt; have := i.isLt
  exact Fin.ext (by show 1024 * ((64 * h.val + 16 * j.val + i.val) % 16) + r.val = i.val * 1024 + r.val; omega)
theorem colOf_pointOf (h : Fin 2) (j : Fin 4) (i : Fin 16) (s : Fin 2048) : colOf (pointOf h j i) s = row4 j s := by
  have := h.isLt; have := j.isLt; have := i.isLt
  exact Fin.ext (by show 2048 * ((64 * h.val + 16 * j.val + i.val) / 16 % 4) + s.val = j.val * 2048 + s.val; omega)

/-- The addends to an entry of q's gradient sum to it. -/
theorem Reads.sum_dq (H : Reads m c qr kr vr gr) (h : Fin 2) (i : Fin 16) (r : Fin 1024) (d : Fin 64) :
    ∑ j ∈ Finset.range 4, dqAt m c (64 * h.val + 16 * j + i.val) r d = ((gradQ qr kr vr gr h (row16 i r) d : ℝ) : EReal) := by
  rw [Finset.sum_range]
  have e : ∀ j : Fin 4, dqAt m c (64 * h.val + 16 * j.val + i.val) r d
      = (((∑ s, dsoft qr kr vr gr h (row16 i r) (row4 j s) * kr h (row4 j s) d) * scale : ℝ) : EReal) := fun j => by
    refine (dqAt_val m c (pointOf h j i) r d).trans (((H.parts (pointOf h j i)).1 r d).trans ?_)
    simp only [headOf_pointOf, rowOf_pointOf, colOf_pointOf]
  rw [Finset.sum_congr rfl fun j _ => e j, coe_sum, ← Finset.sum_mul,
    sum_row4 fun s => dsoft qr kr vr gr h (row16 i r) s * kr h s d]
  rfl

/-- The addends to an entry of k's gradient sum to it. -/
theorem Reads.sum_dk (H : Reads m c qr kr vr gr) (h : Fin 2) (j : Fin 4) (s : Fin 2048) (d : Fin 64) :
    ∑ i ∈ Finset.range 16, dkAt m c (64 * h.val + 16 * j.val + i) s d = ((gradK qr kr vr gr h (row4 j s) d : ℝ) : EReal) := by
  rw [Finset.sum_range]
  have e : ∀ i : Fin 16, dkAt m c (64 * h.val + 16 * j.val + i.val) s d
      = (((∑ r, dsoft qr kr vr gr h (row16 i r) (row4 j s) * qr h (row16 i r) d) * scale : ℝ) : EReal) := fun i => by
    refine (dkAt_val m c (pointOf h j i) s d).trans (((H.parts (pointOf h j i)).2.1 s d).trans ?_)
    simp only [headOf_pointOf, rowOf_pointOf, colOf_pointOf]
  rw [Finset.sum_congr rfl fun i _ => e i, coe_sum, ← Finset.sum_mul,
    sum_row16 fun r => dsoft qr kr vr gr h r (row4 j s) * qr h r d]
  rfl

/-- The addends to an entry of v's gradient sum to it. -/
theorem Reads.sum_dv (H : Reads m c qr kr vr gr) (h : Fin 2) (j : Fin 4) (s : Fin 2048) (d : Fin 64) :
    ∑ i ∈ Finset.range 16, dvAt m c (64 * h.val + 16 * j.val + i) s d = ((gradV qr kr gr h (row4 j s) d : ℝ) : EReal) := by
  rw [Finset.sum_range]
  have e : ∀ i : Fin 16, dvAt m c (64 * h.val + 16 * j.val + i.val) s d
      = ((∑ r, soft (logit qr kr h (row16 i r)) (row4 j s) * gr h (row16 i r) d : ℝ) : EReal) := fun i => by
    refine (dvAt_val m c (pointOf h j i) s d).trans (((H.parts (pointOf h j i)).2.2 s d).trans ?_)
    simp only [headOf_pointOf, rowOf_pointOf, colOf_pointOf]
  rw [Finset.sum_congr rfl fun i _ => e i, coe_sum, sum_row16 fun r => soft (logit qr kr h r) (row4 j s) * gr h r d]
  rfl

/-! ## The arrays after the run -/

theorem index6 (t : Fin grid0.N) : win0_6.index t 0 = t.val / 64 ∧ win0_6.index t 1 = 0 ∧ win0_6.index t 2 = 0 :=
  (by decide +kernel : ∀ t : Fin grid0.N, win0_6.index t 0 = t.val / 64 ∧ win0_6.index t 1 = 0 ∧ win0_6.index t 2 = 0) t
theorem index7 (t : Fin grid0.N) : win0_7.index t 0 = t.val / 64 ∧ win0_7.index t 1 = t.val / 16 % 4 ∧ win0_7.index t 2 = 0 :=
  (by decide +kernel : ∀ t : Fin grid0.N, win0_7.index t 0 = t.val / 64 ∧ win0_7.index t 1 = t.val / 16 % 4 ∧ win0_7.index t 2 = 0) t
theorem index8 (t : Fin grid0.N) : win0_8.index t 0 = t.val / 64 ∧ win0_8.index t 1 = t.val / 16 % 4 ∧ win0_8.index t 2 = 0 :=
  (by decide +kernel : ∀ t : Fin grid0.N, win0_8.index t 0 = t.val / 64 ∧ win0_8.index t 1 = t.val / 16 % 4 ∧ win0_8.index t 2 = 0) t

/-- What a block of q's gradient holds when it is written back. -/
theorem Reads.left6 (H : Reads m c qr kr vr gr) (t : Fin grid0.N) (ht : t.val % 64 = 63) (X : Vec Ideal S1x16384x64 .f32) (hX : Holds6 m c t.val X)
    (r : Fin 16384) (d : Fin 64) : X (ix3 0 r d) = ((gradQ qr kr vr gr (headOf t) r d : ℝ) : EReal) := by
  have hr : r.val / 1024 < 16 := by have := r.isLt; omega
  have ha : added t.val (r.val / 1024) = 4 := by unfold added; rw [if_pos (by omega)]; omega
  refine (hX r d (by omega)).trans ?_
  rw [ha, show 64 * (t.val / 64) = 64 * (headOf t).val from rfl]
  refine (H.sum_dq (headOf t) ⟨r.val / 1024, hr⟩ ⟨r.val % 1024, Nat.mod_lt _ (by decide)⟩ d).trans ?_
  rw [show row16 ⟨r.val / 1024, hr⟩ ⟨r.val % 1024, Nat.mod_lt _ (by decide)⟩ = r from Fin.ext (by show r.val / 1024 * 1024 + r.val % 1024 = r.val; omega)]

/-- What a block of k's gradient holds when it is written back. -/
theorem Reads.left7 (H : Reads m c qr kr vr gr) (t : Fin grid0.N) (ht : t.val % 16 = 15) (X : Vec Ideal S1x2048x64 .f32) (hX : Holds7 m c t.val X)
    (s : Fin 2048) (d : Fin 64) : X (ix3 0 s d) = ((gradK qr kr vr gr (headOf t) (colOf t s) d : ℝ) : EReal) := by
  have hj : t.val / 16 % 4 < 4 := Nat.mod_lt _ (by decide)
  refine (hX s d).trans ?_
  rw [ht, show 16 * (t.val / 16) = 64 * (headOf t).val + 16 * (⟨t.val / 16 % 4, hj⟩ : Fin 4).val by
    show 16 * (t.val / 16) = 64 * (t.val / 64) + 16 * (t.val / 16 % 4); omega]
  refine (H.sum_dk (headOf t) ⟨t.val / 16 % 4, hj⟩ s d).trans ?_
  rw [show row4 ⟨t.val / 16 % 4, hj⟩ s = colOf t s from Fin.ext (by show t.val / 16 % 4 * 2048 + s.val = 2048 * (t.val / 16 % 4) + s.val; omega)]

/-- What a block of v's gradient holds when it is written back. -/
theorem Reads.left8 (H : Reads m c qr kr vr gr) (t : Fin grid0.N) (ht : t.val % 16 = 15) (X : Vec Ideal S1x2048x64 .f32) (hX : Holds8 m c t.val X)
    (s : Fin 2048) (d : Fin 64) : X (ix3 0 s d) = ((gradV qr kr gr (headOf t) (colOf t s) d : ℝ) : EReal) := by
  have hj : t.val / 16 % 4 < 4 := Nat.mod_lt _ (by decide)
  refine (hX s d).trans ?_
  rw [ht, show 16 * (t.val / 16) = 64 * (headOf t).val + 16 * (⟨t.val / 16 % 4, hj⟩ : Fin 4).val by
    show 16 * (t.val / 16) = 64 * (t.val / 64) + 16 * (t.val / 16 % 4); omega]
  refine (H.sum_dv (headOf t) ⟨t.val / 16 % 4, hj⟩ s d).trans ?_
  rw [show row4 ⟨t.val / 16 % 4, hj⟩ s = colOf t s from Fin.ext (by show t.val / 16 % 4 * 2048 + s.val = 2048 * (t.val / 16 % 4) + s.val; omega)]

/-- q's gradient as an array. -/
def arrQ (qr : Fin 2 → Fin 16384 → Fin 64 → ℝ) (kr : Fin 2 → Fin 8192 → Fin 64 → ℝ) (vr : Fin 2 → Fin 8192 → Fin 64 → ℝ) (gr : Fin 2 → Fin 16384 → Fin 64 → ℝ) : FVec Ideal S2x16384x64 .f32 :=
  fun i => ((gradQ qr kr vr gr (i 0) (i 1) (i 2) : ℝ) : EReal)
/-- k's gradient as an array. -/
def arrK (qr : Fin 2 → Fin 16384 → Fin 64 → ℝ) (kr : Fin 2 → Fin 8192 → Fin 64 → ℝ) (vr : Fin 2 → Fin 8192 → Fin 64 → ℝ) (gr : Fin 2 → Fin 16384 → Fin 64 → ℝ) : FVec Ideal S2x8192x64 .f32 :=
  fun i => ((gradK qr kr vr gr (i 0) (i 1) (i 2) : ℝ) : EReal)
/-- v's gradient as an array. -/
def arrV (qr : Fin 2 → Fin 16384 → Fin 64 → ℝ) (kr : Fin 2 → Fin 8192 → Fin 64 → ℝ) (gr : Fin 2 → Fin 16384 → Fin 64 → ℝ) : FVec Ideal S2x8192x64 .f32 :=
  fun i => ((gradV qr kr gr (i 0) (i 1) (i 2) : ℝ) : EReal)

/-- The results after the run. -/
theorem Reads.results (H : Reads m c qr kr vr gr) (r : PUnit × MemSt nD τ sig (Elt Ideal))
    (h : RDat.FramePost (cfgs 0) (fun c => rdat m c) (V m) r) :
    r.2.mem ((c.tc : Thread nD τ).loc main_v18_0) = arrQ qr kr vr gr
      ∧ r.2.mem ((c.tc : Thread nD τ).loc main_v18_1) = arrK qr kr vr gr
      ∧ r.2.mem ((c.tc : Thread nD τ).loc main_v18_2) = arrV qr kr gr := by
  obtain ⟨after, hL, hA⟩ := RDat.FramePost.exists_exact h c
  refine ⟨(hA 6).trans ?_, (hA 7).trans ?_, (hA 8).trans ?_⟩
  · refine ((rdat m c).withAfter after).arrAt_eq_of_covers 6 _ (by decide +kernel) fun t hf y => ?_
    have hX := H.left6 t ((flush0_6 t).mp hf) _ ((dats m 0 c).toRRel_leaves (w := 6) rfl (hL 6 t hf))
    obtain ⟨e0, e1, e2⟩ := index6 t
    have hy : y = ix3 0 (⟨(y 1).val, (y 1).isLt⟩ : Fin 16384) (⟨(y 2).val, (y 2).isLt⟩ : Fin 64) :=
      eq_ix3 _ _ _ _ (Nat.lt_one_iff.mp (y 0).isLt) rfl rfl
    have hi : (win0_6.blk t).view.emb y = ix3 (headOf t) (⟨(y 1).val, (y 1).isLt⟩ : Fin 16384) (⟨(y 2).val, (y 2).isLt⟩ : Fin 64) := by
      have h0 : (y 0).val = 0 := Nat.lt_one_iff.mp (y 0).isLt
      refine eq_ix3 _ _ _ _ ?_ ?_ ?_ <;> blk_simp [e0, e1, e2, h0, headOf] <;> omega
    blk_simp
    rw [hi]
    exact (congrArg (after 6 t) hy).trans (hX _ _)
  · refine ((rdat m c).withAfter after).arrAt_eq_of_covers 7 _ (by decide +kernel) fun t hf y => ?_
    have hX := H.left7 t ((flush0_7 t).mp hf) _ ((dats m 0 c).toRRel_leaves (w := 7) rfl (hL 7 t hf))
    obtain ⟨e0, e1, e2⟩ := index7 t
    have hy : y = ix3 0 (⟨(y 1).val, (y 1).isLt⟩ : Fin 2048) (⟨(y 2).val, (y 2).isLt⟩ : Fin 64) :=
      eq_ix3 _ _ _ _ (Nat.lt_one_iff.mp (y 0).isLt) rfl rfl
    have hi : (win0_7.blk t).view.emb y = ix3 (headOf t) (colOf t ⟨(y 1).val, (y 1).isLt⟩ : Fin 8192) (⟨(y 2).val, (y 2).isLt⟩ : Fin 64) := by
      have h0 : (y 0).val = 0 := Nat.lt_one_iff.mp (y 0).isLt
      refine eq_ix3 _ _ _ _ ?_ ?_ ?_
      · blk_simp [e0, h0, headOf]
      · show _ = 2048 * (t.val / 16 % 4) + (y 1).val
        blk_simp [e1]; omega
      · blk_simp [e2]
    blk_simp
    rw [hi]
    exact (congrArg (after 7 t) hy).trans (hX _ _)
  · refine ((rdat m c).withAfter after).arrAt_eq_of_covers 8 _ (by decide +kernel) fun t hf y => ?_
    have hX := H.left8 t ((flush0_8 t).mp hf) _ ((dats m 0 c).toRRel_leaves (w := 8) rfl (hL 8 t hf))
    obtain ⟨e0, e1, e2⟩ := index8 t
    have hy : y = ix3 0 (⟨(y 1).val, (y 1).isLt⟩ : Fin 2048) (⟨(y 2).val, (y 2).isLt⟩ : Fin 64) :=
      eq_ix3 _ _ _ _ (Nat.lt_one_iff.mp (y 0).isLt) rfl rfl
    have hi : (win0_8.blk t).view.emb y = ix3 (headOf t) (colOf t ⟨(y 1).val, (y 1).isLt⟩ : Fin 8192) (⟨(y 2).val, (y 2).isLt⟩ : Fin 64) := by
      have h0 : (y 0).val = 0 := Nat.lt_one_iff.mp (y 0).isLt
      refine eq_ix3 _ _ _ _ ?_ ?_ ?_
      · blk_simp [e0, h0, headOf]
      · show _ = 2048 * (t.val / 16 % 4) + (y 1).val
        blk_simp [e1]; omega
      · blk_simp [e2]
    blk_simp
    rw [hi]
    exact (congrArg (after 8 t) hy).trans (hX _ _)

end Cert.Kernel7Ideal.Bwd

end
-- ==== Proof.BwdB.Reference.lean ====
/- The results of mixer B's backward reference in closed form: its lines as functions of the arrays, their entries over the reals, and the gradient they spell. -/
module

public import proofs.«01_k».proof.Proof.BwdB.Grad
public import proofs.«01_k».proof.Proof.Gen.Reference7Ideal.Run

@[expose] public section

set_option maxRecDepth 16384

noncomputable section

namespace Cert.Reference7Ideal.Bwd

open Idealize.ShloMosaic Idealize.ShloMosaic.TcCoe
open Cert.Reference7Ideal Cert.Reference7Ideal.Gen Cert.Softmax
open Cert.Kernel7Ideal.Bwd (logits rowMax expo rowSum probs scale logit dprob dsoft gradQ gradK gradV arrQ arrK arrV scale_word
  logits_real rowMax_real expo_real rowSum_real probs_real)

/-! ## The lines as functions of arrays -/

/-- The rows' maxima, each once more against minus infinity. -/
def topMax (x : FVec Ideal S2x16384x8192 .f32) : FVec Ideal S2x16384x1 .f32 :=
  broadcastInDim S2x16384x1 ![0, 1] bcast_S2x16384_S2x16384x1_0_1
    (maximumf (broadcastInDim S2x16384 ![] bcast_S_S2x16384 (constant (F := Ideal) S_ .f32 0xFF800000#32))
      (Host.reduce FloatOps.maximumf x (constant (F := Ideal) S_ .f32 0xFF800000#32) reducesTo_S2x16384x8192_S2x16384_d2 h_S_))

/-- The gradient of the probabilities. -/
def dprobs (g : FVec Ideal S2x16384x64 .f32) (v : FVec Ideal S2x8192x64 .f32) : FVec Ideal S2x16384x8192 .f32 :=
  Host.dotGeneral dot_S2x16384x64_S2x8192x64_S2x16384x8192_2_2_1_1_0_0 none g v

/-- The gradient of the rows' sums, as a number per row. -/
def dsum (y e : FVec Ideal S2x16384x8192 .f32) (l : FVec Ideal S2x16384x1 .f32) : FVec Ideal S2x16384 .f32 :=
  Host.reduceAdd (Host.negf (shapeCast S2x16384x1 (Host.reduceAdd (mulf (mulf y (broadcastInDim S2x16384x8192 ![0, 1, 2] bcast_S2x16384x1_S2x16384x8192_0_1_2
      (Host.divf (broadcastInDim S2x16384x1 ![] bcast_S_S2x16384x1 (constant (F := Ideal) S_ .f32 0x3F800000#32)) (mulf l l)))) e)
    (constant (F := Ideal) S_ .f32 0x00000000#32) reducesTo_S2x16384x8192_S2x16384_d2 h_S_) shapeCasts_S2x16384_S2x16384x1))
    (constant (F := Ideal) S_ .f32 0x00000000#32) reducesTo_S2x16384x1_S2x16384_d2 h_S_

/-- The gradient of the unscaled logits. -/
def dlogits (y e : FVec Ideal S2x16384x8192 .f32) (l : FVec Ideal S2x16384x1 .f32) : FVec Ideal S2x16384x8192 .f32 :=
  mulf (mulf (addf (Host.divf y (broadcastInDim S2x16384x8192 ![0, 1, 2] bcast_S2x16384x1_S2x16384x8192_0_1_2 l))
      (broadcastInDim S2x16384x8192 ![0, 1] bcast_S2x16384_S2x16384x8192_0_1 (dsum y e l))) e)
    (broadcastInDim S2x16384x8192 ![] bcast_S_S2x16384x8192 (constant (F := Ideal) S_ .f32 0x3E000000#32))

/-- q's gradient. -/
def outQ (ds : FVec Ideal S2x16384x8192 .f32) (k : FVec Ideal S2x8192x64 .f32) : FVec Ideal S2x16384x64 .f32 :=
  Host.dotGeneral dot_S2x16384x8192_S2x8192x64_S2x16384x64_2_1_1_2_0_0 none ds k
/-- k's gradient. -/
def outK (ds : FVec Ideal S2x16384x8192 .f32) (q : FVec Ideal S2x16384x64 .f32) : FVec Ideal S2x8192x64 .f32 :=
  Host.dotGeneral dot_S2x16384x8192_S2x16384x64_S2x8192x64_1_1_2_2_0_0 none ds q
/-- v's gradient. -/
def outV (g : FVec Ideal S2x16384x64 .f32) (p : FVec Ideal S2x16384x8192 .f32) : FVec Ideal S2x8192x64 .f32 :=
  transpose S2x8192x64 [0, 2, 1] (Host.dotGeneral dot_S2x16384x64_S2x16384x8192_S2x64x8192_1_1_2_2_0_0 none g p) transposes_S2x64x8192_S2x8192x64_0_2_1

/-! ## Their entries -/

/-- A row of numbers against minus infinity, spread to a column. -/
theorem top_spread (R : FVec Ideal S2x16384 .f32) (h : Fin 2) (r : Fin 16384) :
    broadcastInDim S2x16384x1 ![0, 1] bcast_S2x16384_S2x16384x1_0_1
      (maximumf (broadcastInDim S2x16384 ![] bcast_S_S2x16384 (constant (F := Ideal) S_ .f32 0xFF800000#32)) R) (ix3 h r 0)
    = broadcastInDim S2x16384x1 ![0, 1] bcast_S2x16384_S2x16384x1_0_1 R (ix3 h r 0) := by
  pointwise
  rw [Cert.KernelIdeal.Bwd.minus_infinity]
  exact max_eq_right bot_le

theorem topMax_eq (x : FVec Ideal S2x16384x8192 .f32) (h : Fin 2) (r : Fin 16384) : topMax x (ix3 h r 0) = rowMax x (ix3 h r 0) :=
  top_spread _ h r

variable {y e x : FVec Ideal S2x16384x8192 .f32} {l : FVec Ideal S2x16384x1 .f32} {yr er xr : Fin 2 → Fin 16384 → Fin 8192 → ℝ} {lr : Fin 2 → Fin 16384 → ℝ}
  {g : FVec Ideal S2x16384x64 .f32} {v : FVec Ideal S2x8192x64 .f32} {q : FVec Ideal S2x16384x64 .f32} {k : FVec Ideal S2x8192x64 .f32} {gr : Fin 2 → Fin 16384 → Fin 64 → ℝ} {vr : Fin 2 → Fin 8192 → Fin 64 → ℝ} {qr : Fin 2 → Fin 16384 → Fin 64 → ℝ} {kr : Fin 2 → Fin 8192 → Fin 64 → ℝ}

theorem dprobs_real (hg : ∀ h r d, g (ix3 h r d) = ((gr h r d : ℝ) : EReal)) (hv : ∀ h s d, v (ix3 h s d) = ((vr h s d : ℝ) : EReal))
    (h : Fin 2) (r : Fin 16384) (s : Fin 8192) : dprobs g v (ix3 h r s) = ((dprob vr gr h r s : ℝ) : EReal) := by
  unfold dprobs
  pointwise
  exact coe_sum_mul _ _ _ (fun d => gr h r d) (fun d => vr h s d) (hg h r) (hv h s)

theorem dsum_real (hy : ∀ h r s, y (ix3 h r s) = ((yr h r s : ℝ) : EReal)) (he : ∀ h r s, e (ix3 h r s) = ((er h r s : ℝ) : EReal))
    (hl : ∀ h r, l (ix3 h r 0) = ((lr h r : ℝ) : EReal)) (h0 : ∀ h r, lr h r ≠ 0) (h : Fin 2) (r : Fin 16384) :
    dsum y e l (ix2 h r) = ((-∑ s, yr h r s * (1 / (lr h r * lr h r)) * er h r s : ℝ) : EReal) := by
  unfold dsum
  pointwise
  simp only [hy, he, hl]
  have e1 : ∀ s, ((yr h r s : ℝ) : EReal) * Ideal.div 1 ((lr h r : EReal) * (lr h r : EReal)) * ((er h r s : ℝ) : EReal)
      = ((yr h r s * (1 / (lr h r * lr h r)) * er h r s : ℝ) : EReal) := fun s => by
    rw [← EReal.coe_mul, Ideal.div_coe (mul_ne_zero (h0 h r) (h0 h r)), one_mul, EReal.coe_mul, EReal.coe_mul]
  simp only [e1, coe_sum]
  rw [Fin.sum_univ_one, EReal.coe_neg]

theorem dlogits_real (hy : ∀ h r s, y (ix3 h r s) = ((yr h r s : ℝ) : EReal)) (he : ∀ h r s, e (ix3 h r s) = ((er h r s : ℝ) : EReal))
    (hl : ∀ h r, l (ix3 h r 0) = ((lr h r : ℝ) : EReal)) (h0 : ∀ h r, lr h r ≠ 0) (h : Fin 2) (r : Fin 16384) (s : Fin 8192) :
    dlogits y e l (ix3 h r s)
      = (((yr h r s / lr h r + -∑ s', yr h r s' * (1 / (lr h r * lr h r)) * er h r s') * er h r s * scale : ℝ) : EReal) := by
  unfold dlogits
  pointwise
  rw [hy, he, hl, dsum_real hy he hl h0, scale_word, Ideal.div_coe (h0 h r), ← EReal.coe_mul, ← EReal.coe_add, ← EReal.coe_mul, ← EReal.coe_mul]
  congr 1; ring

theorem outQ_real (hx : ∀ h r s, x (ix3 h r s) = ((xr h r s : ℝ) : EReal)) (hk : ∀ h s d, k (ix3 h s d) = ((kr h s d : ℝ) : EReal))
    (h : Fin 2) (r : Fin 16384) (d : Fin 64) : outQ x k (ix3 h r d) = ((∑ s, xr h r s * kr h s d : ℝ) : EReal) := by
  unfold outQ
  pointwise
  exact coe_sum_mul _ _ _ (fun s => xr h r s) (fun s => kr h s d) (hx h r) (fun s => hk h s d)

theorem outK_real (hx : ∀ h r s, x (ix3 h r s) = ((xr h r s : ℝ) : EReal)) (hq : ∀ h s d, q (ix3 h s d) = ((qr h s d : ℝ) : EReal))
    (h : Fin 2) (s : Fin 8192) (d : Fin 64) : outK x q (ix3 h s d) = ((∑ r, xr h r s * qr h r d : ℝ) : EReal) := by
  unfold outK
  pointwise
  exact coe_sum_mul _ _ _ (fun r => xr h r s) (fun r => qr h r d) (fun r => hx h r s) (fun r => hq h r d)

theorem outV_real (hg : ∀ h r d, g (ix3 h r d) = ((gr h r d : ℝ) : EReal)) (hx : ∀ h r s, x (ix3 h r s) = ((xr h r s : ℝ) : EReal))
    (h : Fin 2) (s : Fin 8192) (d : Fin 64) : outV g x (ix3 h s d) = ((∑ r, xr h r s * gr h r d : ℝ) : EReal) := by
  unfold outV
  pointwise
  refine (coe_sum_mul _ _ _ (fun r => gr h r d) (fun r => xr h r s) (fun r => hg h r d) (fun r => hx h r s)).trans ?_
  simp only [mul_comm]

/-! ## The program's results -/

variable (m : (ℓ : Loc nD τ sig) → Buf (Elt Ideal) ℓ) (c : Dev nD)

/-- The queries as launched. -/
def argQ : FVec Ideal S2x16384x64 .bf16 := m ((c.tc : Thread nD τ).loc main_arg0)
/-- The keys as launched. -/
def argK : FVec Ideal S2x8192x64 .bf16 := m ((c.tc : Thread nD τ).loc main_arg1)
/-- The values as launched. -/
def argV : FVec Ideal S2x8192x64 .bf16 := m ((c.tc : Thread nD τ).loc main_arg2)
/-- The cotangent as launched. -/
def argG : FVec Ideal S2x16384x64 .f32 := m ((c.tc : Thread nD τ).loc main_arg3)

/-- The exponentials the reference computes. -/
def exps : FVec Ideal S2x16384x8192 .f32 := expo (logits (argQ m c) (argK m c)) (topMax (logits (argQ m c) (argK m c)))
/-- The gradient of the unscaled logits the reference computes. -/
def dl : FVec Ideal S2x16384x8192 .f32 := dlogits (dprobs (argG m c) (extf .f32 (argV m c) bitsLt_bf16_f32)) (exps m c) (rowSum (exps m c))

end Cert.Reference7Ideal.Bwd

end
-- ==== Proof.BwdB.RefValue.lean ====
/- The results of mixer B's backward reference are the gradient of attention with softmax. -/
module

public import proofs.«01_k».proof.Proof.BwdB.Reference

@[expose] public section

set_option maxRecDepth 16384

noncomputable section

namespace Cert.Reference7Ideal.Bwd

open Idealize.ShloMosaic Idealize.ShloMosaic.TcCoe
open Cert.Reference7Ideal Cert.Reference7Ideal.Gen Cert.Softmax
open Cert.Kernel7Ideal.Bwd (logits rowMax expo rowSum probs scale logit dprob dsoft gradQ gradK gradV arrQ arrK arrV
  logits_real rowMax_real expo_real rowSum_real probs_real)
open Cert.KernelIdeal.Bwd (eq_ix3)

variable (m : (ℓ : Loc nD τ sig) → Buf (Elt Ideal) ℓ) (c : Dev nD)

theorem res_v53 : Value.res_main_v53 m c = outQ (dl m c) (extf .f32 (argK m c) bitsLt_bf16_f32) := by
  unfold Value.res_main_v53 outQ dl dlogits dsum dprobs exps expo rowSum topMax logits argQ argK argV argG
  rfl

theorem res_v52 : Value.res_main_v52 m c = outK (dl m c) (extf .f32 (argQ m c) bitsLt_bf16_f32) := by
  unfold Value.res_main_v52 outK dl dlogits dsum dprobs exps expo rowSum topMax logits argQ argK argV argG
  rfl

/-- What the reference returns as v's gradient. -/
def res_v36 : FVec Ideal S2x8192x64 .f32 := outV (argG m c) (probs (exps m c) (rowSum (exps m c)))

/-- The reference's run: its results, and its arguments as launched. -/
theorem run (ρ : Dev nD → PrngReg) : θ_run defs (onTc (τ := τ) (main (F := Ideal))) ⟨m, fun _ => 0, ρ⟩ fun r => ∀ c : Dev nD,
    r.2.mem ((c.tc : Thread nD τ).loc main_v53) = outQ (dl m c) (extf .f32 (argK m c) bitsLt_bf16_f32)
    ∧ r.2.mem ((c.tc : Thread nD τ).loc main_v52) = outK (dl m c) (extf .f32 (argQ m c) bitsLt_bf16_f32)
    ∧ r.2.mem ((c.tc : Thread nD τ).loc main_v36) = res_v36 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (res_v53 m c), (h c).2.1.trans (res_v52 m c), (h c).2.2.1.trans (by
    unfold res_v36 outV probs exps expo rowSum topMax logits argQ argK argG
    rfl), (h c).2.2.2⟩) (Value.run m ρ)

variable {m c} {qr : Fin 2 → Fin 16384 → Fin 64 → ℝ} {kr : Fin 2 → Fin 8192 → Fin 64 → ℝ} {vr : Fin 2 → Fin 8192 → Fin 64 → ℝ} {gr : Fin 2 → Fin 16384 → Fin 64 → ℝ}

/-- The reference's results over the reals. -/
theorem results (hq : ∀ h r d, argQ m c (ix3 h r d) = ((qr h r d : ℝ) : EReal)) (hk : ∀ h s d, argK m c (ix3 h s d) = ((kr h s d : ℝ) : EReal))
    (hv : ∀ h s e, argV m c (ix3 h s e) = ((vr h s e : ℝ) : EReal)) (hg : ∀ h r e, argG m c (ix3 h r e) = ((gr h r e : ℝ) : EReal)) :
    outQ (dl m c) (extf .f32 (argK m c) bitsLt_bf16_f32) = arrQ qr kr vr gr
      ∧ outK (dl m c) (extf .f32 (argQ m c) bitsLt_bf16_f32) = arrK qr kr vr gr
      ∧ res_v36 m c = arrV qr kr gr := by
  have hL := logits_real hq hk
  obtain ⟨Mr, hM⟩ := rowMax_real hL
  have hE := expo_real hL fun h r => (topMax_eq _ h r).trans (hM h r)
  have hS := rowSum_real hE
  have h0 : ∀ h r, ∑ s, Real.exp (logit qr kr h r s - Mr h r) ≠ 0 := fun h r => (sum_exp_pos _).ne'
  have hP := probs_real hE hS h0
  have hD : ∀ h r s, dl m c (ix3 h r s) = ((dsoft qr kr vr gr h r s * scale : ℝ) : EReal) := fun h r s =>
    (dlogits_real (dprobs_real hg hv) hE hS h0 h r s).trans (by
      rw [softGrad_quotient (logit qr kr h r) (dprob vr gr h r) (Mr h r) _ rfl s]; rfl)
  have split : ∀ {a b e : ℕ} (i : (⟨3, ![a, b, e]⟩ : Shape).Idx), i = ix3 (i 0) (i 1) (i 2) := fun i => eq_ix3 i _ _ _ rfl rfl rfl
  refine ⟨funext fun i => ?_, funext fun i => ?_, funext fun i => ?_⟩
  · rw [split i]
    refine (outQ_real hD hk _ _ _).trans ?_
    unfold arrQ gradQ
    rw [Finset.sum_mul]
    exact congrArg _ (Finset.sum_congr rfl fun s _ => mul_right_comm _ _ _)
  · rw [split i]
    refine (outK_real hD hq _ _ _).trans ?_
    unfold arrK gradK
    rw [Finset.sum_mul]
    exact congrArg _ (Finset.sum_congr rfl fun s _ => mul_right_comm _ _ _)
  · rw [split i]
    unfold res_v36
    refine (outV_real hg hP _ _ _).trans ?_
    unfold arrV gradV
    exact congrArg _ (Finset.sum_congr rfl fun r _ => congrArg (· * gr (i 0) r (i 2)) (soft_shift (logit qr kr (i 0) r) (Mr (i 0) r) (i 1)))

end Cert.Reference7Ideal.Bwd

end
-- ==== Proof.FwdB.Body.lean ====
/- The body of mixer B's forward call at one grid point: one pass over all the keys, so what it stores is a function of the three blocks it reads. -/
module

public import proofs.«01_k».proof.Proof.Fwd.Point
public import proofs.«01_k».proof.Proof.Gen.Kernel6Ideal.Value
public import Idealize.ShloMosaic.Lib.Pipeline.ValueKit
public import Idealize.ShloMosaic.Lib.VecWindow
public import Idealize.ShloMosaic.Lib.WritesUnit
public import Idealize.ShloMosaic.Lib.Claim
public import Idealize.ShloMosaic.PureOps.Ideal

@[expose] public section

set_option maxRecDepth 16384

noncomputable section

namespace Cert.Kernel6Ideal.Fwd

open Idealize.ShloMosaic Idealize.ShloMosaic.TcCoe Idealize.SL.Sem
open Cert.Kernel6Ideal.Gen
open Cert.Kernel2Ideal.Fwd (origin2 origin3)

/-- The values, widened by columns of ones. -/
def wide (v : Vec Ideal S1x8192x64 .bf16) : Vec Ideal S8192x128 .bf16 := VecWindow.put (k0_pay9 (F := Ideal)) ![0, 0] ![8192, 64] (k0_pay10 v)

section body

variable (c : Dev nD) (i : grid0.Coords) (a3 : Memref sig .tc .vmem S1x512x64 .bf16) (h3 : a3.IsWhole) (a4 : Memref sig .tc .vmem S1x8192x64 .bf16)
  (h4 : a4.IsWhole) (a5 : Memref sig .tc .vmem S1x8192x64 .bf16) (h5 : a5.IsWhole) (a6 : Memref sig .tc .vmem S1x512x64 .f32) (h6 : a6.IsWhole)
  (a7 : Memref sig .tc .vmem S1x512x1 .f32) (h7 : a7.IsWhole) (a8 : Memref sig .tc .vmem S512x1 .f32) (h8 : a8.IsWhole)
  (a9 : Memref sig .tc .vmem S512x128 .f32) (h9 : a9.IsWhole) (a10 : Memref sig .tc .vmem S8192x128 .bf16) (h10 : a10.IsWhole)
  (c0 : cond0_0 i) (c1 : cond0_1 i) (q : Vec Ideal S1x512x64 .bf16) (k : Vec Ideal S1x8192x64 .bf16) (v : Vec Ideal S1x8192x64 .bf16)

/-- The widened values as the body reads them back. -/
theorem wide_read : a10.view.readCov [⟨Rect.unit (s := S8192x128) ![0, 0] ![8192, 64] inb_S8192x128_S8192x64_0_0, k0_pay10 v⟩,
      ⟨Rect.unit (s := S8192x128) ![0, 0] S8192x128.size inb_S8192x128_S8192x128_0_0, k0_pay9 (F := Ideal)⟩]
      (Rect.unit (s := S8192x128) ![0, 0] S8192x128.size inb_S8192x128_S8192x128_0_0).toLoadRect = wide v := by
  unfold View.readCov
  rw [View.readAt_full, View.read_writes_cons_put _ _ _ _ _ rfl, View.read_writes_full]
  rfl

/-- What the body stores for the output, -/
theorem stored3 : out0_A_3 c i a3 h3 a4 h4 a5 h5 a6 h6 a7 h7 a8 h8 a9 h9 a10 h10 c0 c1 q k v
    = k0_pay5 (k0_pay13 (k0_pay7 (F := Ideal)) q k) (k0_pay14 (k0_pay7 (F := Ideal)) q k (k0_pay8 (F := Ideal))) (wide v) := by
  unfold out0_A_3
  rw [View.read_writes_eq_canon _ _ _ (cover0_A_3 c i a3 h3 a4 h4 a5 h5 a6 h6 a7 h7 a8 h8 a9 h9 a10 h10 c0 c1 q k v)]
  unfold kernelRun0_A
  dsimp only
  sl_unfold_words
  rw [View.canon_cons_unit_zero (S := S1x512x64) origin3, View.readCov_unit_zero (S := S512x1) _ origin2,
    View.readCov_unit_zero (S := S512x128) _ origin2]
  simp only [View.readAt_eq_ld, h3.read_unread, h4.read_unread, h5.read_unread, View.ld_unit_zero (S := S1x512x64) origin3,
    View.ld_unit_zero (S := S1x8192x64) origin3]
  exact congrArg _ (wide_read a10 v)

/-- and for the log-sums. -/
theorem stored4 : out0_A_4 c i a3 h3 a4 h4 a5 h5 a6 h6 a7 h7 a8 h8 a9 h9 a10 h10 c0 c1 q k v
    = k0_pay6 (k0_pay12 (k0_pay7 (F := Ideal)) q k) (k0_pay13 (k0_pay7 (F := Ideal)) q k) (k0_pay14 (k0_pay7 (F := Ideal)) q k (k0_pay8 (F := Ideal))) (wide v) := by
  unfold out0_A_4
  rw [View.read_writes_eq_canon _ _ _ (cover0_A_4 c i a3 h3 a4 h4 a5 h5 a6 h6 a7 h7 a8 h8 a9 h9 a10 h10 c0 c1 q k v)]
  unfold kernelRun0_A
  dsimp only
  sl_unfold_words
  rw [View.canon_cons_unit_zero (S := S1x512x1) origin3, View.readCov_unit_zero (S := S512x1) _ origin2,
    View.readCov_unit_zero (S := S512x128) _ origin2]
  simp only [View.readAt_eq_ld, h3.read_unread, h4.read_unread, h5.read_unread, View.ld_unit_zero (S := S1x512x64) origin3,
    View.ld_unit_zero (S := S1x8192x64) origin3]
  exact congrArg _ (wide_read a10 v)

end body

end Cert.Kernel6Ideal.Fwd

end
-- ==== Proof.FwdB.Point.lean ====
/- What one grid point of mixer B's forward call computes, entry by entry, when the entries of its queries and keys are real numbers. Of the values
   nothing is asked. -/
module

public import proofs.«01_k».proof.Proof.BwdB.Host
public import proofs.«01_k».proof.Proof.FwdB.Body

@[expose] public section

set_option maxRecDepth 16384

noncomputable section

namespace Cert.Kernel6Ideal.Fwd

open Idealize.ShloMosaic Idealize.ShloMosaic.TcCoe
open Cert.Kernel6Ideal.Gen Cert.Softmax
open Cert.Kernel7Ideal.Bwd (scale scale_word)
open Cert.KernelIdeal.Bwd (two_rpow minus_infinity)
open Cert.Kernel2Ideal.Fwd (floorVal floor_word sum_mul_coe)

/-! ## Constants -/

theorem scale_log2e_val : (Named.named κ "scale_log2e_b" 0x3E38AA3B#32 : Ideal .f32) = ((scale * (Real.log 2)⁻¹ : ℝ) : EReal) :=
  IdealRules.named_const.ideal_named_scalar _ _ _ _ rfl

/-! ## The widened values -/

variable (v : Vec Ideal S1x8192x64 .bf16)

theorem wide_value (s : Fin 8192) (e : Fin 64) : wide v (ix2 s ⟨e.val, by have := e.isLt; omega⟩) = v (ix3 0 s e) := by
  have he := e.isLt
  have hs := s.isLt
  unfold wide VecWindow.put
  rw [dif_pos (by intro a; fin_cases a <;> simp [ix2])]
  have : k0_pay10 v (ix2 s e) = v (ix3 0 s e) := by unfold k0_pay10; pointwise
  rw [← this]
  refine congrArg (k0_pay10 v) (funext fun a => ?_)
  fin_cases a <;> exact Fin.ext (Nat.sub_zero _)

theorem wide_one (s : Fin 8192) : wide v (ix2 s 64) = 1 := by
  unfold wide VecWindow.put
  rw [dif_neg (by intro h; have := (h 1).2; simp [ix2] at this)]
  unfold k0_pay9
  pointwise

/-! ## The payloads -/

variable {q : Vec Ideal S1x512x64 .bf16} {k : Vec Ideal S1x8192x64 .bf16} {qr : Fin 512 → Fin 64 → ℝ} {kr : Fin 8192 → Fin 64 → ℝ}

/-- A product of a query and a key. -/
def dot (qr : Fin 512 → Fin 64 → ℝ) (kr : Fin 8192 → Fin 64 → ℝ) (r : Fin 512) (s : Fin 8192) : ℝ := ∑ d, qr r d * kr s d

theorem pay11_real (hq : ∀ r d, q (ix3 0 r d) = ((qr r d : ℝ) : EReal)) (hk : ∀ s d, k (ix3 0 s d) = ((kr s d : ℝ) : EReal)) (r : Fin 512) (s : Fin 8192) :
    k0_pay11 q k (ix2 r s) = ((dot qr kr r s : ℝ) : EReal) := by
  unfold k0_pay11
  pointwise
  exact coe_sum_mul _ _ _ (fun d => qr r d) (fun d => kr s d) (hq r) (hk s)

/-- The rows' maxima as a column. -/
theorem rows_apply (x : FVec Ideal S512x8192 .f32) (r : Fin 512) :
    shapeCast S512x1 (multiReduction (F := Ideal) .maximumf [1] S512 x 0xFF800000#32 reduces_S512x8192_S512 (.inl rfl) rfl) shapeCasts_S512_S512x1 (ix2 r 0)
      = Finset.fold max (⊥ : EReal) (fun s => x (ix2 r s)) Finset.univ := by
  have cast (y : FVec Ideal S512 .f32) : shapeCast S512x1 y shapeCasts_S512_S512x1 (ix2 r 0) = y (ix1 r) := by pointwise
  rw [cast]
  pointwise
  rw [minus_infinity]

theorem max_apply (m n : FVec Ideal S512x1 .f32) (r : Fin 512) : maximumf m n (ix2 r 0) = max (m (ix2 r 0)) (n (ix2 r 0)) := by
  pointwise

/-- Some real number is each row's running maximum. -/
theorem pay12_real (hq : ∀ r d, q (ix3 0 r d) = ((qr r d : ℝ) : EReal)) (hk : ∀ s d, k (ix3 0 s d) = ((kr s d : ℝ) : EReal)) :
    ∃ M : Fin 512 → ℝ, ∀ r, k0_pay12 (k0_pay7 (F := Ideal)) q k (ix2 r 0) = ((M r : ℝ) : EReal) := by
  have key : ∀ r, ∃ M : ℝ, k0_pay12 (k0_pay7 (F := Ideal)) q k (ix2 r 0) = (M : EReal) := by
    intro r
    obtain ⟨M, hM⟩ := fold_max_real (dot qr kr r)
    have hf : k0_pay7 (F := Ideal) (ix2 r 0) = (floorVal : EReal) := by
      rw [← floor_word]; unfold k0_pay7; pointwise
    refine ⟨max floorVal M, ?_⟩
    unfold k0_pay12
    refine (max_apply _ _ r).trans ?_
    rw [hf, rows_apply, funext (pay11_real hq hk r), hM]
    exact EReal.coe_strictMono.monotone.map_max.symm
  choose M hM using key
  exact ⟨M, hM⟩

/-- An exponential in base two, of a number and its row's number scaled. -/
theorem weight_apply (x : FVec Ideal S512x8192 .f32) (m : FVec Ideal S512x1 .f32) (a : Ideal .f32) (r : Fin 512) (s : Fin 8192) :
    exp2 (subf (mulf x (broadcast S512x8192 a)) (broadcastTo S512x8192 (mulf m (broadcast S512x1 a)) broadcasts_S512x1_S512x8192)) (ix2 r s)
      = FloatOps.exp2 (x (ix2 r s) * a - m (ix2 r 0) * a) := by
  pointwise

variable {M : Fin 512 → ℝ}

theorem pay13_real (hq : ∀ r d, q (ix3 0 r d) = ((qr r d : ℝ) : EReal)) (hk : ∀ s d, k (ix3 0 s d) = ((kr s d : ℝ) : EReal))
    (hM : ∀ r, k0_pay12 (k0_pay7 (F := Ideal)) q k (ix2 r 0) = ((M r : ℝ) : EReal)) (r : Fin 512) (s : Fin 8192) :
    k0_pay13 (k0_pay7 (F := Ideal)) q k (ix2 r s) = ((Real.exp (dot qr kr r s * scale - M r * scale) : ℝ) : EReal) := by
  unfold k0_pay13
  refine (weight_apply _ _ _ r s).trans ?_
  rw [pay11_real hq hk, hM, scale_log2e_val]
  refine Eq.trans (congrArg Ideal.exp2 ?_) ((Ideal.exp2_coe _).trans (congrArg _ (two_rpow (dot qr kr r s) scale (M r * scale))))
  simp only [EReal.coe_sub, EReal.coe_mul, mul_assoc]

/-- A row's number times nothing. -/
theorem times_zero (m : FVec Ideal S512x1 .f32) (z : FVec Ideal S512x128 .f32) (r : Fin 512) (j : Fin 128) (h : z (ix2 r j) = 0) :
    mulf (broadcastTo S512x128 m broadcasts_S512x1_S512x128) z (ix2 r j) = 0 := by
  have : mulf (broadcastTo S512x128 m broadcasts_S512x1_S512x128) z (ix2 r j) = m (ix2 r 0) * z (ix2 r j) := by pointwise
  rw [this, h, mul_zero]

theorem pay14_zero (r : Fin 512) (j : Fin 128) : k0_pay14 (k0_pay7 (F := Ideal)) q k (k0_pay8 (F := Ideal)) (ix2 r j) = 0 := by
  have h : k0_pay8 (F := Ideal) (ix2 r j) = 0 := by unfold k0_pay8; pointwise
  unfold k0_pay14
  exact times_zero _ _ r j h

/-- The sums over the keys. -/
theorem pay1_apply (p : FVec Ideal S512x8192 .f32) (acc : FVec Ideal S512x128 .f32) (w : Vec Ideal S8192x128 .bf16) (h0 : ∀ r j, acc (ix2 r j) = 0)
    (r : Fin 512) (j : Fin 128) : k0_pay1 p acc w (ix2 r j) = ∑ s : Fin 8192, p (ix2 r s) * w (ix2 s j) := by
  unfold k0_pay1
  pointwise
  rw [h0, zero_add]

/-! ## The two results -/

/-- A quotient of two columns of the sums. -/
theorem pay5_apply (p : FVec Ideal S512x8192 .f32) (acc : FVec Ideal S512x128 .f32) (w : Vec Ideal S8192x128 .bf16) (r : Fin 512) (e : Fin 64) :
    k0_pay5 p acc w (ix3 0 r e) = Ideal.div (k0_pay1 p acc w (ix2 r ⟨e.val, by have := e.isLt; omega⟩)) (k0_pay1 p acc w (ix2 r 64)) := by
  unfold k0_pay5 k0_pay4
  generalize k0_pay1 p acc w = x
  pointwise

/-- The scaled maximum and the logarithm of the sum. -/
theorem pay6_apply (m : FVec Ideal S512x1 .f32) (p : FVec Ideal S512x8192 .f32) (acc : FVec Ideal S512x128 .f32) (w : Vec Ideal S8192x128 .bf16) (r : Fin 512) :
    k0_pay6 m p acc w (ix3 0 r 0) = m (ix2 r 0) * (scale : EReal) + Ideal.log (k0_pay1 p acc w (ix2 r 64)) := by
  rw [← scale_word]
  unfold k0_pay6 k0_pay4
  generalize k0_pay1 p acc w = x
  pointwise

section results

variable (hq : ∀ r d, q (ix3 0 r d) = ((qr r d : ℝ) : EReal)) (hk : ∀ s d, k (ix3 0 s d) = ((kr s d : ℝ) : EReal))
include hq hk

/-- The row's sum of exponentials is the column of the ones. -/
theorem total (hM : ∀ r, k0_pay12 (k0_pay7 (F := Ideal)) q k (ix2 r 0) = ((M r : ℝ) : EReal)) (r : Fin 512) :
    k0_pay1 (k0_pay13 (k0_pay7 (F := Ideal)) q k) (k0_pay14 (k0_pay7 (F := Ideal)) q k (k0_pay8 (F := Ideal))) (wide v) (ix2 r 64)
      = ((∑ s, Real.exp (dot qr kr r s * scale - M r * scale) : ℝ) : EReal) := by
  rw [pay1_apply _ _ _ pay14_zero, ← coe_sum]
  exact Finset.sum_congr rfl fun s _ => by rw [pay13_real hq hk hM, wide_one, mul_one]

/-- The output: the mean of the values under the row's softmax. -/
theorem output_point (r : Fin 512) (e : Fin 64) :
    k0_pay5 (k0_pay13 (k0_pay7 (F := Ideal)) q k) (k0_pay14 (k0_pay7 (F := Ideal)) q k (k0_pay8 (F := Ideal))) (wide v) (ix3 0 r e)
      = ∑ s : Fin 8192, ((soft (fun s => dot qr kr r s * scale) s : ℝ) : EReal) * v (ix3 0 s e) := by
  obtain ⟨M, hM⟩ := pay12_real hq hk
  have hpos := sum_exp_pos fun s => dot qr kr r s * scale - M r * scale
  rw [pay5_apply, total v hq hk hM, Ideal.div_coe hpos.ne', pay1_apply _ _ _ pay14_zero, sum_mul_coe _ _ _ (one_div_pos.mpr hpos).le]
  refine Finset.sum_congr rfl fun s _ => ?_
  rw [pay13_real hq hk hM, wide_value, mul_right_comm, ← EReal.coe_mul, mul_one_div,
    soft_shift (fun s => dot qr kr r s * scale) (M r * scale) s]

/-- The log-sum of the row's exponentials. -/
theorem lse_point (r : Fin 512) :
    k0_pay6 (k0_pay12 (k0_pay7 (F := Ideal)) q k) (k0_pay13 (k0_pay7 (F := Ideal)) q k) (k0_pay14 (k0_pay7 (F := Ideal)) q k (k0_pay8 (F := Ideal)))
        (wide v) (ix3 0 r 0)
      = ((Real.log (∑ s, Real.exp (dot qr kr r s * scale)) : ℝ) : EReal) := by
  obtain ⟨M, hM⟩ := pay12_real hq hk
  have hpos := sum_exp_pos fun s => dot qr kr r s * scale - M r * scale
  have h0 := sum_exp_pos fun s => dot qr kr r s * scale
  rw [pay6_apply, total v hq hk hM, hM, ← EReal.coe_mul, Ideal.log_coe, if_neg (not_le.mpr hpos), ← EReal.coe_add]
  congr 1
  rw [sum_exp_shift, Real.log_div h0.ne' (Real.exp_pos _).ne', Real.log_exp]
  ring

end results

end Cert.Kernel6Ideal.Fwd

end
-- ==== Proof.FwdB.Arrays.lean ====
/- The two arrays of mixer B's forward call: every block of rows of a head holds what its grid point computed, so the arrays are the attention's output and
   log-sums, whatever the values are. -/
module

public import proofs.«01_k».proof.Proof.FwdB.Point

@[expose] public section

set_option maxRecDepth 16384

noncomputable section

namespace Cert.Kernel6Ideal.Fwd

open Idealize.ShloMosaic Idealize.ShloMosaic.TcCoe
open Cert.Kernel6Ideal.Gen Cert.Softmax
open Cert.Kernel7Ideal.Bwd (logit)

/-! ## The blocks -/

theorem index0 (t : Fin grid0.N) : win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0) t
theorem index1 (t : Fin grid0.N) : win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0) t
theorem index2 (t : Fin grid0.N) : win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0) t
theorem index3 (t : Fin grid0.N) : win0_3.index t 0 = t.val / 32 ∧ win0_3.index t 1 = t.val % 32 ∧ win0_3.index t 2 = 0 :=
  (by decide +kernel : ∀ t : Fin grid0.N, win0_3.index t 0 = t.val / 32 ∧ win0_3.index t 1 = t.val % 32 ∧ win0_3.index t 2 = 0) t
theorem index4 (t : Fin grid0.N) : win0_4.index t 0 = t.val / 32 ∧ win0_4.index t 1 = t.val % 32 ∧ win0_4.index t 2 = 0 :=
  (by decide +kernel : ∀ t : Fin grid0.N, win0_4.index t 0 = t.val / 32 ∧ win0_4.index t 1 = t.val % 32 ∧ win0_4.index t 2 = 0) t
theorem flushes3 : ∀ t : Fin cfg0.N, (cfg0.win 3).flush t = true := (by decide +kernel : ∀ t : Fin grid0.N, (cfg0.win 3).flush t = true)
theorem flushes4 : ∀ t : Fin cfg0.N, (cfg0.win 4).flush t = true := (by decide +kernel : ∀ t : Fin grid0.N, (cfg0.win 4).flush t = true)

/-- The head a point works on. -/
def headOf (t : Fin grid0.N) : Fin 2 := ⟨t.val / 32, by have : t.val < 64 := t.isLt; omega⟩
/-- A row of the head, from a row of the point's block. -/
def rowOf (t : Fin grid0.N) (r : Fin 512) : Fin 16384 := ⟨512 * (t.val % 32) + r.val, by have := r.isLt; omega⟩

/-- The point that has a row, and the row of its block. -/
def pointAt (h : Fin 2) (r : Fin 16384) : Fin grid0.N := ⟨h.val * 32 + r.val / 512, show _ < 64 by have := h.isLt; have := r.isLt; omega⟩
def rowIn (r : Fin 16384) : Fin 512 := ⟨r.val % 512, Nat.mod_lt _ (by decide)⟩

theorem headOf_pointAt (h : Fin 2) (r : Fin 16384) : headOf (pointAt h r) = h :=
  Fin.ext (show (h.val * 32 + r.val / 512) / 32 = h.val by have := r.isLt; omega)
theorem rowOf_pointAt (h : Fin 2) (r : Fin 16384) : rowOf (pointAt h r) (rowIn r) = r :=
  Fin.ext (show 512 * ((h.val * 32 + r.val / 512) % 32) + r.val % 512 = r.val by have := r.isLt; omega)

variable (m : (ℓ : Loc nD τ sig) → Buf (Elt Ideal) ℓ) (c : Dev nD)

/-- The queries as launched. -/
def argQ : Vec Ideal S2x16384x64 .bf16 := m ((c.tc : Thread nD τ).loc main_arg0)
/-- The keys as launched. -/
def argK : Vec Ideal S2x8192x64 .bf16 := m ((c.tc : Thread nD τ).loc main_arg1)
/-- The values as launched. -/
def argV : Vec Ideal S2x8192x64 .bf16 := m ((c.tc : Thread nD τ).loc main_arg2)

theorem qBlk_apply (t : Fin grid0.N) (r : Fin 512) (d : Fin 64) :
    (iblk m c 0 t : Vec Ideal S1x512x64 .bf16) (ix3 0 r d) = argQ m c (ix3 (headOf t) (rowOf t r) d) := by
  obtain ⟨e0, e1, e2⟩ := index0 t
  rw [show argQ m c = V m c main_arg0 from (V_main_arg0 m c).symm]
  blk_ext [iblk, e0, e1, e2, rowOf, headOf]

theorem kBlk_apply (t : Fin grid0.N) (s : Fin 8192) (d : Fin 64) :
    (iblk m c 1 t : Vec Ideal S1x8192x64 .bf16) (ix3 0 s d) = argK m c (ix3 (headOf t) s d) := by
  obtain ⟨e0, e1, e2⟩ := index1 t
  rw [show argK m c = V m c main_arg1 from (V_main_arg1 m c).symm]
  blk_ext [iblk, e0, e1, e2, headOf]

theorem vBlk_apply (t : Fin grid0.N) (s : Fin 8192) (e : Fin 64) :
    (iblk m c 2 t : Vec Ideal S1x8192x64 .bf16) (ix3 0 s e) = argV m c (ix3 (headOf t) s e) := by
  obtain ⟨e0, e1, e2⟩ := index2 t
  rw [show argV m c = V m c main_arg2 from (V_main_arg2 m c).symm]
  blk_ext [iblk, e0, e1, e2, headOf]

theorem oBlk_apply (t : Fin grid0.N) (A : Vec Ideal S2x16384x64 .f32) (r : Fin 512) (e : Fin 64) :
    ((cfg0.win 3).blk t).view.read (Elt Ideal) A (ix3 0 r e) = A (ix3 (headOf t) (rowOf t r) e) := by
  obtain ⟨e0, e1, e2⟩ := index3 t
  blk_ext [e0, e1, e2, rowOf, headOf]

theorem lBlk_apply (t : Fin grid0.N) (A : Vec Ideal S2x16384x1 .f32) (r : Fin 512) :
    ((cfg0.win 4).blk t).view.read (Elt Ideal) A (ix3 0 r 0) = A (ix3 (headOf t) (rowOf t r) 0) := by
  obtain ⟨e0, e1, e2⟩ := index4 t
  blk_ext [e0, e1, e2, rowOf, headOf]

/-! ## The arrays -/

/-- Attention's output: each row the mean of the values under the softmax of its logits. -/
def arrO (qr : Fin 2 → Fin 16384 → Fin 64 → ℝ) (kr : Fin 2 → Fin 8192 → Fin 64 → ℝ) (v : Vec Ideal S2x8192x64 .bf16) : Vec Ideal S2x16384x64 .f32 :=
  fun i => ∑ s : Fin 8192, ((soft (logit qr kr (i 0) (i 1)) s : ℝ) : EReal) * v (ix3 (i 0) s (i 2))

/-- Attention's log-sums: of each row the logarithm of the sum of the exponentials of its logits. -/
def arrL (qr : Fin 2 → Fin 16384 → Fin 64 → ℝ) (kr : Fin 2 → Fin 8192 → Fin 64 → ℝ) : Vec Ideal S2x16384x1 .f32 :=
  fun i => ((Real.log (∑ s, Real.exp (logit qr kr (i 0) (i 1) s)) : ℝ) : EReal)

variable {qr : Fin 2 → Fin 16384 → Fin 64 → ℝ} {kr : Fin 2 → Fin 8192 → Fin 64 → ℝ} (hq : ∀ h r d, argQ m c (ix3 h r d) = ((qr h r d : ℝ) : EReal))
  (hk : ∀ h s d, argK m c (ix3 h s d) = ((kr h s d : ℝ) : EReal))
include hq hk

theorem result3 : (dats m 0 c).arrAt 3 cfg0.N = arrO qr kr (argV m c) := by
  have at_entry : ∀ (h : Fin 2) (r : Fin 16384) (e : Fin 64), (dats m 0 c).arrAt 3 cfg0.N (ix3 h r e) = arrO qr kr (argV m c) (ix3 h r e) := by
    intro h r e
    have hb := congrFun (Value.blocks3 m c (pointAt h r) (flushes3 _)) (ix3 0 (rowIn r) e)
    rw [Value.flushed3_A, stored3] at hb
    have hb' := (oBlk_apply (pointAt h r) _ (rowIn r) e).symm.trans hb
    rw [headOf_pointAt, rowOf_pointAt] at hb'
    refine hb'.trans ?_
    refine (output_point (q := iblk m c 0 (pointAt h r)) (k := iblk m c 1 (pointAt h r)) (qr := fun r' => qr h (rowOf (pointAt h r) r')) (kr := kr h)
      (iblk m c 2 (pointAt h r)) (fun r' d => ?_) (fun s d => ?_) (rowIn r) e).trans ?_
    · rw [qBlk_apply, hq, headOf_pointAt]
    · rw [kBlk_apply, hk, headOf_pointAt]
    · refine Finset.sum_congr rfl fun s _ => ?_
      rw [vBlk_apply, headOf_pointAt]
      refine congrArg (fun y : Fin 16384 => ((soft (logit qr kr h y) s : ℝ) : EReal) * argV m c (ix3 h s e)) (rowOf_pointAt h r)
  funext i
  have := at_entry (i 0) (i 1) (i 2)
  rwa [show (ix3 (i 0) (i 1) (i 2) : S2x16384x64.Idx) = i from by funext a; fin_cases a <;> rfl] at this

theorem result4 : (dats m 0 c).arrAt 4 cfg0.N = arrL qr kr := by
  have at_entry : ∀ (h : Fin 2) (r : Fin 16384), (dats m 0 c).arrAt 4 cfg0.N (ix3 h r 0) = arrL qr kr (ix3 h r 0) := by
    intro h r
    have hb := congrFun (Value.blocks4 m c (pointAt h r) (flushes4 _)) (ix3 0 (rowIn r) 0)
    rw [Value.flushed4_A, stored4] at hb
    have hb' := (lBlk_apply (pointAt h r) _ (rowIn r)).symm.trans hb
    rw [headOf_pointAt, rowOf_pointAt] at hb'
    refine hb'.trans ?_
    refine (lse_point (q := iblk m c 0 (pointAt h r)) (k := iblk m c 1 (pointAt h r)) (qr := fun r' => qr h (rowOf (pointAt h r) r')) (kr := kr h)
      (iblk m c 2 (pointAt h r)) (fun r' d => ?_) (fun s d => ?_) (rowIn r)).trans ?_
    · rw [qBlk_apply, hq, headOf_pointAt]
    · rw [kBlk_apply, hk, headOf_pointAt]
    · exact congrArg (fun y : Fin 16384 => ((Real.log (∑ s, Real.exp (logit qr kr h y s)) : ℝ) : EReal)) (rowOf_pointAt h r)
  funext i
  have := at_entry (i 0) (i 1)
  rwa [show (ix3 (i 0) (i 1) 0 : S2x16384x1.Idx) = i from by funext a; fin_cases a; rfl; rfl; exact Subsingleton.elim (α := Fin 1) _ _] at this

end Cert.Kernel6Ideal.Fwd

end
-- ==== Proof.FwdB.Reference.lean ====
/- Mixer B's forward reference: its lines as functions of the arrays, and the output and log-sums they spell. -/
module

public import proofs.«01_k».proof.Proof.BwdB.Reference
public import proofs.«01_k».proof.Proof.FwdB.Arrays
public import proofs.«01_k».proof.Proof.Gen.Reference6Ideal.Run

@[expose] public section

set_option maxRecDepth 16384

noncomputable section

namespace Cert.Reference6Ideal.Fwd

open Idealize.ShloMosaic Idealize.ShloMosaic.TcCoe
open Cert.Reference6Ideal Cert.Softmax
open Cert.Kernel7Ideal.Bwd (logits expo rowSum probs output logit logits_real rowMax_real expo_real rowSum_real probs_real)
open Cert.Reference7Ideal.Bwd (topMax topMax_eq)
open Cert.Kernel6Ideal.Fwd (arrO arrL)

/-- The exponentials less the rows' maxima. -/
def exps (q : FVec Ideal S2x16384x64 .bf16) (k : FVec Ideal S2x8192x64 .bf16) : FVec Ideal S2x16384x8192 .f32 := expo (logits q k) (topMax (logits q k))

/-- The output's line. -/
def lineO (q : FVec Ideal S2x16384x64 .bf16) (k : FVec Ideal S2x8192x64 .bf16) (v : FVec Ideal S2x8192x64 .bf16) : FVec Ideal S2x16384x64 .f32 :=
  output (probs (exps q k) (rowSum (exps q k))) v

/-- The log-sums' line. -/
def lineL (q : FVec Ideal S2x16384x64 .bf16) (k : FVec Ideal S2x8192x64 .bf16) : FVec Ideal S2x16384x1 .f32 := Host.log (rowSum (Host.exp (logits q k)))

theorem output_apply (p : FVec Ideal S2x16384x8192 .f32) (v : FVec Ideal S2x8192x64 .bf16) (h : Fin 2) (r : Fin 16384) (e : Fin 64) :
    output p v (ix3 h r e) = ∑ s : Fin 8192, p (ix3 h r s) * v (ix3 h s e) := by
  unfold output
  pointwise

variable {q : FVec Ideal S2x16384x64 .bf16} {k : FVec Ideal S2x8192x64 .bf16} {qr : Fin 2 → Fin 16384 → Fin 64 → ℝ} {kr : Fin 2 → Fin 8192 → Fin 64 → ℝ}
  (hq : ∀ h r d, q (ix3 h r d) = ((qr h r d : ℝ) : EReal)) (hk : ∀ h s d, k (ix3 h s d) = ((kr h s d : ℝ) : EReal))
include hq hk

theorem lineO_eq (v : FVec Ideal S2x8192x64 .bf16) : lineO q k v = arrO qr kr v := by
  have hx := logits_real hq hk
  obtain ⟨M, hM⟩ := rowMax_real hx
  have hT : ∀ h r, topMax (logits q k) (ix3 h r 0) = ((M h r : ℝ) : EReal) := fun h r => (topMax_eq _ h r).trans (hM h r)
  have he : ∀ h r s, exps q k (ix3 h r s) = ((Real.exp (logit qr kr h r s - M h r) : ℝ) : EReal) := expo_real hx hT
  have hl := rowSum_real he
  have hp := probs_real he hl fun h r => (sum_exp_pos fun s => logit qr kr h r s - M h r).ne'
  have at_entry : ∀ (h : Fin 2) (r : Fin 16384) (e : Fin 64), lineO q k v (ix3 h r e) = arrO qr kr v (ix3 h r e) := by
    intro h r e
    refine (output_apply _ v h r e).trans (Finset.sum_congr rfl fun s _ => ?_)
    rw [hp, soft_shift (logit qr kr h r) (M h r) s]
    rfl
  funext i
  have := at_entry (i 0) (i 1) (i 2)
  rwa [show (ix3 (i 0) (i 1) (i 2) : S2x16384x64.Idx) = i from by funext a; fin_cases a <;> rfl] at this

theorem lineL_eq : lineL q k = arrL qr kr := by
  have hx := logits_real hq hk
  have he : ∀ h r s, (Host.exp (logits q k) : FVec Ideal S2x16384x8192 .f32) (ix3 h r s) = ((Real.exp (logit qr kr h r s) : ℝ) : EReal) := fun h r s =>
    (congrArg Ideal.exp (hx h r s)).trans (Ideal.exp_coe _)
  have hl := rowSum_real he
  have at_entry : ∀ (h : Fin 2) (r : Fin 16384), lineL q k (ix3 h r 0) = arrL qr kr (ix3 h r 0) := by
    intro h r
    have e : lineL q k (ix3 h r 0) = Ideal.log (rowSum (Host.exp (logits q k)) (ix3 h r 0)) := by
      unfold lineL
      generalize rowSum (Host.exp (logits q k)) = y
      pointwise
    rw [e, hl, Ideal.log_coe, if_neg (not_le.mpr (sum_exp_pos (logit qr kr h r)))]
    rfl
  funext i
  have := at_entry (i 0) (i 1)
  rwa [show (ix3 (i 0) (i 1) 0 : S2x16384x1.Idx) = i from by funext a; fin_cases a; rfl; rfl; exact Subsingleton.elim (α := Fin 1) _ _] at this

end Cert.Reference6Ideal.Fwd

end
-- ==== Proof.Proj.Forward.lean ====
/- The projection's forward product: every tile of the result is the product of a tile of rows of `x` and a tile of rows of the weights, so the
   whole result is the product. Nothing is asked of the entries. -/
module

public import proofs.«01_k».proof.Proof.Gen.Kernel3Ideal.Value
public import proofs.«01_k».proof.Proof.Gen.Reference3Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel3Ideal.Proj

open Idealize.ShloMosaic Idealize.ShloMosaic.TcCoe Idealize.SL.Sem
open Cert.Kernel3Ideal.Gen

/-- The body stores one tile, computed from the two blocks it reads. -/
theorem tile (c : Dev nD) (i : grid0.Coords) (a3 : Memref sig .tc .vmem S2048x1024 .bf16) (h3 : a3.IsWhole) (a4 : Memref sig .tc .vmem S768x1024 .bf16)
    (h4 : a4.IsWhole) (a5 : Memref sig .tc .vmem S2048x768 .bf16) (h5 : a5.IsWhole) (a6 : Memref sig .tc .vmem S2048x768 .f32) (h6 : a6.IsWhole)
    (x : Vec Ideal S2048x1024 .bf16) (w : Vec Ideal S768x1024 .bf16) : out0_A_2 c i a3 h3 a4 h4 a5 h5 a6 h6 x w = k0_pay1 x w := by
  have hz : (![0, 0] : Fin 2 → ℕ) = 0 := by funext a; fin_cases a <;> rfl
  unfold out0_A_2
  rw [View.read_writes_eq_canon _ _ _ (cover0_A_2 c i a3 h3 a4 h4 a5 h5 a6 h6 x w)]
  unfold kernelRun0_A
  dsimp only
  sl_unfold_words
  rw [View.canon_cons_unit_zero (S := S2048x768) hz]
  simp only [View.readAt_eq_ld, h3.read_unread, h4.read_unread, View.ld_unit_zero (S := S2048x1024) hz, View.ld_unit_zero (S := S768x1024) hz]

theorem tile_apply (x : Vec Ideal S2048x1024 .bf16) (w : Vec Ideal S768x1024 .bf16) (i : Fin 2048) (j : Fin 768) :
    k0_pay1 x w (ix2 i j) = ∑ d : Fin 1024, x (ix2 i d) * w (ix2 j d) := by
  unfold k0_pay1
  pointwise

theorem index0 (t : Fin grid0.N) : win0_0.index t 0 = t.val / 10 ∧ win0_0.index t 1 = 0 :=
  (by decide +kernel : ∀ t : Fin grid0.N, win0_0.index t 0 = t.val / 10 ∧ win0_0.index t 1 = 0) t
theorem index1 (t : Fin grid0.N) : win0_1.index t 0 = t.val % 10 ∧ win0_1.index t 1 = 0 :=
  (by decide +kernel : ∀ t : Fin grid0.N, win0_1.index t 0 = t.val % 10 ∧ win0_1.index t 1 = 0) t
theorem index2 (t : Fin grid0.N) : win0_2.index t 0 = t.val / 10 ∧ win0_2.index t 1 = t.val % 10 :=
  (by decide +kernel : ∀ t : Fin grid0.N, win0_2.index t 0 = t.val / 10 ∧ win0_2.index t 1 = t.val % 10) t
theorem flushes : ∀ t : Fin cfg0.N, (cfg0.win 2).flush t = true := (by decide +kernel : ∀ t : Fin grid0.N, (cfg0.win 2).flush t = true)

/-- The row of the result, from a row of the point's tile. -/
def rowOf (t : Fin grid0.N) (r : Fin 2048) : Fin 8192 := ⟨2048 * (t.val / 10) + r.val, by have := r.isLt; have : t.val < 40 := t.isLt; omega⟩
/-- The column of the result, from a column of the point's tile. -/
def colOf (t : Fin grid0.N) (j : Fin 768) : Fin 7680 := ⟨768 * (t.val % 10) + j.val, by have := j.isLt; omega⟩

variable (m : (ℓ : Loc nD τ sig) → Buf (Elt Ideal) ℓ) (c : Dev nD)

/-- The activations as launched. -/
def argX : Vec Ideal S8192x1024 .bf16 := m ((c.tc : Thread nD τ).loc main_arg0)
/-- The weights as launched. -/
def argW : Vec Ideal S7680x1024 .bf16 := m ((c.tc : Thread nD τ).loc main_arg1)

theorem xBlk_apply (t : Fin grid0.N) (r : Fin 2048) (d : Fin 1024) : (iblk m c 0 t : Vec Ideal S2048x1024 .bf16) (ix2 r d) = argX m c (ix2 (rowOf t r) d) := by
  obtain ⟨e0, e1⟩ := index0 t
  rw [show argX m c = V m c main_arg0 from (V_main_arg0 m c).symm]
  blk_ext [iblk, e0, e1, rowOf]

theorem wBlk_apply (t : Fin grid0.N) (j : Fin 768) (d : Fin 1024) : (iblk m c 1 t : Vec Ideal S768x1024 .bf16) (ix2 j d) = argW m c (ix2 (colOf t j) d) := by
  obtain ⟨e0, e1⟩ := index1 t
  rw [show argW m c = V m c main_arg1 from (V_main_arg1 m c).symm]
  blk_ext [iblk, e0, e1, colOf]

theorem outBlk_apply (t : Fin grid0.N) (A : Vec Ideal S8192x7680 .bf16) (r : Fin 2048) (j : Fin 768) :
    ((cfg0.win 2).blk t).view.read (Elt Ideal) A (ix2 r j) = A (ix2 (rowOf t r) (colOf t j)) := by
  obtain ⟨e0, e1⟩ := index2 t
  blk_ext [e0, e1, rowOf, colOf]

/-- The product of the rows. -/
def product : Vec Ideal S8192x7680 .bf16 := fun i => ∑ d : Fin 1024, argX m c (ix2 (i 0) d) * argW m c (ix2 (i 1) d)

/-- The kernel's result is the product. -/
theorem result : (dats m 0 c).arrAt 2 cfg0.N = product m c := by
  have at_entry : ∀ (i : Fin 8192) (j : Fin 7680), (dats m 0 c).arrAt 2 cfg0.N (ix2 i j) = product m c (ix2 i j) := by
    intro i j
    have hi := i.isLt
    have hj := j.isLt
    let t : Fin grid0.N := ⟨i.val / 2048 * 10 + j.val / 768, show _ < 40 by omega⟩
    let r : Fin 2048 := ⟨i.val % 2048, Nat.mod_lt _ (by decide)⟩
    let s : Fin 768 := ⟨j.val % 768, Nat.mod_lt _ (by decide)⟩
    have er : rowOf t r = i := Fin.ext (show 2048 * ((i.val / 2048 * 10 + j.val / 768) / 10) + i.val % 2048 = i.val by omega)
    have es : colOf t s = j := Fin.ext (show 768 * ((i.val / 2048 * 10 + j.val / 768) % 10) + j.val % 768 = j.val by omega)
    have hb := congrFun (Value.blocks2 m c t (flushes t)) (ix2 r s)
    rw [Value.flushed2_A, tile] at hb
    have hb' := (outBlk_apply t _ r s).symm.trans hb
    rw [er, es] at hb'
    refine hb'.trans ?_
    refine (tile_apply _ _ r s).trans ?_
    refine Finset.sum_congr rfl fun d _ => ?_
    rw [xBlk_apply, wBlk_apply, er, es]
    rfl
  funext i
  have := at_entry (i 0) (i 1)
  rwa [show (ix2 (i 0) (i 1) : S8192x7680.Idx) = i from by funext a; fin_cases a <;> rfl] at this

end Cert.Kernel3Ideal.Proj

namespace Cert.Reference3Ideal.Proj

open Idealize.ShloMosaic Idealize.ShloMosaic.TcCoe Idealize.SL.Sem
open Cert.Reference3Ideal.Gen

/-- The reference's line. -/
def line (x : FVec Ideal S8192x1024 .bf16) (w : FVec Ideal S7680x1024 .bf16) : FVec Ideal S8192x7680 .bf16 :=
  truncf .bf16 (Host.dotGeneral dot_S8192x1024_S1024x7680_S8192x7680_1_0_0_1_n_n none (extf .f32 x bitsLt_bf16_f32)
    (transpose S1024x7680 [1, 0] (extf .f32 w bitsLt_bf16_f32) transposes_S7680x1024_S1024x7680_1_0)) bitsLt_bf16_f32

theorem line_apply (x : FVec Ideal S8192x1024 .bf16) (w : FVec Ideal S7680x1024 .bf16) (i : Fin 8192) (j : Fin 7680) :
    line x w (ix2 i j) = ∑ d : Fin 1024, x (ix2 i d) * w (ix2 j d) := by
  unfold line
  pointwise

theorem line_eq (m : (ℓ : Loc Cert.Kernel3Ideal.nD Cert.Kernel3Ideal.τ Cert.Kernel3Ideal.sig) → Buf (Elt Ideal) ℓ) (c : Dev Cert.Kernel3Ideal.nD) :
    line (Cert.Kernel3Ideal.Proj.argX m c) (Cert.Kernel3Ideal.Proj.argW m c) = Cert.Kernel3Ideal.Proj.product m c := by
  funext i
  have := line_apply (Cert.Kernel3Ideal.Proj.argX m c) (Cert.Kernel3Ideal.Proj.argW m c) (i 0) (i 1)
  rwa [show (ix2 (i 0) (i 1) : S8192x7680.Idx) = i from by funext a; fin_cases a <;> rfl] at this

end Cert.Reference3Ideal.Proj

end
-- ==== Proof.Proj.Input.lean ====
/- The gradient of the projection's input: each tile of the result is gathered over ten runs of columns of the cotangent, one product of two
   blocks at a time, so the whole result is the product over all columns. Nothing is asked of the entries. -/
module

public import proofs.«01_k».proof.Proof.Gen.Kernel4Ideal.Value
public import proofs.«01_k».proof.Proof.Gen.Reference4Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel4Ideal.Proj

open Idealize.ShloMosaic Idealize.ShloMosaic.TcCoe Idealize.SL.Sem
open Cert.Kernel4Ideal.Gen

theorem origin : (![0, 0] : Fin 2 → ℕ) = 0 := by funext a; fin_cases a <;> rfl

section body

variable (c : Dev nD) (i : grid0.Coords) (a3 : Memref sig .tc .vmem S2048x768 .bf16) (h3 : a3.IsWhole) (a4 : Memref sig .tc .vmem S768x1024 .bf16)
  (h4 : a4.IsWhole) (a5 : Memref sig .tc .vmem S2048x1024 .f32) (h5 : a5.IsWhole) (a6 : Memref sig .tc .vmem S2048x1024 .f32) (h6 : a6.IsWhole)
  (x : Vec Ideal S2048x768 .bf16) (w : Vec Ideal S768x1024 .bf16) (acc : Vec Ideal S2048x1024 .f32)

/-- The first visit starts the accumulator at the blocks' product. -/
theorem first (c0 : cond0_0 i) (c1 : ¬cond0_1 i) (c2 : ¬cond0_2 i) : sout0_A_0 c i a3 h3 a4 h4 a5 h5 a6 h6 c0 c1 c2 x w = k0_pay1 x w := by
  unfold sout0_A_0
  rw [View.read_writes_eq_canon _ _ _ (scover0_A_0 c i a3 h3 a4 h4 a5 h5 a6 h6 c0 c1 c2 x w)]
  unfold kernelRun0_A
  dsimp only
  sl_unfold_words
  rw [View.canon_cons_unit_zero (S := S2048x1024) origin]
  unfold k0_pay2
  simp only [View.readAt_eq_ld, h3.read_unread, h4.read_unread, View.ld_unit_zero (S := S2048x768) origin, View.ld_unit_zero (S := S768x1024) origin,
    shapeCast_self]

/-- A visit in between adds the blocks' product. -/
theorem middle (c0 : ¬cond0_0 i) (c1 : cond0_1 i) (c2 : ¬cond0_2 i) :
    sout0_B_0 c i a3 h3 a4 h4 a5 h5 a6 h6 c0 c1 c2 x w acc = addf acc (k0_pay1 x w) := by
  unfold sout0_B_0
  rw [View.read_writes_eq_canon _ _ _ (scover0_B_0 c i a3 h3 a4 h4 a5 h5 a6 h6 c0 c1 c2 x w acc)]
  unfold kernelRun0_B
  dsimp only
  sl_unfold_words
  rw [View.canon_cons_unit_zero (S := S2048x1024) origin]
  unfold k0_pay3
  simp only [View.readAt_eq_ld, h3.read_unread, h4.read_unread, h6.read_unread, View.ld_unit_zero (S := S2048x768) origin,
    View.ld_unit_zero (S := S768x1024) origin, View.ld_unit_zero (S := S2048x1024) origin, shapeCast_self]

/-- So does the last visit, -/
theorem last (c0 : ¬cond0_0 i) (c1 : cond0_1 i) (c2 : cond0_2 i) :
    sout0_C_0 c i a3 h3 a4 h4 a5 h5 a6 h6 c0 c1 c2 x w acc = addf acc (k0_pay1 x w) := by
  unfold sout0_C_0
  rw [View.read_writes_eq_canon _ _ _ (scover0_C_0 c i a3 h3 a4 h4 a5 h5 a6 h6 c0 c1 c2 x w acc)]
  unfold kernelRun0_C
  dsimp only
  sl_unfold_words
  rw [View.canon_cons_unit_zero (S := S2048x1024) origin]
  unfold k0_pay3
  simp only [View.readAt_eq_ld, h3.read_unread, h4.read_unread, h6.read_unread, View.ld_unit_zero (S := S2048x768) origin,
    View.ld_unit_zero (S := S768x1024) origin, View.ld_unit_zero (S := S2048x1024) origin, shapeCast_self]

/-- and it stores the accumulator. -/
theorem stored (c0 : ¬cond0_0 i) (c1 : cond0_1 i) (c2 : cond0_2 i) :
    out0_C_2 c i a3 h3 a4 h4 a5 h5 a6 h6 c0 c1 c2 x w acc = addf acc (k0_pay1 x w) := by
  unfold out0_C_2
  rw [View.read_writes_eq_canon _ _ _ (cover0_C_2 c i a3 h3 a4 h4 a5 h5 a6 h6 c0 c1 c2 x w acc)]
  unfold kernelRun0_C
  dsimp only
  sl_unfold_words
  rw [View.canon_cons_unit_zero (S := S2048x1024) origin, View.readCov_unit_zero (S := S2048x1024) _ origin]
  unfold k0_pay3
  simp only [View.readAt_eq_ld, h3.read_unread, h4.read_unread, h6.read_unread, View.ld_unit_zero (S := S2048x768) origin,
    View.ld_unit_zero (S := S768x1024) origin, View.ld_unit_zero (S := S2048x1024) origin, shapeCast_self]

end body

theorem tile_apply (x : Vec Ideal S2048x768 .bf16) (w : Vec Ideal S768x1024 .bf16) (i : Fin 2048) (j : Fin 1024) :
    k0_pay1 x w (ix2 i j) = ∑ d : Fin 768, x (ix2 i d) * w (ix2 d j) := by
  unfold k0_pay1
  pointwise

theorem index0 (t : Fin grid0.N) : win0_0.index t 0 = t.val / 10 ∧ win0_0.index t 1 = t.val % 10 :=
  (by decide +kernel : ∀ t : Fin grid0.N, win0_0.index t 0 = t.val / 10 ∧ win0_0.index t 1 = t.val % 10) t
theorem index1 (t : Fin grid0.N) : win0_1.index t 0 = t.val % 10 ∧ win0_1.index t 1 = 0 :=
  (by decide +kernel : ∀ t : Fin grid0.N, win0_1.index t 0 = t.val % 10 ∧ win0_1.index t 1 = 0) t

/-- The row of the result, from a row of the point's tile. -/
def rowOf (t : Fin grid0.N) (r : Fin 2048) : Fin 8192 := ⟨2048 * (t.val / 10) + r.val, by have := r.isLt; have : t.val < 40 := t.isLt; omega⟩
/-- The column of the cotangent, from a column of run `u`. -/
def colOf (u : Fin 10) (d : Fin 768) : Fin 7680 := ⟨768 * u.val + d.val, by have := d.isLt; have := u.isLt; omega⟩
/-- The run of columns of a point. -/
def runOf (t : Fin grid0.N) : Fin 10 := ⟨t.val % 10, Nat.mod_lt _ (by decide)⟩

variable (m : (ℓ : Loc nD τ sig) → Buf (Elt Ideal) ℓ) (c : Dev nD)

/-- The weights as launched. -/
def argW : Vec Ideal S7680x1024 .bf16 := m ((c.tc : Thread nD τ).loc main_arg0)
/-- The cotangent as launched. -/
def argG : Vec Ideal S8192x7680 .bf16 := m ((c.tc : Thread nD τ).loc main_arg1)

theorem gBlk_apply (t : Fin grid0.N) (r : Fin 2048) (d : Fin 768) :
    (iblk m c 0 t : Vec Ideal S2048x768 .bf16) (ix2 r d) = argG m c (ix2 (rowOf t r) (colOf (runOf t) d)) := by
  obtain ⟨e0, e1⟩ := index0 t
  rw [show argG m c = V m c main_arg1 from (V_main_arg1 m c).symm]
  blk_ext [iblk, e0, e1, rowOf, colOf, runOf]

theorem wBlk_apply (t : Fin grid0.N) (d : Fin 768) (j : Fin 1024) :
    (iblk m c 1 t : Vec Ideal S768x1024 .bf16) (ix2 d j) = argW m c (ix2 (colOf (runOf t) d) j) := by
  obtain ⟨e0, e1⟩ := index1 t
  rw [show argW m c = V m c main_arg0 from (V_main_arg0 m c).symm]
  blk_ext [iblk, e0, e1, colOf, runOf]

/-- One run's part of an entry of the product. -/
def part (i : Fin 8192) (j : Fin 1024) (u : ℕ) : EReal :=
  if h : u < 10 then ∑ d : Fin 768, argG m c (ix2 i (colOf ⟨u, h⟩ d)) * argW m c (ix2 (colOf ⟨u, h⟩ d) j) else 0

theorem part_of (t : Fin grid0.N) (r : Fin 2048) (j : Fin 1024) :
    k0_pay1 (iblk m c 0 t) (iblk m c 1 t) (ix2 r j) = part m c (rowOf t r) j (t.val % 10) := by
  refine (tile_apply _ _ r j).trans ?_
  unfold part
  rw [dif_pos (Nat.mod_lt _ (by decide))]
  exact Finset.sum_congr rfl fun d _ => by rw [gBlk_apply, wBlk_apply]; rfl

/-- The accumulator after a point: the runs so far. -/
theorem gathered : ∀ (n : ℕ) (h : n < cfg0.N) (r : Fin 2048) (j : Fin 1024),
    (outsAt0 m c n h).2 (ix2 r j) = ∑ u ∈ Finset.range (n % 10 + 1), part m c (rowOf ⟨n, h⟩ r) j u := by
  have start : ∀ (t : Fin cfg0.N) (r : Fin 2048) (j : Fin 1024), t.val % 10 = 0 →
      (outsAt0 m c t.val t.isLt).2 (ix2 r j) = ∑ u ∈ Finset.range (t.val % 10 + 1), part m c (rowOf t r) j u := by
    intro t r j h0
    rw [outsAt0_A m c t h0 (by omega) (by omega)]
    dsimp only
    rw [first, part_of, h0]
    simp
  intro n
  induction n with
  | zero => intro h r j; exact start ⟨0, h⟩ r j rfl
  | succ n ih =>
    intro h r j
    by_cases h0 : (n + 1) % 10 = 0
    · exact start ⟨n + 1, h⟩ r j h0
    · have e : (n + 1) % 10 = n % 10 + 1 := by omega
      have er : rowOf ⟨n + 1, h⟩ r = rowOf ⟨n, Nat.lt_of_succ_lt h⟩ r := Fin.ext (show 2048 * ((n + 1) / 10) + r.val = 2048 * (n / 10) + r.val by omega)
      have step : addf (outsAt0 m c n (Nat.lt_of_succ_lt h)).2 (k0_pay1 (iblk m c 0 ⟨n + 1, h⟩) (iblk m c 1 ⟨n + 1, h⟩)) (ix2 r j)
          = ∑ u ∈ Finset.range ((n + 1) % 10 + 1), part m c (rowOf ⟨n + 1, h⟩ r) j u := by
        rw [Finset.sum_range_succ, ← part_of m c ⟨n + 1, h⟩ r j, e, er, ← ih]
        rfl
      by_cases h2 : (n + 1) % 10 = 9
      · rw [outsAt0_C m c ⟨n + 1, h⟩ h0 (by dsimp only; omega) h2]
        dsimp only
        rw [last]
        exact step
      · rw [outsAt0_B m c ⟨n + 1, h⟩ h0 (by dsimp only; omega) h2]
        dsimp only
        rw [middle]
        exact step

/-- The last point of a tile stores what it has gathered. -/
theorem out_eq (t : Fin cfg0.N) (h2 : t.val % 10 = 9) : (outsAt0 m c t.val t.isLt).1 = (outsAt0 m c t.val t.isLt).2 := by
  rw [outsAt0_C m c t (by omega) (by omega) h2]
  dsimp only
  rw [stored, last]

/-- The product of the cotangent and the weights. -/
def product : Vec Ideal S8192x1024 .f32 := fun i => ∑ d : Fin 7680, argG m c (ix2 (i 0) d) * argW m c (ix2 d (i 1))

theorem parts_sum (i : Fin 8192) (j : Fin 1024) : ∑ u ∈ Finset.range 10, part m c i j u = product m c (ix2 i j) := by
  rw [Finset.sum_range]
  refine Eq.trans ?_ (Fin.sum_mul_add_fin 10 768 (fun d : Fin 7680 => argG m c (ix2 i d) * argW m c (ix2 d j)))
  refine Finset.sum_congr rfl fun u _ => ?_
  unfold part
  rw [dif_pos u.isLt]
  refine Finset.sum_congr rfl fun d _ => ?_
  have e : colOf u d = ⟨u.val * 768 + d.val, by have := d.isLt; have := u.isLt; omega⟩ := Fin.ext (show 768 * u.val + d.val = u.val * 768 + d.val by omega)
  rw [← e]

/-- The kernel's result is the product. -/
theorem result : Value.G2 m c = product m c := by
  funext i
  have hi : (i 0).val < 8192 := (i 0).isLt
  have hj : (i 1).val < 1024 := (i 1).isLt
  have hp : Value.pt2Of i < cfg0.N := show 10 * (1 * ((i 0).val / 2048 - 0) + 1 * ((i 1).val / 1024 - 0)) + 9 < 40 by omega
  have hm : Value.pt2Of i % 10 = 9 := by show (10 * (1 * ((i 0).val / 2048 - 0) + 1 * ((i 1).val / 1024 - 0)) + 9) % 10 = 9; omega
  unfold Value.G2
  rw [dif_pos hp, ← Value.outsAt0_sweep m c _ hp, out_eq m c ⟨_, hp⟩ hm]
  let r : Fin 2048 := ⟨(i 0).val % 2048, Nat.mod_lt _ (by decide)⟩
  let j : Fin 1024 := i 1
  have el : Value.loc2Of i = ix2 r j := by
    funext a
    match a with
    | ⟨0, _⟩ => rfl
    | ⟨1, _⟩ => exact Fin.ext (show (i 1).val % 1024 = (i 1).val by omega)
  have er : rowOf ⟨Value.pt2Of i, hp⟩ r = i 0 := Fin.ext (by
    show 2048 * ((10 * (1 * ((i 0).val / 2048 - 0) + 1 * ((i 1).val / 1024 - 0)) + 9) / 10) + (i 0).val % 2048 = (i 0).val; omega)
  rw [el, gathered, hm, er]
  exact (parts_sum m c (i 0) j).trans rfl

end Cert.Kernel4Ideal.Proj

namespace Cert.Reference4Ideal.Proj

open Idealize.ShloMosaic Idealize.ShloMosaic.TcCoe Idealize.SL.Sem
open Cert.Reference4Ideal.Gen

/-- The reference's line. -/
def line (w : FVec Ideal S7680x1024 .bf16) (g : FVec Ideal S8192x7680 .bf16) : FVec Ideal S8192x1024 .f32 :=
  Host.dotGeneral dot_S8192x7680_S1024x7680_S8192x1024_1_1_0_0_n_n none (extf .f32 g bitsLt_bf16_f32)
    (transpose S1024x7680 [1, 0] (extf .f32 w bitsLt_bf16_f32) transposes_S7680x1024_S1024x7680_1_0)

theorem line_apply (w : FVec Ideal S7680x1024 .bf16) (g : FVec Ideal S8192x7680 .bf16) (i : Fin 8192) (j : Fin 1024) :
    line w g (ix2 i j) = ∑ d : Fin 7680, g (ix2 i d) * w (ix2 d j) := by
  unfold line
  pointwise

theorem line_eq (m : (ℓ : Loc Cert.Kernel4Ideal.nD Cert.Kernel4Ideal.τ Cert.Kernel4Ideal.sig) → Buf (Elt Ideal) ℓ) (c : Dev Cert.Kernel4Ideal.nD) :
    line (Cert.Kernel4Ideal.Proj.argW m c) (Cert.Kernel4Ideal.Proj.argG m c) = Cert.Kernel4Ideal.Proj.product m c := by
  funext i
  have := line_apply (Cert.Kernel4Ideal.Proj.argW m c) (Cert.Kernel4Ideal.Proj.argG m c) (i 0) (i 1)
  rwa [show (ix2 (i 0) (i 1) : S8192x1024.Idx) = i from by funext a; fin_cases a <;> rfl] at this

end Cert.Reference4Ideal.Proj

end
-- ==== Proof.Proj.Weights.lean ====
/- The gradient of the projection's weights: each tile of the result is gathered over the two halves of the tokens, one product of two blocks at a
   time, so the whole result is the product over all tokens. Nothing is asked of the entries. -/
module

public import proofs.«01_k».proof.Proof.Gen.Kernel5Ideal.Value
public import proofs.«01_k».proof.Proof.Gen.Reference5Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel5Ideal.Proj

open Idealize.ShloMosaic Idealize.ShloMosaic.TcCoe Idealize.SL.Sem
open Cert.Kernel5Ideal.Gen

theorem origin : (![0, 0] : Fin 2 → ℕ) = 0 := by funext a; fin_cases a <;> rfl

section body

variable (c : Dev nD) (i : grid0.Coords) (a3 : Memref sig .tc .vmem S1024x4096 .bf16) (h3 : a3.IsWhole) (a4 : Memref sig .tc .vmem S4096x768 .bf16)
  (h4 : a4.IsWhole) (a5 : Memref sig .tc .vmem S1024x768 .bf16) (h5 : a5.IsWhole) (a6 : Memref sig .tc .vmem S1024x768 .f32) (h6 : a6.IsWhole)
  (x : Vec Ideal S1024x4096 .bf16) (g : Vec Ideal S4096x768 .bf16) (acc : Vec Ideal S1024x768 .f32)

/-- The first visit starts the accumulator at the blocks' product. -/
theorem first (c0 : cond0_0 i) (c1 : ¬cond0_1 i) (c2 : ¬cond0_2 i) : sout0_A_0 c i a3 h3 a4 h4 a5 h5 a6 h6 c0 c1 c2 x g = k0_pay1 x g := by
  unfold sout0_A_0
  rw [View.read_writes_eq_canon _ _ _ (scover0_A_0 c i a3 h3 a4 h4 a5 h5 a6 h6 c0 c1 c2 x g)]
  unfold kernelRun0_A
  dsimp only
  sl_unfold_words
  rw [View.canon_cons_unit_zero (S := S1024x768) origin]
  unfold k0_pay2
  simp only [View.readAt_eq_ld, h3.read_unread, h4.read_unread, View.ld_unit_zero (S := S1024x4096) origin, View.ld_unit_zero (S := S4096x768) origin,
    shapeCast_self]

/-- The second adds the blocks' product and stores the sum. -/
theorem stored (c0 : ¬cond0_0 i) (c1 : cond0_1 i) (c2 : cond0_2 i) :
    out0_B_2 c i a3 h3 a4 h4 a5 h5 a6 h6 c0 c1 c2 x g acc = k0_pay4 (addf acc (k0_pay1 x g)) := by
  unfold out0_B_2
  rw [View.read_writes_eq_canon _ _ _ (cover0_B_2 c i a3 h3 a4 h4 a5 h5 a6 h6 c0 c1 c2 x g acc)]
  unfold kernelRun0_B
  dsimp only
  sl_unfold_words
  rw [View.canon_cons_unit_zero (S := S1024x768) origin, View.readCov_unit_zero (S := S1024x768) _ origin]
  unfold k0_pay3
  simp only [View.readAt_eq_ld, h3.read_unread, h4.read_unread, h6.read_unread, View.ld_unit_zero (S := S1024x4096) origin,
    View.ld_unit_zero (S := S4096x768) origin, View.ld_unit_zero (S := S1024x768) origin, shapeCast_self]

end body

theorem tile_apply (x : Vec Ideal S1024x4096 .bf16) (g : Vec Ideal S4096x768 .bf16) (i : Fin 1024) (j : Fin 768) :
    k0_pay1 x g (ix2 i j) = ∑ d : Fin 4096, x (ix2 i d) * g (ix2 d j) := by
  unfold k0_pay1
  pointwise

theorem sum_apply (a b : FVec Ideal S1024x768 .f32) (i : S1024x768.Idx) : k0_pay4 (addf a b) i = a i + b i := by
  unfold k0_pay4
  pointwise

theorem index0 (t : Fin grid0.N) : win0_0.index t 0 = 0 ∧ win0_0.index t 1 = t.val % 2 :=
  (by decide +kernel : ∀ t : Fin grid0.N, win0_0.index t 0 = 0 ∧ win0_0.index t 1 = t.val % 2) t
theorem index1 (t : Fin grid0.N) : win0_1.index t 0 = t.val % 2 ∧ win0_1.index t 1 = t.val / 2 :=
  (by decide +kernel : ∀ t : Fin grid0.N, win0_1.index t 0 = t.val % 2 ∧ win0_1.index t 1 = t.val / 2) t

/-- The token, from a row of half `u`. -/
def tokenOf (u : Fin 2) (d : Fin 4096) : Fin 8192 := ⟨u.val * 4096 + d.val, by have := d.isLt; have := u.isLt; omega⟩
/-- The half of the tokens of a point. -/
def halfOf (t : Fin grid0.N) : Fin 2 := ⟨t.val % 2, Nat.mod_lt _ (by decide)⟩
/-- The column of the result, from a column of the point's tile. -/
def colOf (t : Fin grid0.N) (j : Fin 768) : Fin 7680 := ⟨768 * (t.val / 2) + j.val, by have := j.isLt; have : t.val < 20 := t.isLt; omega⟩

variable (m : (ℓ : Loc nD τ sig) → Buf (Elt Ideal) ℓ) (c : Dev nD)

/-- The transposed activations as launched. -/
def argX : Vec Ideal S1024x8192 .bf16 := m ((c.tc : Thread nD τ).loc main_arg0)
/-- The cotangent as launched. -/
def argG : Vec Ideal S8192x7680 .bf16 := m ((c.tc : Thread nD τ).loc main_arg1)

theorem xBlk_apply (t : Fin grid0.N) (i : Fin 1024) (d : Fin 4096) :
    (iblk m c 0 t : Vec Ideal S1024x4096 .bf16) (ix2 i d) = argX m c (ix2 i (tokenOf (halfOf t) d)) := by
  obtain ⟨e0, e1⟩ := index0 t
  rw [show argX m c = V m c main_arg0 from (V_main_arg0 m c).symm]
  blk_ext [iblk, e0, e1, tokenOf, halfOf]

theorem gBlk_apply (t : Fin grid0.N) (d : Fin 4096) (j : Fin 768) :
    (iblk m c 1 t : Vec Ideal S4096x768 .bf16) (ix2 d j) = argG m c (ix2 (tokenOf (halfOf t) d) (colOf t j)) := by
  obtain ⟨e0, e1⟩ := index1 t
  rw [show argG m c = V m c main_arg1 from (V_main_arg1 m c).symm]
  blk_ext [iblk, e0, e1, tokenOf, halfOf, colOf]

/-- One half's part of an entry of the product. -/
def part (i : Fin 1024) (j : Fin 7680) (u : Fin 2) : EReal := ∑ d : Fin 4096, argX m c (ix2 i (tokenOf u d)) * argG m c (ix2 (tokenOf u d) j)

theorem part_of (t : Fin grid0.N) (i : Fin 1024) (j : Fin 768) :
    k0_pay1 (iblk m c 0 t) (iblk m c 1 t) (ix2 i j) = part m c i (colOf t j) (halfOf t) := by
  refine (tile_apply _ _ i j).trans ?_
  exact Finset.sum_congr rfl fun d _ => by rw [xBlk_apply, gBlk_apply]

/-- A tile's second point stores the sum of both halves' parts. -/
theorem out_apply (t : Fin cfg0.N) (h1 : t.val % 2 = 1) (i : Fin 1024) (j : Fin 768) :
    (outsAt0 m c t.val t.isLt).1 (ix2 i j) = ∑ u : Fin 2, part m c i (colOf t j) u := by
  have hlt : t.val - 1 < cfg0.N := Nat.lt_of_le_of_lt (Nat.sub_le _ _) t.isLt
  rw [outsAt0_B m c t (by omega) h1 h1]
  dsimp only
  rw [stored, sum_apply, part_of, outsAt0_A m c ⟨t.val - 1, hlt⟩ (by dsimp only; omega) (by dsimp only; omega) (by dsimp only; omega)]
  dsimp only
  rw [first, part_of, Fin.sum_univ_two]
  have e0 : halfOf ⟨t.val - 1, hlt⟩ = 0 := Fin.ext (show (t.val - 1) % 2 = 0 by omega)
  have e1 : halfOf t = 1 := Fin.ext (show t.val % 2 = 1 from h1)
  have ec : colOf ⟨t.val - 1, hlt⟩ j = colOf t j := Fin.ext (show 768 * ((t.val - 1) / 2) + j.val = 768 * (t.val / 2) + j.val by omega)
  rw [e0, e1, ec]

/-- The product of the transposed activations and the cotangent. -/
def product : Vec Ideal S1024x7680 .bf16 := fun i => ∑ d : Fin 8192, argX m c (ix2 (i 0) d) * argG m c (ix2 d (i 1))

theorem parts_sum (i : Fin 1024) (j : Fin 7680) : ∑ u : Fin 2, part m c i j u = product m c (ix2 i j) :=
  Fin.sum_mul_add_fin 2 4096 (fun d : Fin 8192 => argX m c (ix2 i d) * argG m c (ix2 d j))

/-- The kernel's result is the product. -/
theorem result : Value.G2 m c = product m c := by
  funext i
  have hi : (i 0).val < 1024 := (i 0).isLt
  have hj : (i 1).val < 7680 := (i 1).isLt
  have ep : Value.pt2Of i = 2 * ((i 1).val / 768) + 1 := by
    show 2 * Value.run2Of i + 1 = _
    unfold Value.run2Of
    omega
  have hp : Value.pt2Of i < cfg0.N := show Value.pt2Of i < 20 by omega
  unfold Value.G2
  rw [dif_pos hp, ← Value.outsAt0_sweep m c _ hp]
  let r : Fin 1024 := i 0
  let j : Fin 768 := ⟨(i 1).val % 768, Nat.mod_lt _ (by decide)⟩
  have el : Value.loc2Of i = ix2 r j := by
    funext a
    match a with
    | ⟨0, _⟩ => exact Fin.ext (show (i 0).val % 1024 = (i 0).val by omega)
    | ⟨1, _⟩ => rfl
  have ec : colOf ⟨Value.pt2Of i, hp⟩ j = i 1 := Fin.ext (by show 768 * (Value.pt2Of i / 2) + (i 1).val % 768 = (i 1).val; omega)
  rw [el]
  refine (out_apply m c ⟨Value.pt2Of i, hp⟩ (show Value.pt2Of i % 2 = 1 by omega) r j).trans ?_
  rw [ec]
  exact (parts_sum m c (i 0) (i 1)).trans rfl

end Cert.Kernel5Ideal.Proj

namespace Cert.Reference5Ideal.Proj

open Idealize.ShloMosaic Idealize.ShloMosaic.TcCoe Idealize.SL.Sem
open Cert.Reference5Ideal.Gen

/-- The reference's line. -/
def line (x : FVec Ideal S1024x8192 .bf16) (g : FVec Ideal S8192x7680 .bf16) : FVec Ideal S1024x7680 .bf16 :=
  truncf .bf16 (transpose S1024x7680 [1, 0] (Host.dotGeneral dot_S8192x7680_S8192x1024_S7680x1024_0_0_1_1_n_n none (extf .f32 g bitsLt_bf16_f32)
    (transpose S8192x1024 [1, 0] (extf .f32 x bitsLt_bf16_f32) transposes_S1024x8192_S8192x1024_1_0)) transposes_S7680x1024_S1024x7680_1_0) bitsLt_bf16_f32

theorem line_apply (x : FVec Ideal S1024x8192 .bf16) (g : FVec Ideal S8192x7680 .bf16) (i : Fin 1024) (j : Fin 7680) :
    line x g (ix2 i j) = ∑ d : Fin 8192, x (ix2 i d) * g (ix2 d j) := by
  unfold line
  pointwise
  exact Finset.sum_congr rfl fun d _ => mul_comm _ _

theorem line_eq (m : (ℓ : Loc Cert.Kernel5Ideal.nD Cert.Kernel5Ideal.τ Cert.Kernel5Ideal.sig) → Buf (Elt Ideal) ℓ) (c : Dev Cert.Kernel5Ideal.nD) :
    line (Cert.Kernel5Ideal.Proj.argX m c) (Cert.Kernel5Ideal.Proj.argG m c) = Cert.Kernel5Ideal.Proj.product m c := by
  funext i
  have := line_apply (Cert.Kernel5Ideal.Proj.argX m c) (Cert.Kernel5Ideal.Proj.argG m c) (i 0) (i 1)
  rwa [show (ix2 (i 0) (i 1) : S1024x7680.Idx) = i from by funext a; fin_cases a <;> rfl] at this

end Cert.Reference5Ideal.Proj

end
-- ==== Proof.Proj.OutForward.lean ====
/- The output projection's forward product: every tile of the result is the product of a tile of rows of the mixed heads and the weights, so the whole
   result is the product. Nothing is asked of the entries. -/
module

public import proofs.«01_k».proof.Proof.Gen.Kernel8Ideal.Value
public import proofs.«01_k».proof.Proof.Gen.Reference8Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel8Ideal.Proj

open Idealize.ShloMosaic Idealize.ShloMosaic.TcCoe Idealize.SL.Sem
open Cert.Kernel8Ideal.Gen

/-- The body stores one tile, computed from the two blocks it reads. -/
theorem tile (c : Dev nD) (i : grid0.Coords) (a3 : Memref sig .tc .vmem S2048x1024 .bf16) (h3 : a3.IsWhole) (a4 : Memref sig .tc .vmem S1024x1024 .bf16)
    (h4 : a4.IsWhole) (a5 : Memref sig .tc .vmem S2048x1024 .f32) (h5 : a5.IsWhole) (a6 : Memref sig .tc .vmem S2048x1024 .f32) (h6 : a6.IsWhole)
    (x : Vec Ideal S2048x1024 .bf16) (w : Vec Ideal S1024x1024 .bf16) : out0_A_2 c i a3 h3 a4 h4 a5 h5 a6 h6 x w = k0_pay1 x w := by
  have hz : (![0, 0] : Fin 2 → ℕ) = 0 := by funext a; fin_cases a <;> rfl
  unfold out0_A_2
  rw [View.read_writes_eq_canon _ _ _ (cover0_A_2 c i a3 h3 a4 h4 a5 h5 a6 h6 x w)]
  unfold kernelRun0_A
  dsimp only
  sl_unfold_words
  rw [View.canon_cons_unit_zero (S := S2048x1024) hz]
  simp only [View.readAt_eq_ld, h3.read_unread, h4.read_unread, View.ld_unit_zero (S := S2048x1024) hz, View.ld_unit_zero (S := S1024x1024) hz]

theorem tile_apply (x : Vec Ideal S2048x1024 .bf16) (w : Vec Ideal S1024x1024 .bf16) (i : Fin 2048) (j : Fin 1024) :
    k0_pay1 x w (ix2 i j) = ∑ d : Fin 1024, x (ix2 i d) * w (ix2 d j) := by
  unfold k0_pay1
  pointwise

theorem index0 (t : Fin grid0.N) : win0_0.index t 0 = t.val ∧ win0_0.index t 1 = 0 :=
  (by decide +kernel : ∀ t : Fin grid0.N, win0_0.index t 0 = t.val ∧ win0_0.index t 1 = 0) t
theorem index1 (t : Fin grid0.N) : win0_1.index t 0 = 0 ∧ win0_1.index t 1 = 0 :=
  (by decide +kernel : ∀ t : Fin grid0.N, win0_1.index t 0 = 0 ∧ win0_1.index t 1 = 0) t
theorem index2 (t : Fin grid0.N) : win0_2.index t 0 = t.val ∧ win0_2.index t 1 = 0 :=
  (by decide +kernel : ∀ t : Fin grid0.N, win0_2.index t 0 = t.val ∧ win0_2.index t 1 = 0) t
theorem flushes : ∀ t : Fin cfg0.N, (cfg0.win 2).flush t = true := (by decide +kernel : ∀ t : Fin grid0.N, (cfg0.win 2).flush t = true)

/-- The row of the result, from a row of the point's tile. -/
def rowOf (t : Fin grid0.N) (r : Fin 2048) : Fin 8192 := ⟨2048 * t.val + r.val, by have := r.isLt; have : t.val < 4 := t.isLt; omega⟩

variable (m : (ℓ : Loc nD τ sig) → Buf (Elt Ideal) ℓ) (c : Dev nD)

/-- The mixed heads as launched. -/
def argX : Vec Ideal S8192x1024 .bf16 := m ((c.tc : Thread nD τ).loc main_arg0)
/-- The weights as launched. -/
def argW : Vec Ideal S1024x1024 .bf16 := m ((c.tc : Thread nD τ).loc main_arg1)

theorem xBlk_apply (t : Fin grid0.N) (r : Fin 2048) (d : Fin 1024) : (iblk m c 0 t : Vec Ideal S2048x1024 .bf16) (ix2 r d) = argX m c (ix2 (rowOf t r) d) := by
  obtain ⟨e0, e1⟩ := index0 t
  rw [show argX m c = V m c main_arg0 from (V_main_arg0 m c).symm]
  blk_ext [iblk, e0, e1, rowOf]

theorem wBlk_apply (t : Fin grid0.N) (d : Fin 1024) (j : Fin 1024) : (iblk m c 1 t : Vec Ideal S1024x1024 .bf16) (ix2 d j) = argW m c (ix2 d j) := by
  obtain ⟨e0, e1⟩ := index1 t
  rw [show argW m c = V m c main_arg1 from (V_main_arg1 m c).symm]
  blk_ext [iblk, e0, e1]

theorem outBlk_apply (t : Fin grid0.N) (A : Vec Ideal S8192x1024 .f32) (r : Fin 2048) (j : Fin 1024) :
    ((cfg0.win 2).blk t).view.read (Elt Ideal) A (ix2 r j) = A (ix2 (rowOf t r) j) := by
  obtain ⟨e0, e1⟩ := index2 t
  blk_ext [e0, e1, rowOf]

/-- The product of the two. -/
def product : Vec Ideal S8192x1024 .f32 := fun i => ∑ d : Fin 1024, argX m c (ix2 (i 0) d) * argW m c (ix2 d (i 1))

/-- The kernel's result is the product. -/
theorem result : (dats m 0 c).arrAt 2 cfg0.N = product m c := by
  have at_entry : ∀ (i : Fin 8192) (j : Fin 1024), (dats m 0 c).arrAt 2 cfg0.N (ix2 i j) = product m c (ix2 i j) := by
    intro i j
    have hi := i.isLt
    let t : Fin grid0.N := ⟨i.val / 2048, show _ < 4 by omega⟩
    let r : Fin 2048 := ⟨i.val % 2048, Nat.mod_lt _ (by decide)⟩
    have er : rowOf t r = i := Fin.ext (show 2048 * (i.val / 2048) + i.val % 2048 = i.val by omega)
    have hb := congrFun (Value.blocks2 m c t (flushes t)) (ix2 r j)
    rw [Value.flushed2_A, tile] at hb
    have hb' := (outBlk_apply t _ r j).symm.trans hb
    rw [er] at hb'
    refine hb'.trans ?_
    refine (tile_apply _ _ r j).trans ?_
    refine Finset.sum_congr rfl fun d _ => ?_
    rw [xBlk_apply, wBlk_apply, er]
    rfl
  funext i
  have := at_entry (i 0) (i 1)
  rwa [show (ix2 (i 0) (i 1) : S8192x1024.Idx) = i from by funext a; fin_cases a <;> rfl] at this

end Cert.Kernel8Ideal.Proj

namespace Cert.Reference8Ideal.Proj

open Idealize.ShloMosaic Idealize.ShloMosaic.TcCoe Idealize.SL.Sem
open Cert.Reference8Ideal.Gen

/-- The reference's line. -/
def line (x : FVec Ideal S8192x1024 .bf16) (w : FVec Ideal S1024x1024 .bf16) : FVec Ideal S8192x1024 .f32 :=
  Host.dotGeneral dot_S8192x1024_S1024x1024_S8192x1024_1_0_0_1_n_n none (extf .f32 x bitsLt_bf16_f32) (extf .f32 w bitsLt_bf16_f32)

theorem line_apply (x : FVec Ideal S8192x1024 .bf16) (w : FVec Ideal S1024x1024 .bf16) (i : Fin 8192) (j : Fin 1024) :
    line x w (ix2 i j) = ∑ d : Fin 1024, x (ix2 i d) * w (ix2 d j) := by
  unfold line
  pointwise

theorem line_eq (m : (ℓ : Loc Cert.Kernel8Ideal.nD Cert.Kernel8Ideal.τ Cert.Kernel8Ideal.sig) → Buf (Elt Ideal) ℓ) (c : Dev Cert.Kernel8Ideal.nD) :
    line (Cert.Kernel8Ideal.Proj.argX m c) (Cert.Kernel8Ideal.Proj.argW m c) = Cert.Kernel8Ideal.Proj.product m c := by
  funext i
  have := line_apply (Cert.Kernel8Ideal.Proj.argX m c) (Cert.Kernel8Ideal.Proj.argW m c) (i 0) (i 1)
  rwa [show (ix2 (i 0) (i 1) : S8192x1024.Idx) = i from by funext a; fin_cases a <;> rfl] at this

end Cert.Reference8Ideal.Proj

end
-- ==== Proof.Proj.OutInput.lean ====
/- The gradient of the output projection's input: each tile of the result is gathered over the two halves of the cotangent's columns, one product of
   two blocks at a time, so the whole result is the product over all columns. Nothing is asked of the entries. -/
module

public import proofs.«01_k».proof.Proof.Gen.Kernel9Ideal.Value
public import proofs.«01_k».proof.Proof.Gen.Reference9Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel9Ideal.Proj

open Idealize.ShloMosaic Idealize.ShloMosaic.TcCoe Idealize.SL.Sem
open Cert.Kernel9Ideal.Gen

theorem origin : (![0, 0] : Fin 2 → ℕ) = 0 := by funext a; fin_cases a <;> rfl

section body

variable (c : Dev nD) (i : grid0.Coords) (a3 : Memref sig .tc .vmem S2048x512 .f32) (h3 : a3.IsWhole) (a4 : Memref sig .tc .vmem S1024x512 .bf16)
  (h4 : a4.IsWhole) (a5 : Memref sig .tc .vmem S2048x1024 .f32) (h5 : a5.IsWhole) (a6 : Memref sig .tc .vmem S2048x1024 .f32) (h6 : a6.IsWhole)
  (g : Vec Ideal S2048x512 .f32) (w : Vec Ideal S1024x512 .bf16) (acc : Vec Ideal S2048x1024 .f32)

/-- The first visit starts the accumulator at the blocks' product. -/
theorem first (c0 : cond0_0 i) (c1 : ¬cond0_1 i) (c2 : ¬cond0_2 i) : sout0_A_0 c i a3 h3 a4 h4 a5 h5 a6 h6 c0 c1 c2 g w = k0_pay1 g w := by
  unfold sout0_A_0
  rw [View.read_writes_eq_canon _ _ _ (scover0_A_0 c i a3 h3 a4 h4 a5 h5 a6 h6 c0 c1 c2 g w)]
  unfold kernelRun0_A
  dsimp only
  sl_unfold_words
  rw [View.canon_cons_unit_zero (S := S2048x1024) origin]
  unfold k0_pay2
  simp only [View.readAt_eq_ld, h3.read_unread, h4.read_unread, View.ld_unit_zero (S := S2048x512) origin, View.ld_unit_zero (S := S1024x512) origin,
    shapeCast_self]

/-- The second adds the blocks' product and stores the sum. -/
theorem stored (c0 : ¬cond0_0 i) (c1 : cond0_1 i) (c2 : cond0_2 i) :
    out0_B_2 c i a3 h3 a4 h4 a5 h5 a6 h6 c0 c1 c2 g w acc = addf acc (k0_pay1 g w) := by
  unfold out0_B_2
  rw [View.read_writes_eq_canon _ _ _ (cover0_B_2 c i a3 h3 a4 h4 a5 h5 a6 h6 c0 c1 c2 g w acc)]
  unfold kernelRun0_B
  dsimp only
  sl_unfold_words
  rw [View.canon_cons_unit_zero (S := S2048x1024) origin, View.readCov_unit_zero (S := S2048x1024) _ origin]
  unfold k0_pay3
  simp only [View.readAt_eq_ld, h3.read_unread, h4.read_unread, h6.read_unread, View.ld_unit_zero (S := S2048x512) origin,
    View.ld_unit_zero (S := S1024x512) origin, View.ld_unit_zero (S := S2048x1024) origin, shapeCast_self]

end body

theorem tile_apply (g : Vec Ideal S2048x512 .f32) (w : Vec Ideal S1024x512 .bf16) (i : Fin 2048) (j : Fin 1024) :
    k0_pay1 g w (ix2 i j) = ∑ d : Fin 512, g (ix2 i d) * w (ix2 j d) := by
  unfold k0_pay1
  pointwise

theorem index0 (t : Fin grid0.N) : win0_0.index t 0 = t.val / 2 ∧ win0_0.index t 1 = t.val % 2 :=
  (by decide +kernel : ∀ t : Fin grid0.N, win0_0.index t 0 = t.val / 2 ∧ win0_0.index t 1 = t.val % 2) t
theorem index1 (t : Fin grid0.N) : win0_1.index t 0 = 0 ∧ win0_1.index t 1 = t.val % 2 :=
  (by decide +kernel : ∀ t : Fin grid0.N, win0_1.index t 0 = 0 ∧ win0_1.index t 1 = t.val % 2) t

/-- The row of the result, from a row of the point's tile. -/
def rowOf (t : Fin grid0.N) (r : Fin 2048) : Fin 8192 := ⟨2048 * (t.val / 2) + r.val, by have := r.isLt; have : t.val < 8 := t.isLt; omega⟩
/-- The column of the cotangent, from a column of half `u`. -/
def colOf (u : Fin 2) (d : Fin 512) : Fin 1024 := ⟨u.val * 512 + d.val, by have := d.isLt; have := u.isLt; omega⟩
/-- The half of the columns of a point. -/
def halfOf (t : Fin grid0.N) : Fin 2 := ⟨t.val % 2, Nat.mod_lt _ (by decide)⟩

variable (m : (ℓ : Loc nD τ sig) → Buf (Elt Ideal) ℓ) (c : Dev nD)

/-- The weights as launched. -/
def argW : Vec Ideal S1024x1024 .bf16 := m ((c.tc : Thread nD τ).loc main_arg0)
/-- The cotangent as launched. -/
def argG : Vec Ideal S8192x1024 .f32 := m ((c.tc : Thread nD τ).loc main_arg1)

theorem gBlk_apply (t : Fin grid0.N) (r : Fin 2048) (d : Fin 512) :
    (iblk m c 0 t : Vec Ideal S2048x512 .f32) (ix2 r d) = argG m c (ix2 (rowOf t r) (colOf (halfOf t) d)) := by
  obtain ⟨e0, e1⟩ := index0 t
  rw [show argG m c = V m c main_arg1 from (V_main_arg1 m c).symm]
  blk_ext [iblk, e0, e1, rowOf, colOf, halfOf]

theorem wBlk_apply (t : Fin grid0.N) (j : Fin 1024) (d : Fin 512) :
    (iblk m c 1 t : Vec Ideal S1024x512 .bf16) (ix2 j d) = argW m c (ix2 j (colOf (halfOf t) d)) := by
  obtain ⟨e0, e1⟩ := index1 t
  rw [show argW m c = V m c main_arg0 from (V_main_arg0 m c).symm]
  blk_ext [iblk, e0, e1, colOf, halfOf]

/-- One half's part of an entry of the product. -/
def part (i : Fin 8192) (j : Fin 1024) (u : Fin 2) : EReal := ∑ d : Fin 512, argG m c (ix2 i (colOf u d)) * argW m c (ix2 j (colOf u d))

theorem part_of (t : Fin grid0.N) (r : Fin 2048) (j : Fin 1024) :
    k0_pay1 (iblk m c 0 t) (iblk m c 1 t) (ix2 r j) = part m c (rowOf t r) j (halfOf t) := by
  refine (tile_apply _ _ r j).trans ?_
  exact Finset.sum_congr rfl fun d _ => by rw [gBlk_apply, wBlk_apply]

/-- A tile's second point stores the sum of both halves' parts. -/
theorem out_apply (t : Fin cfg0.N) (h1 : t.val % 2 = 1) (r : Fin 2048) (j : Fin 1024) :
    (outsAt0 m c t.val t.isLt).1 (ix2 r j) = ∑ u : Fin 2, part m c (rowOf t r) j u := by
  have hlt : t.val - 1 < cfg0.N := Nat.lt_of_le_of_lt (Nat.sub_le _ _) t.isLt
  rw [outsAt0_B m c t (by omega) h1 h1, outsAt0_A m c ⟨t.val - 1, hlt⟩ (by dsimp only; omega) (by dsimp only; omega) (by dsimp only; omega)]
  dsimp only
  rw [stored, first]
  have e0 : halfOf ⟨t.val - 1, hlt⟩ = 0 := Fin.ext (show (t.val - 1) % 2 = 0 by omega)
  have e1 : halfOf t = 1 := Fin.ext (show t.val % 2 = 1 from h1)
  have er : rowOf ⟨t.val - 1, hlt⟩ r = rowOf t r := Fin.ext (show 2048 * ((t.val - 1) / 2) + r.val = 2048 * (t.val / 2) + r.val by omega)
  rw [Fin.sum_univ_two, ← e1, ← part_of, ← e0, ← er, ← part_of]
  rfl

/-- The product of the cotangent's rows and the weights' rows. -/
def product : Vec Ideal S8192x1024 .f32 := fun i => ∑ d : Fin 1024, argG m c (ix2 (i 0) d) * argW m c (ix2 (i 1) d)

theorem parts_sum (i : Fin 8192) (j : Fin 1024) : ∑ u : Fin 2, part m c i j u = product m c (ix2 i j) :=
  Fin.sum_mul_add_fin 2 512 (fun d : Fin 1024 => argG m c (ix2 i d) * argW m c (ix2 j d))

/-- The kernel's result is the product. -/
theorem result : Value.G2 m c = product m c := by
  funext i
  have hi : (i 0).val < 8192 := (i 0).isLt
  have hj : (i 1).val < 1024 := (i 1).isLt
  have ep : Value.pt2Of i = 2 * ((i 0).val / 2048) + 1 := by
    show 2 * Value.run2Of i + 1 = _
    unfold Value.run2Of
    omega
  have hp : Value.pt2Of i < cfg0.N := show Value.pt2Of i < 8 by omega
  unfold Value.G2
  rw [dif_pos hp, ← Value.outsAt0_sweep m c _ hp]
  let r : Fin 2048 := ⟨(i 0).val % 2048, Nat.mod_lt _ (by decide)⟩
  let j : Fin 1024 := i 1
  have el : Value.loc2Of i = ix2 r j := by
    funext a
    match a with
    | ⟨0, _⟩ => rfl
    | ⟨1, _⟩ => exact Fin.ext (show (i 1).val % 1024 = (i 1).val by omega)
  have er : rowOf ⟨Value.pt2Of i, hp⟩ r = i 0 := Fin.ext (by show 2048 * (Value.pt2Of i / 2) + (i 0).val % 2048 = (i 0).val; omega)
  rw [el]
  refine (out_apply m c ⟨Value.pt2Of i, hp⟩ (show Value.pt2Of i % 2 = 1 by omega) r j).trans ?_
  rw [er]
  exact (parts_sum m c (i 0) (i 1)).trans rfl

end Cert.Kernel9Ideal.Proj

namespace Cert.Reference9Ideal.Proj

open Idealize.ShloMosaic Idealize.ShloMosaic.TcCoe Idealize.SL.Sem
open Cert.Reference9Ideal.Gen

/-- The reference's line. -/
def line (w : FVec Ideal S1024x1024 .bf16) (g : FVec Ideal S8192x1024 .f32) : FVec Ideal S8192x1024 .f32 :=
  Host.dotGeneral dot_S8192x1024_S1024x1024_S8192x1024_1_1_0_0_n_n none g (extf .f32 w bitsLt_bf16_f32)

theorem line_apply (w : FVec Ideal S1024x1024 .bf16) (g : FVec Ideal S8192x1024 .f32) (i : Fin 8192) (j : Fin 1024) :
    line w g (ix2 i j) = ∑ d : Fin 1024, g (ix2 i d) * w (ix2 j d) := by
  unfold line
  pointwise

theorem line_eq (m : (ℓ : Loc Cert.Kernel9Ideal.nD Cert.Kernel9Ideal.τ Cert.Kernel9Ideal.sig) → Buf (Elt Ideal) ℓ) (c : Dev Cert.Kernel9Ideal.nD) :
    line (Cert.Kernel9Ideal.Proj.argW m c) (Cert.Kernel9Ideal.Proj.argG m c) = Cert.Kernel9Ideal.Proj.product m c := by
  funext i
  have := line_apply (Cert.Kernel9Ideal.Proj.argW m c) (Cert.Kernel9Ideal.Proj.argG m c) (i 0) (i 1)
  rwa [show (ix2 (i 0) (i 1) : S8192x1024.Idx) = i from by funext a; fin_cases a <;> rfl] at this

end Cert.Reference9Ideal.Proj

end
-- ==== Proof.Proj.OutWeights.lean ====
/- The gradient of the output projection's weights: the result is gathered over eight runs of tokens, one product of two blocks at a time, so it is the
   product over all tokens. Nothing is asked of the entries. -/
module

public import proofs.«01_k».proof.Proof.Gen.Kernel10Ideal.Value
public import proofs.«01_k».proof.Proof.Gen.Reference10Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel10Ideal.Proj

open Idealize.ShloMosaic Idealize.ShloMosaic.TcCoe Idealize.SL.Sem
open Cert.Kernel10Ideal.Gen

theorem origin : (![0, 0] : Fin 2 → ℕ) = 0 := by funext a; fin_cases a <;> rfl

section body

variable (c : Dev nD) (i : grid0.Coords) (a3 : Memref sig .tc .vmem S1024x1024 .bf16) (h3 : a3.IsWhole) (a4 : Memref sig .tc .vmem S1024x1024 .f32)
  (h4 : a4.IsWhole) (a5 : Memref sig .tc .vmem S1024x1024 .bf16) (h5 : a5.IsWhole) (a6 : Memref sig .tc .vmem S1024x1024 .f32) (h6 : a6.IsWhole)
  (x : Vec Ideal S1024x1024 .bf16) (g : Vec Ideal S1024x1024 .f32) (acc : Vec Ideal S1024x1024 .f32)

/-- The first visit starts the accumulator at the blocks' product. -/
theorem first (c0 : cond0_0 i) (c1 : ¬cond0_1 i) (c2 : ¬cond0_2 i) : sout0_A_0 c i a3 h3 a4 h4 a5 h5 a6 h6 c0 c1 c2 x g = k0_pay1 x g := by
  unfold sout0_A_0
  rw [View.read_writes_eq_canon _ _ _ (scover0_A_0 c i a3 h3 a4 h4 a5 h5 a6 h6 c0 c1 c2 x g)]
  unfold kernelRun0_A
  dsimp only
  sl_unfold_words
  rw [View.canon_cons_unit_zero (S := S1024x1024) origin]
  unfold k0_pay2
  simp only [View.readAt_eq_ld, h3.read_unread, h4.read_unread, View.ld_unit_zero (S := S1024x1024) origin, shapeCast_self]

/-- A visit in between adds the blocks' product. -/
theorem middle (c0 : ¬cond0_0 i) (c1 : cond0_1 i) (c2 : ¬cond0_2 i) :
    sout0_B_0 c i a3 h3 a4 h4 a5 h5 a6 h6 c0 c1 c2 x g acc = addf acc (k0_pay1 x g) := by
  unfold sout0_B_0
  rw [View.read_writes_eq_canon _ _ _ (scover0_B_0 c i a3 h3 a4 h4 a5 h5 a6 h6 c0 c1 c2 x g acc)]
  unfold kernelRun0_B
  dsimp only
  sl_unfold_words
  rw [View.canon_cons_unit_zero (S := S1024x1024) origin]
  unfold k0_pay3
  simp only [View.readAt_eq_ld, h3.read_unread, h4.read_unread, h6.read_unread, View.ld_unit_zero (S := S1024x1024) origin,
    shapeCast_self]

/-- So does the last visit, -/
theorem last (c0 : ¬cond0_0 i) (c1 : cond0_1 i) (c2 : cond0_2 i) :
    sout0_C_0 c i a3 h3 a4 h4 a5 h5 a6 h6 c0 c1 c2 x g acc = addf acc (k0_pay1 x g) := by
  unfold sout0_C_0
  rw [View.read_writes_eq_canon _ _ _ (scover0_C_0 c i a3 h3 a4 h4 a5 h5 a6 h6 c0 c1 c2 x g acc)]
  unfold kernelRun0_C
  dsimp only
  sl_unfold_words
  rw [View.canon_cons_unit_zero (S := S1024x1024) origin]
  unfold k0_pay3
  simp only [View.readAt_eq_ld, h3.read_unread, h4.read_unread, h6.read_unread, View.ld_unit_zero (S := S1024x1024) origin,
    shapeCast_self]

/-- and it stores the accumulator. -/
theorem stored (c0 : ¬cond0_0 i) (c1 : cond0_1 i) (c2 : cond0_2 i) :
    out0_C_2 c i a3 h3 a4 h4 a5 h5 a6 h6 c0 c1 c2 x g acc = k0_pay4 (addf acc (k0_pay1 x g)) := by
  unfold out0_C_2
  rw [View.read_writes_eq_canon _ _ _ (cover0_C_2 c i a3 h3 a4 h4 a5 h5 a6 h6 c0 c1 c2 x g acc)]
  unfold kernelRun0_C
  dsimp only
  sl_unfold_words
  rw [View.canon_cons_unit_zero (S := S1024x1024) origin, View.readCov_unit_zero (S := S1024x1024) _ origin]
  unfold k0_pay3
  simp only [View.readAt_eq_ld, h3.read_unread, h4.read_unread, h6.read_unread, View.ld_unit_zero (S := S1024x1024) origin,
    shapeCast_self]

end body

theorem tile_apply (x : Vec Ideal S1024x1024 .bf16) (g : Vec Ideal S1024x1024 .f32) (i j : Fin 1024) :
    k0_pay1 x g (ix2 i j) = ∑ d : Fin 1024, x (ix2 i d) * g (ix2 d j) := by
  unfold k0_pay1
  pointwise

theorem stored_apply (a : FVec Ideal S1024x1024 .f32) (i : S1024x1024.Idx) (x : EReal) (h : a i = x) : k0_pay4 (F := Ideal) a i = x := by
  rw [← h]
  unfold k0_pay4
  pointwise

theorem index0 (t : Fin grid0.N) : win0_0.index t 0 = 0 ∧ win0_0.index t 1 = t.val :=
  (by decide +kernel : ∀ t : Fin grid0.N, win0_0.index t 0 = 0 ∧ win0_0.index t 1 = t.val) t
theorem index1 (t : Fin grid0.N) : win0_1.index t 0 = t.val ∧ win0_1.index t 1 = 0 :=
  (by decide +kernel : ∀ t : Fin grid0.N, win0_1.index t 0 = t.val ∧ win0_1.index t 1 = 0) t

/-- The token, from a token of run `u`. -/
def tokenOf (u : Fin 8) (d : Fin 1024) : Fin 8192 := ⟨u.val * 1024 + d.val, by have := d.isLt; have := u.isLt; omega⟩
/-- The run of tokens of a point. -/
def runOf (t : Fin grid0.N) : Fin 8 := ⟨t.val, t.isLt⟩

variable (m : (ℓ : Loc nD τ sig) → Buf (Elt Ideal) ℓ) (c : Dev nD)

/-- The transposed mixed heads as launched. -/
def argX : Vec Ideal S1024x8192 .bf16 := m ((c.tc : Thread nD τ).loc main_arg0)
/-- The cotangent as launched. -/
def argG : Vec Ideal S8192x1024 .f32 := m ((c.tc : Thread nD τ).loc main_arg1)

theorem xBlk_apply (t : Fin grid0.N) (i d : Fin 1024) :
    (iblk m c 0 t : Vec Ideal S1024x1024 .bf16) (ix2 i d) = argX m c (ix2 i (tokenOf (runOf t) d)) := by
  obtain ⟨e0, e1⟩ := index0 t
  rw [show argX m c = V m c main_arg0 from (V_main_arg0 m c).symm]
  blk_ext [iblk, e0, e1, tokenOf, runOf]

theorem gBlk_apply (t : Fin grid0.N) (d j : Fin 1024) :
    (iblk m c 1 t : Vec Ideal S1024x1024 .f32) (ix2 d j) = argG m c (ix2 (tokenOf (runOf t) d) j) := by
  obtain ⟨e0, e1⟩ := index1 t
  rw [show argG m c = V m c main_arg1 from (V_main_arg1 m c).symm]
  blk_ext [iblk, e0, e1, tokenOf, runOf]

/-- One run's part of an entry of the product. -/
def part (i j : Fin 1024) (u : ℕ) : EReal :=
  if h : u < 8 then ∑ d : Fin 1024, argX m c (ix2 i (tokenOf ⟨u, h⟩ d)) * argG m c (ix2 (tokenOf ⟨u, h⟩ d) j) else 0

theorem part_of (t : Fin grid0.N) (i j : Fin 1024) : k0_pay1 (iblk m c 0 t) (iblk m c 1 t) (ix2 i j) = part m c i j t.val := by
  refine (tile_apply _ _ i j).trans ?_
  unfold part
  rw [dif_pos (show t.val < 8 from t.isLt)]
  exact Finset.sum_congr rfl fun d _ => by rw [xBlk_apply, gBlk_apply]; rfl

/-- The accumulator after a point: the runs so far. -/
theorem gathered : ∀ (n : ℕ) (h : n < cfg0.N) (i j : Fin 1024), (outsAt0 m c n h).2 (ix2 i j) = ∑ u ∈ Finset.range (n + 1), part m c i j u := by
  intro n
  induction n with
  | zero =>
    intro h i j
    rw [outsAt0_A m c ⟨0, h⟩ rfl (by dsimp only; omega) (by dsimp only; omega)]
    dsimp only
    rw [first, part_of]
    simp
  | succ n ih =>
    intro h i j
    have hn : n + 1 < 8 := h
    have step : addf (outsAt0 m c n (Nat.lt_of_succ_lt h)).2 (k0_pay1 (iblk m c 0 ⟨n + 1, h⟩) (iblk m c 1 ⟨n + 1, h⟩)) (ix2 i j)
        = ∑ u ∈ Finset.range (n + 1 + 1), part m c i j u := by
      rw [Finset.sum_range_succ, ← part_of m c ⟨n + 1, h⟩ i j, ← ih (Nat.lt_of_succ_lt h)]
      rfl
    by_cases h2 : (n + 1) % 8 = 7
    · rw [outsAt0_C m c ⟨n + 1, h⟩ (by dsimp only; omega) (by dsimp only; omega) h2]
      dsimp only
      rw [last]
      exact step
    · rw [outsAt0_B m c ⟨n + 1, h⟩ (by dsimp only; omega) (by dsimp only; omega) h2]
      dsimp only
      rw [middle]
      exact step

/-- The last point stores what it has gathered. -/
theorem out_apply (t : Fin cfg0.N) (h2 : t.val % 8 = 7) (i j : Fin 1024) :
    (outsAt0 m c t.val t.isLt).1 (ix2 i j) = ∑ u ∈ Finset.range (t.val + 1), part m c i j u := by
  have h := gathered m c t.val t.isLt i j
  rw [outsAt0_C m c t (by omega) (by omega) h2] at h ⊢
  dsimp only at h ⊢
  rw [last] at h
  rw [stored]
  exact stored_apply _ _ _ h

/-- The product of the transposed heads and the cotangent. -/
def product : Vec Ideal S1024x1024 .bf16 := fun i => ∑ d : Fin 8192, argX m c (ix2 (i 0) d) * argG m c (ix2 d (i 1))

theorem parts_sum (i j : Fin 1024) : ∑ u ∈ Finset.range 8, part m c i j u = product m c (ix2 i j) := by
  rw [Finset.sum_range]
  refine Eq.trans ?_ (Fin.sum_mul_add_fin 8 1024 (fun d : Fin 8192 => argX m c (ix2 i d) * argG m c (ix2 d j)))
  refine Finset.sum_congr rfl fun u _ => ?_
  unfold part
  rw [dif_pos u.isLt]
  rfl

/-- The kernel's result is the product. -/
theorem result : Value.G2 m c = product m c := by
  funext i
  have hi : (i 0).val < 1024 := (i 0).isLt
  have hj : (i 1).val < 1024 := (i 1).isLt
  have ep : Value.pt2Of i = 7 := by
    show 8 * Value.run2Of i + 7 = _
    unfold Value.run2Of
    omega
  have hp : Value.pt2Of i < cfg0.N := show Value.pt2Of i < 8 by omega
  unfold Value.G2
  rw [dif_pos hp, ← Value.outsAt0_sweep m c _ hp]
  let r : Fin 1024 := i 0
  let j : Fin 1024 := i 1
  have el : Value.loc2Of i = ix2 r j := by
    funext a
    match a with
    | ⟨0, _⟩ => exact Fin.ext (show (i 0).val % 1024 = (i 0).val by omega)
    | ⟨1, _⟩ => exact Fin.ext (show (i 1).val % 1024 = (i 1).val by omega)
  rw [el]
  refine (out_apply m c ⟨Value.pt2Of i, hp⟩ (show Value.pt2Of i % 8 = 7 by omega) r j).trans ?_
  show ∑ u ∈ Finset.range (Value.pt2Of i + 1), part m c r j u = _
  rw [ep]
  exact (parts_sum m c (i 0) (i 1)).trans rfl

end Cert.Kernel10Ideal.Proj

namespace Cert.Reference10Ideal.Proj

open Idealize.ShloMosaic Idealize.ShloMosaic.TcCoe Idealize.SL.Sem
open Cert.Reference10Ideal.Gen

/-- The reference's line. -/
def line (x : FVec Ideal S1024x8192 .bf16) (g : FVec Ideal S8192x1024 .f32) : FVec Ideal S1024x1024 .bf16 :=
  truncf .bf16 (transpose S1024x1024 [1, 0] (Host.dotGeneral dot_S8192x1024_S8192x1024_S1024x1024_0_0_1_1_n_n none g
    (transpose S8192x1024 [1, 0] (extf .f32 x bitsLt_bf16_f32) transposes_S1024x8192_S8192x1024_1_0)) transposes_S1024x1024_S1024x1024_1_0) bitsLt_bf16_f32

theorem line_apply (x : FVec Ideal S1024x8192 .bf16) (g : FVec Ideal S8192x1024 .f32) (i j : Fin 1024) :
    line x g (ix2 i j) = ∑ d : Fin 8192, x (ix2 i d) * g (ix2 d j) := by
  unfold line
  pointwise
  exact Finset.sum_congr rfl fun d _ => mul_comm _ _

theorem line_eq (m : (ℓ : Loc Cert.Kernel10Ideal.nD Cert.Kernel10Ideal.τ Cert.Kernel10Ideal.sig) → Buf (Elt Ideal) ℓ) (c : Dev Cert.Kernel10Ideal.nD) :
    line (Cert.Kernel10Ideal.Proj.argX m c) (Cert.Kernel10Ideal.Proj.argG m c) = Cert.Kernel10Ideal.Proj.product m c := by
  funext i
  have := line_apply (Cert.Kernel10Ideal.Proj.argX m c) (Cert.Kernel10Ideal.Proj.argG m c) (i 0) (i 1)
  rwa [show (ix2 (i 0) (i 1) : S1024x1024.Idx) = i from by funext a; fin_cases a <;> rfl] at this

end Cert.Reference10Ideal.Proj

end
-- ==== Proof.Proj.SideForward.lean ====
/- A side projection's forward product: every tile of the result is the product of a tile of rows of `x` and the rows of the weights, so the whole
   result is the product. Nothing is asked of the entries. -/
module

public import proofs.«01_k».proof.Proof.Gen.Kernel11Ideal.Value
public import proofs.«01_k».proof.Proof.Gen.Reference11Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel11Ideal.Proj

open Idealize.ShloMosaic Idealize.ShloMosaic.TcCoe Idealize.SL.Sem
open Cert.Kernel11Ideal.Gen

/-- The body stores one tile, computed from the two blocks it reads. -/
theorem tile (c : Dev nD) (i : grid0.Coords) (a3 : Memref sig .tc .vmem S2048x1024 .bf16) (h3 : a3.IsWhole) (a4 : Memref sig .tc .vmem S768x1024 .bf16)
    (h4 : a4.IsWhole) (a5 : Memref sig .tc .vmem S2048x768 .bf16) (h5 : a5.IsWhole) (a6 : Memref sig .tc .vmem S2048x768 .f32) (h6 : a6.IsWhole)
    (x : Vec Ideal S2048x1024 .bf16) (w : Vec Ideal S768x1024 .bf16) : out0_A_2 c i a3 h3 a4 h4 a5 h5 a6 h6 x w = k0_pay1 x w := by
  have hz : (![0, 0] : Fin 2 → ℕ) = 0 := by funext a; fin_cases a <;> rfl
  unfold out0_A_2
  rw [View.read_writes_eq_canon _ _ _ (cover0_A_2 c i a3 h3 a4 h4 a5 h5 a6 h6 x w)]
  unfold kernelRun0_A
  dsimp only
  sl_unfold_words
  rw [View.canon_cons_unit_zero (S := S2048x768) hz]
  simp only [View.readAt_eq_ld, h3.read_unread, h4.read_unread, View.ld_unit_zero (S := S2048x1024) hz, View.ld_unit_zero (S := S768x1024) hz]

theorem tile_apply (x : Vec Ideal S2048x1024 .bf16) (w : Vec Ideal S768x1024 .bf16) (i : Fin 2048) (j : Fin 768) :
    k0_pay1 x w (ix2 i j) = ∑ d : Fin 1024, x (ix2 i d) * w (ix2 j d) := by
  unfold k0_pay1
  pointwise

theorem index0 (t : Fin grid0.N) : win0_0.index t 0 = t.val ∧ win0_0.index t 1 = 0 :=
  (by decide +kernel : ∀ t : Fin grid0.N, win0_0.index t 0 = t.val ∧ win0_0.index t 1 = 0) t
theorem index1 (t : Fin grid0.N) : win0_1.index t 0 = 0 ∧ win0_1.index t 1 = 0 :=
  (by decide +kernel : ∀ t : Fin grid0.N, win0_1.index t 0 = 0 ∧ win0_1.index t 1 = 0) t
theorem index2 (t : Fin grid0.N) : win0_2.index t 0 = t.val ∧ win0_2.index t 1 = 0 :=
  (by decide +kernel : ∀ t : Fin grid0.N, win0_2.index t 0 = t.val ∧ win0_2.index t 1 = 0) t
theorem flushes : ∀ t : Fin cfg0.N, (cfg0.win 2).flush t = true := (by decide +kernel : ∀ t : Fin grid0.N, (cfg0.win 2).flush t = true)

/-- The row of the result, from a row of the point's tile. -/
def rowOf (t : Fin grid0.N) (r : Fin 2048) : Fin 8192 := ⟨2048 * t.val + r.val, by have := r.isLt; have : t.val < 4 := t.isLt; omega⟩

variable (m : (ℓ : Loc nD τ sig) → Buf (Elt Ideal) ℓ) (c : Dev nD)

/-- The activations as launched. -/
def argX : Vec Ideal S8192x1024 .bf16 := m ((c.tc : Thread nD τ).loc main_arg0)
/-- The weights as launched. -/
def argW : Vec Ideal S768x1024 .bf16 := m ((c.tc : Thread nD τ).loc main_arg1)

theorem xBlk_apply (t : Fin grid0.N) (r : Fin 2048) (d : Fin 1024) : (iblk m c 0 t : Vec Ideal S2048x1024 .bf16) (ix2 r d) = argX m c (ix2 (rowOf t r) d) := by
  obtain ⟨e0, e1⟩ := index0 t
  rw [show argX m c = V m c main_arg0 from (V_main_arg0 m c).symm]
  blk_ext [iblk, e0, e1, rowOf]

theorem wBlk_apply (t : Fin grid0.N) (j : Fin 768) (d : Fin 1024) : (iblk m c 1 t : Vec Ideal S768x1024 .bf16) (ix2 j d) = argW m c (ix2 j d) := by
  obtain ⟨e0, e1⟩ := index1 t
  rw [show argW m c = V m c main_arg1 from (V_main_arg1 m c).symm]
  blk_ext [iblk, e0, e1]

theorem outBlk_apply (t : Fin grid0.N) (A : Vec Ideal S8192x768 .bf16) (r : Fin 2048) (j : Fin 768) :
    ((cfg0.win 2).blk t).view.read (Elt Ideal) A (ix2 r j) = A (ix2 (rowOf t r) j) := by
  obtain ⟨e0, e1⟩ := index2 t
  blk_ext [e0, e1, rowOf]

/-- The product of the rows. -/
def product : Vec Ideal S8192x768 .bf16 := fun i => ∑ d : Fin 1024, argX m c (ix2 (i 0) d) * argW m c (ix2 (i 1) d)

/-- The kernel's result is the product. -/
theorem result : (dats m 0 c).arrAt 2 cfg0.N = product m c := by
  have at_entry : ∀ (i : Fin 8192) (j : Fin 768), (dats m 0 c).arrAt 2 cfg0.N (ix2 i j) = product m c (ix2 i j) := by
    intro i j
    have hi := i.isLt
    let t : Fin grid0.N := ⟨i.val / 2048, show _ < 4 by omega⟩
    let r : Fin 2048 := ⟨i.val % 2048, Nat.mod_lt _ (by decide)⟩
    have er : rowOf t r = i := Fin.ext (show 2048 * (i.val / 2048) + i.val % 2048 = i.val by omega)
    have hb := congrFun (Value.blocks2 m c t (flushes t)) (ix2 r j)
    rw [Value.flushed2_A, tile] at hb
    have hb' := (outBlk_apply t _ r j).symm.trans hb
    rw [er] at hb'
    refine hb'.trans ?_
    refine (tile_apply _ _ r j).trans ?_
    refine Finset.sum_congr rfl fun d _ => ?_
    rw [xBlk_apply, wBlk_apply, er]
    rfl
  funext i
  have := at_entry (i 0) (i 1)
  rwa [show (ix2 (i 0) (i 1) : S8192x768.Idx) = i from by funext a; fin_cases a <;> rfl] at this

end Cert.Kernel11Ideal.Proj

namespace Cert.Reference11Ideal.Proj

open Idealize.ShloMosaic Idealize.ShloMosaic.TcCoe Idealize.SL.Sem
open Cert.Reference11Ideal.Gen

/-- The reference's line. -/
def line (x : FVec Ideal S8192x1024 .bf16) (w : FVec Ideal S768x1024 .bf16) : FVec Ideal S8192x768 .bf16 :=
  truncf .bf16 (Host.dotGeneral dot_S8192x1024_S1024x768_S8192x768_1_0_0_1_n_n none (extf .f32 x bitsLt_bf16_f32)
    (transpose S1024x768 [1, 0] (extf .f32 w bitsLt_bf16_f32) transposes_S768x1024_S1024x768_1_0)) bitsLt_bf16_f32

theorem line_apply (x : FVec Ideal S8192x1024 .bf16) (w : FVec Ideal S768x1024 .bf16) (i : Fin 8192) (j : Fin 768) :
    line x w (ix2 i j) = ∑ d : Fin 1024, x (ix2 i d) * w (ix2 j d) := by
  unfold line
  pointwise

theorem line_eq (m : (ℓ : Loc Cert.Kernel11Ideal.nD Cert.Kernel11Ideal.τ Cert.Kernel11Ideal.sig) → Buf (Elt Ideal) ℓ) (c : Dev Cert.Kernel11Ideal.nD) :
    line (Cert.Kernel11Ideal.Proj.argX m c) (Cert.Kernel11Ideal.Proj.argW m c) = Cert.Kernel11Ideal.Proj.product m c := by
  funext i
  have := line_apply (Cert.Kernel11Ideal.Proj.argX m c) (Cert.Kernel11Ideal.Proj.argW m c) (i 0) (i 1)
  rwa [show (ix2 (i 0) (i 1) : S8192x768.Idx) = i from by funext a; fin_cases a <;> rfl] at this

end Cert.Reference11Ideal.Proj

end
-- ==== Proof.Proj.SideInput.lean ====
/- The gradient of the side projections' input: each tile of the result is gathered over the two projections' columns of the cotangent, one product
   of two blocks at a time, so the whole result is the product over all columns. Nothing is asked of the entries. -/
module

public import proofs.«01_k».proof.Proof.Gen.Kernel12Ideal.Value
public import proofs.«01_k».proof.Proof.Gen.Reference12Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel12Ideal.Proj

open Idealize.ShloMosaic Idealize.ShloMosaic.TcCoe Idealize.SL.Sem
open Cert.Kernel12Ideal.Gen

theorem origin : (![0, 0] : Fin 2 → ℕ) = 0 := by funext a; fin_cases a <;> rfl

section body

variable (c : Dev nD) (i : grid0.Coords) (a3 : Memref sig .tc .vmem S2048x768 .bf16) (h3 : a3.IsWhole) (a4 : Memref sig .tc .vmem S768x1024 .bf16)
  (h4 : a4.IsWhole) (a5 : Memref sig .tc .vmem S2048x1024 .f32) (h5 : a5.IsWhole) (a6 : Memref sig .tc .vmem S2048x1024 .f32) (h6 : a6.IsWhole)
  (g : Vec Ideal S2048x768 .bf16) (w : Vec Ideal S768x1024 .bf16) (acc : Vec Ideal S2048x1024 .f32)

/-- The first visit starts the accumulator at the blocks' product. -/
theorem first (c0 : cond0_0 i) (c1 : ¬cond0_1 i) (c2 : ¬cond0_2 i) : sout0_A_0 c i a3 h3 a4 h4 a5 h5 a6 h6 c0 c1 c2 g w = k0_pay1 g w := by
  unfold sout0_A_0
  rw [View.read_writes_eq_canon _ _ _ (scover0_A_0 c i a3 h3 a4 h4 a5 h5 a6 h6 c0 c1 c2 g w)]
  unfold kernelRun0_A
  dsimp only
  sl_unfold_words
  rw [View.canon_cons_unit_zero (S := S2048x1024) origin]
  unfold k0_pay2
  simp only [View.readAt_eq_ld, h3.read_unread, h4.read_unread, View.ld_unit_zero (S := S2048x768) origin, View.ld_unit_zero (S := S768x1024) origin,
    shapeCast_self]

/-- The second adds the blocks' product and stores the sum. -/
theorem stored (c0 : ¬cond0_0 i) (c1 : cond0_1 i) (c2 : cond0_2 i) :
    out0_B_2 c i a3 h3 a4 h4 a5 h5 a6 h6 c0 c1 c2 g w acc = addf acc (k0_pay1 g w) := by
  unfold out0_B_2
  rw [View.read_writes_eq_canon _ _ _ (cover0_B_2 c i a3 h3 a4 h4 a5 h5 a6 h6 c0 c1 c2 g w acc)]
  unfold kernelRun0_B
  dsimp only
  sl_unfold_words
  rw [View.canon_cons_unit_zero (S := S2048x1024) origin, View.readCov_unit_zero (S := S2048x1024) _ origin]
  unfold k0_pay3
  simp only [View.readAt_eq_ld, h3.read_unread, h4.read_unread, h6.read_unread, View.ld_unit_zero (S := S2048x768) origin,
    View.ld_unit_zero (S := S768x1024) origin, View.ld_unit_zero (S := S2048x1024) origin, shapeCast_self]

end body

theorem tile_apply (g : Vec Ideal S2048x768 .bf16) (w : Vec Ideal S768x1024 .bf16) (i : Fin 2048) (j : Fin 1024) :
    k0_pay1 g w (ix2 i j) = ∑ d : Fin 768, g (ix2 i d) * w (ix2 d j) := by
  unfold k0_pay1
  pointwise

theorem index0 (t : Fin grid0.N) : win0_0.index t 0 = t.val / 2 ∧ win0_0.index t 1 = t.val % 2 :=
  (by decide +kernel : ∀ t : Fin grid0.N, win0_0.index t 0 = t.val / 2 ∧ win0_0.index t 1 = t.val % 2) t
theorem index1 (t : Fin grid0.N) : win0_1.index t 0 = t.val % 2 ∧ win0_1.index t 1 = 0 :=
  (by decide +kernel : ∀ t : Fin grid0.N, win0_1.index t 0 = t.val % 2 ∧ win0_1.index t 1 = 0) t

/-- The row of the result, from a row of the point's tile. -/
def rowOf (t : Fin grid0.N) (r : Fin 2048) : Fin 8192 := ⟨2048 * (t.val / 2) + r.val, by have := r.isLt; have : t.val < 8 := t.isLt; omega⟩
/-- The column of the cotangent, from a column of projection `u`. -/
def colOf (u : Fin 2) (d : Fin 768) : Fin 1536 := ⟨u.val * 768 + d.val, by have := d.isLt; have := u.isLt; omega⟩
/-- The projection of a point. -/
def sideOf (t : Fin grid0.N) : Fin 2 := ⟨t.val % 2, Nat.mod_lt _ (by decide)⟩

variable (m : (ℓ : Loc nD τ sig) → Buf (Elt Ideal) ℓ) (c : Dev nD)

/-- The weights as launched, one projection's rows under the other's. -/
def argW : Vec Ideal S1536x1024 .bf16 := m ((c.tc : Thread nD τ).loc main_arg0)
/-- The cotangent as launched, one projection's columns beside the other's. -/
def argG : Vec Ideal S8192x1536 .bf16 := m ((c.tc : Thread nD τ).loc main_arg1)

theorem gBlk_apply (t : Fin grid0.N) (r : Fin 2048) (d : Fin 768) :
    (iblk m c 0 t : Vec Ideal S2048x768 .bf16) (ix2 r d) = argG m c (ix2 (rowOf t r) (colOf (sideOf t) d)) := by
  obtain ⟨e0, e1⟩ := index0 t
  rw [show argG m c = V m c main_arg1 from (V_main_arg1 m c).symm]
  blk_ext [iblk, e0, e1, rowOf, colOf, sideOf]

theorem wBlk_apply (t : Fin grid0.N) (d : Fin 768) (j : Fin 1024) :
    (iblk m c 1 t : Vec Ideal S768x1024 .bf16) (ix2 d j) = argW m c (ix2 (colOf (sideOf t) d) j) := by
  obtain ⟨e0, e1⟩ := index1 t
  rw [show argW m c = V m c main_arg0 from (V_main_arg0 m c).symm]
  blk_ext [iblk, e0, e1, colOf, sideOf]

/-- One projection's part of an entry of the product. -/
def part (i : Fin 8192) (j : Fin 1024) (u : Fin 2) : EReal := ∑ d : Fin 768, argG m c (ix2 i (colOf u d)) * argW m c (ix2 (colOf u d) j)

theorem part_of (t : Fin grid0.N) (r : Fin 2048) (j : Fin 1024) :
    k0_pay1 (iblk m c 0 t) (iblk m c 1 t) (ix2 r j) = part m c (rowOf t r) j (sideOf t) := by
  refine (tile_apply _ _ r j).trans ?_
  exact Finset.sum_congr rfl fun d _ => by rw [gBlk_apply, wBlk_apply]

/-- A tile's second point stores the sum of both projections' parts. -/
theorem out_apply (t : Fin cfg0.N) (h1 : t.val % 2 = 1) (r : Fin 2048) (j : Fin 1024) :
    (outsAt0 m c t.val t.isLt).1 (ix2 r j) = ∑ u : Fin 2, part m c (rowOf t r) j u := by
  have hlt : t.val - 1 < cfg0.N := Nat.lt_of_le_of_lt (Nat.sub_le _ _) t.isLt
  rw [outsAt0_B m c t (by omega) h1 h1, outsAt0_A m c ⟨t.val - 1, hlt⟩ (by dsimp only; omega) (by dsimp only; omega) (by dsimp only; omega)]
  dsimp only
  rw [stored, first]
  have e0 : sideOf ⟨t.val - 1, hlt⟩ = 0 := Fin.ext (show (t.val - 1) % 2 = 0 by omega)
  have e1 : sideOf t = 1 := Fin.ext (show t.val % 2 = 1 from h1)
  have er : rowOf ⟨t.val - 1, hlt⟩ r = rowOf t r := Fin.ext (show 2048 * ((t.val - 1) / 2) + r.val = 2048 * (t.val / 2) + r.val by omega)
  rw [Fin.sum_univ_two, ← e1, ← part_of, ← e0, ← er, ← part_of]
  rfl

/-- The product of the cotangent and the weights. -/
def product : Vec Ideal S8192x1024 .f32 := fun i => ∑ d : Fin 1536, argG m c (ix2 (i 0) d) * argW m c (ix2 d (i 1))

theorem parts_sum (i : Fin 8192) (j : Fin 1024) : ∑ u : Fin 2, part m c i j u = product m c (ix2 i j) :=
  Fin.sum_mul_add_fin 2 768 (fun d : Fin 1536 => argG m c (ix2 i d) * argW m c (ix2 d j))

/-- The kernel's result is the product. -/
theorem result : Value.G2 m c = product m c := by
  funext i
  have hi : (i 0).val < 8192 := (i 0).isLt
  have hj : (i 1).val < 1024 := (i 1).isLt
  have ep : Value.pt2Of i = 2 * ((i 0).val / 2048) + 1 := by
    show 2 * Value.run2Of i + 1 = _
    unfold Value.run2Of
    omega
  have hp : Value.pt2Of i < cfg0.N := show Value.pt2Of i < 8 by omega
  unfold Value.G2
  rw [dif_pos hp, ← Value.outsAt0_sweep m c _ hp]
  let r : Fin 2048 := ⟨(i 0).val % 2048, Nat.mod_lt _ (by decide)⟩
  let j : Fin 1024 := i 1
  have el : Value.loc2Of i = ix2 r j := by
    funext a
    match a with
    | ⟨0, _⟩ => rfl
    | ⟨1, _⟩ => exact Fin.ext (show (i 1).val % 1024 = (i 1).val by omega)
  have er : rowOf ⟨Value.pt2Of i, hp⟩ r = i 0 := Fin.ext (by show 2048 * (Value.pt2Of i / 2) + (i 0).val % 2048 = (i 0).val; omega)
  rw [el]
  refine (out_apply m c ⟨Value.pt2Of i, hp⟩ (show Value.pt2Of i % 2 = 1 by omega) r j).trans ?_
  rw [er]
  exact (parts_sum m c (i 0) (i 1)).trans rfl

end Cert.Kernel12Ideal.Proj

namespace Cert.Reference12Ideal.Proj

open Idealize.ShloMosaic Idealize.ShloMosaic.TcCoe Idealize.SL.Sem
open Cert.Reference12Ideal.Gen

/-- The reference's line. -/
def line (w : FVec Ideal S1536x1024 .bf16) (g : FVec Ideal S8192x1536 .bf16) : FVec Ideal S8192x1024 .f32 :=
  Host.dotGeneral dot_S8192x1536_S1024x1536_S8192x1024_1_1_0_0_n_n none (extf .f32 g bitsLt_bf16_f32)
    (transpose S1024x1536 [1, 0] (extf .f32 w bitsLt_bf16_f32) transposes_S1536x1024_S1024x1536_1_0)

theorem line_apply (w : FVec Ideal S1536x1024 .bf16) (g : FVec Ideal S8192x1536 .bf16) (i : Fin 8192) (j : Fin 1024) :
    line w g (ix2 i j) = ∑ d : Fin 1536, g (ix2 i d) * w (ix2 d j) := by
  unfold line
  pointwise

theorem line_eq (m : (ℓ : Loc Cert.Kernel12Ideal.nD Cert.Kernel12Ideal.τ Cert.Kernel12Ideal.sig) → Buf (Elt Ideal) ℓ) (c : Dev Cert.Kernel12Ideal.nD) :
    line (Cert.Kernel12Ideal.Proj.argW m c) (Cert.Kernel12Ideal.Proj.argG m c) = Cert.Kernel12Ideal.Proj.product m c := by
  funext i
  have := line_apply (Cert.Kernel12Ideal.Proj.argW m c) (Cert.Kernel12Ideal.Proj.argG m c) (i 0) (i 1)
  rwa [show (ix2 (i 0) (i 1) : S8192x1024.Idx) = i from by funext a; fin_cases a <;> rfl] at this

end Cert.Reference12Ideal.Proj

end
-- ==== Proof.Proj.SideWeights.lean ====
/- The gradient of a side projection's weights: the result is gathered over the two halves of the tokens, one product of two blocks at a time, so it is
   the product over all tokens. Nothing is asked of the entries. -/
module

public import proofs.«01_k».proof.Proof.Gen.Kernel13Ideal.Value
public import proofs.«01_k».proof.Proof.Gen.Reference13Ideal.Run
public import Idealize.ShloMosaic.Lib.StableHlo.ReadAt
public import Idealize.ShloMosaic.Lib.Pipeline.ValueKit
public import Idealize.ShloMosaic.Lib.Claim
public import Idealize.ShloMosaic.PureOps.Ideal

@[expose] public section

set_option maxRecDepth 16384

noncomputable section

namespace Cert.Kernel13Ideal.Proj

open Idealize.ShloMosaic Idealize.ShloMosaic.TcCoe Idealize.SL.Sem
open Cert.Kernel13Ideal.Gen

theorem origin : (![0, 0] : Fin 2 → ℕ) = 0 := by funext a; fin_cases a <;> rfl

section body

variable (c : Dev nD) (i : grid0.Coords) (a3 : Memref sig .tc .vmem S1024x4096 .bf16) (h3 : a3.IsWhole) (a4 : Memref sig .tc .vmem S4096x768 .bf16)
  (h4 : a4.IsWhole) (a5 : Memref sig .tc .vmem S1024x768 .bf16) (h5 : a5.IsWhole) (a6 : Memref sig .tc .vmem S1024x768 .f32) (h6 : a6.IsWhole)
  (x : Vec Ideal S1024x4096 .bf16) (g : Vec Ideal S4096x768 .bf16) (acc : Vec Ideal S1024x768 .f32)

/-- The first visit starts the accumulator at the blocks' product. -/
theorem first (c0 : cond0_0 i) (c1 : ¬cond0_1 i) (c2 : ¬cond0_2 i) : sout0_A_0 c i a3 h3 a4 h4 a5 h5 a6 h6 c0 c1 c2 x g = k0_pay1 x g := by
  unfold sout0_A_0
  rw [View.read_writes_eq_canon _ _ _ (scover0_A_0 c i a3 h3 a4 h4 a5 h5 a6 h6 c0 c1 c2 x g)]
  unfold kernelRun0_A
  dsimp only
  sl_unfold_words
  rw [View.canon_cons_unit_zero (S := S1024x768) origin]
  unfold k0_pay2
  simp only [View.readAt_eq_ld, h3.read_unread, h4.read_unread, View.ld_unit_zero (S := S1024x4096) origin, View.ld_unit_zero (S := S4096x768) origin,
    shapeCast_self]

/-- The second adds the blocks' product and stores the sum. -/
theorem stored (c0 : ¬cond0_0 i) (c1 : cond0_1 i) (c2 : cond0_2 i) :
    out0_B_2 c i a3 h3 a4 h4 a5 h5 a6 h6 c0 c1 c2 x g acc = k0_pay4 (addf acc (k0_pay1 x g)) := by
  unfold out0_B_2
  rw [View.read_writes_eq_canon _ _ _ (cover0_B_2 c i a3 h3 a4 h4 a5 h5 a6 h6 c0 c1 c2 x g acc)]
  unfold kernelRun0_B
  dsimp only
  sl_unfold_words
  rw [View.canon_cons_unit_zero (S := S1024x768) origin, View.readCov_unit_zero (S := S1024x768) _ origin]
  unfold k0_pay3
  simp only [View.readAt_eq_ld, h3.read_unread, h4.read_unread, h6.read_unread, View.ld_unit_zero (S := S1024x4096) origin,
    View.ld_unit_zero (S := S4096x768) origin, View.ld_unit_zero (S := S1024x768) origin, shapeCast_self]

end body

theorem tile_apply (x : Vec Ideal S1024x4096 .bf16) (g : Vec Ideal S4096x768 .bf16) (i : Fin 1024) (j : Fin 768) :
    k0_pay1 x g (ix2 i j) = ∑ d : Fin 4096, x (ix2 i d) * g (ix2 d j) := by
  unfold k0_pay1
  pointwise

theorem sum_apply (a b : FVec Ideal S1024x768 .f32) (i : S1024x768.Idx) : k0_pay4 (addf a b) i = a i + b i := by
  unfold k0_pay4
  pointwise

theorem index0 (t : Fin grid0.N) : win0_0.index t 0 = 0 ∧ win0_0.index t 1 = t.val % 2 :=
  (by decide +kernel : ∀ t : Fin grid0.N, win0_0.index t 0 = 0 ∧ win0_0.index t 1 = t.val % 2) t
theorem index1 (t : Fin grid0.N) : win0_1.index t 0 = t.val % 2 ∧ win0_1.index t 1 = 0 :=
  (by decide +kernel : ∀ t : Fin grid0.N, win0_1.index t 0 = t.val % 2 ∧ win0_1.index t 1 = 0) t

/-- The token, from a row of half `u`. -/
def tokenOf (u : Fin 2) (d : Fin 4096) : Fin 8192 := ⟨u.val * 4096 + d.val, by have := d.isLt; have := u.isLt; omega⟩
/-- The half of the tokens of a point. -/
def halfOf (t : Fin grid0.N) : Fin 2 := ⟨t.val % 2, Nat.mod_lt _ (by decide)⟩

variable (m : (ℓ : Loc nD τ sig) → Buf (Elt Ideal) ℓ) (c : Dev nD)

/-- The transposed activations as launched. -/
def argX : Vec Ideal S1024x8192 .bf16 := m ((c.tc : Thread nD τ).loc main_arg0)
/-- The cotangent as launched. -/
def argG : Vec Ideal S8192x768 .bf16 := m ((c.tc : Thread nD τ).loc main_arg1)

theorem xBlk_apply (t : Fin grid0.N) (i : Fin 1024) (d : Fin 4096) :
    (iblk m c 0 t : Vec Ideal S1024x4096 .bf16) (ix2 i d) = argX m c (ix2 i (tokenOf (halfOf t) d)) := by
  obtain ⟨e0, e1⟩ := index0 t
  rw [show argX m c = V m c main_arg0 from (V_main_arg0 m c).symm]
  blk_ext [iblk, e0, e1, tokenOf, halfOf]

theorem gBlk_apply (t : Fin grid0.N) (d : Fin 4096) (j : Fin 768) :
    (iblk m c 1 t : Vec Ideal S4096x768 .bf16) (ix2 d j) = argG m c (ix2 (tokenOf (halfOf t) d) j) := by
  obtain ⟨e0, e1⟩ := index1 t
  rw [show argG m c = V m c main_arg1 from (V_main_arg1 m c).symm]
  blk_ext [iblk, e0, e1, tokenOf, halfOf]

/-- One half's part of an entry of the product. -/
def part (i : Fin 1024) (j : Fin 768) (u : Fin 2) : EReal := ∑ d : Fin 4096, argX m c (ix2 i (tokenOf u d)) * argG m c (ix2 (tokenOf u d) j)

theorem part_of (t : Fin grid0.N) (i : Fin 1024) (j : Fin 768) :
    k0_pay1 (iblk m c 0 t) (iblk m c 1 t) (ix2 i j) = part m c i j (halfOf t) := by
  refine (tile_apply _ _ i j).trans ?_
  exact Finset.sum_congr rfl fun d _ => by rw [xBlk_apply, gBlk_apply]

/-- The second point stores the sum of both halves' parts. -/
theorem out_apply (t : Fin cfg0.N) (h1 : t.val % 2 = 1) (i : Fin 1024) (j : Fin 768) :
    (outsAt0 m c t.val t.isLt).1 (ix2 i j) = ∑ u : Fin 2, part m c i j u := by
  have hlt : t.val - 1 < cfg0.N := Nat.lt_of_le_of_lt (Nat.sub_le _ _) t.isLt
  rw [outsAt0_B m c t (by omega) h1 h1]
  dsimp only
  rw [stored, sum_apply, part_of, outsAt0_A m c ⟨t.val - 1, hlt⟩ (by dsimp only; omega) (by dsimp only; omega) (by dsimp only; omega)]
  dsimp only
  rw [first, part_of, Fin.sum_univ_two]
  have e0 : halfOf ⟨t.val - 1, hlt⟩ = 0 := Fin.ext (show (t.val - 1) % 2 = 0 by omega)
  have e1 : halfOf t = 1 := Fin.ext (show t.val % 2 = 1 from h1)
  rw [e0, e1]

/-- The product of the transposed activations and the cotangent. -/
def product : Vec Ideal S1024x768 .bf16 := fun i => ∑ d : Fin 8192, argX m c (ix2 (i 0) d) * argG m c (ix2 d (i 1))

theorem parts_sum (i : Fin 1024) (j : Fin 768) : ∑ u : Fin 2, part m c i j u = product m c (ix2 i j) :=
  Fin.sum_mul_add_fin 2 4096 (fun d : Fin 8192 => argX m c (ix2 i d) * argG m c (ix2 d j))

/-- The kernel's result is the product. -/
theorem result : Value.G2 m c = product m c := by
  funext i
  have hi : (i 0).val < 1024 := (i 0).isLt
  have hj : (i 1).val < 768 := (i 1).isLt
  have ep : Value.pt2Of i = 1 := by
    show 2 * Value.run2Of i + 1 = _
    unfold Value.run2Of
    omega
  have hp : Value.pt2Of i < cfg0.N := show Value.pt2Of i < 2 by omega
  unfold Value.G2
  rw [dif_pos hp, ← Value.outsAt0_sweep m c _ hp]
  let r : Fin 1024 := i 0
  let j : Fin 768 := i 1
  have el : Value.loc2Of i = ix2 r j := by
    funext a
    match a with
    | ⟨0, _⟩ => exact Fin.ext (show (i 0).val % 1024 = (i 0).val by omega)
    | ⟨1, _⟩ => exact Fin.ext (show (i 1).val % 768 = (i 1).val by omega)
  rw [el]
  refine (out_apply m c ⟨Value.pt2Of i, hp⟩ (show Value.pt2Of i % 2 = 1 by omega) r j).trans ?_
  exact (parts_sum m c (i 0) (i 1)).trans rfl

end Cert.Kernel13Ideal.Proj

namespace Cert.Reference13Ideal.Proj

open Idealize.ShloMosaic Idealize.ShloMosaic.TcCoe Idealize.SL.Sem
open Cert.Reference13Ideal.Gen

/-- The reference's line. -/
def line (x : FVec Ideal S1024x8192 .bf16) (g : FVec Ideal S8192x768 .bf16) : FVec Ideal S1024x768 .bf16 :=
  truncf .bf16 (transpose S1024x768 [1, 0] (Host.dotGeneral dot_S8192x768_S8192x1024_S768x1024_0_0_1_1_n_n none (extf .f32 g bitsLt_bf16_f32)
    (transpose S8192x1024 [1, 0] (extf .f32 x bitsLt_bf16_f32) transposes_S1024x8192_S8192x1024_1_0)) transposes_S768x1024_S1024x768_1_0) bitsLt_bf16_f32

theorem line_apply (x : FVec Ideal S1024x8192 .bf16) (g : FVec Ideal S8192x768 .bf16) (i : Fin 1024) (j : Fin 768) :
    line x g (ix2 i j) = ∑ d : Fin 8192, x (ix2 i d) * g (ix2 d j) := by
  unfold line
  pointwise
  exact Finset.sum_congr rfl fun d _ => mul_comm _ _

theorem line_eq (m : (ℓ : Loc Cert.Kernel13Ideal.nD Cert.Kernel13Ideal.τ Cert.Kernel13Ideal.sig) → Buf (Elt Ideal) ℓ) (c : Dev Cert.Kernel13Ideal.nD) :
    line (Cert.Kernel13Ideal.Proj.argX m c) (Cert.Kernel13Ideal.Proj.argG m c) = Cert.Kernel13Ideal.Proj.product m c := by
  funext i
  have := line_apply (Cert.Kernel13Ideal.Proj.argX m c) (Cert.Kernel13Ideal.Proj.argG m c) (i 0) (i 1)
  rwa [show (ix2 (i 0) (i 1) : S1024x768.Idx) = i from by funext a; fin_cases a <;> rfl] at this

end Cert.Reference13Ideal.Proj

end
-- ==== Proof.lean ====
/- The claim, from its parts: the frames of the kernels and references, and for each call that its kernel and its reference compute the same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7.Skeleton
public import proofs.«01_k».proof.Proof.Gen.Kernel7Ideal.Frame
public import proofs.«01_k».proof.Proof.Gen.Kernel7Ideal.Skeleton
public import proofs.«01_k».proof.Proof.Gen.Reference6Ideal.Run
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Reference14Ideal
public import proofs.«01_k».proof.Proof.Gen.Reference14Ideal.Run
public import proofs.«01_k».proof.Proof.Gen.Reference14
public import proofs.«01_k».proof.Proof.Swap.Reference
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Pre_finite2
public import proofs.«01_k».proof.Proof.Gen.Pre_finite6
public import proofs.«01_k».proof.Proof.Gen.Pre_finite7
public import proofs.«01_k».proof.Proof.Orig.Run
public import proofs.«01_k».proof.Proof.Bwd.Finite
public import proofs.«01_k».proof.Proof.Bwd.RefValue
public import proofs.«01_k».proof.Proof.Fwd.Reference
public import proofs.«01_k».proof.Proof.OrigB.Run
public import proofs.«01_k».proof.Proof.BwdB.RefValue
public import proofs.«01_k».proof.Proof.FwdB.Reference
public import proofs.«01_k».proof.Proof.Proj.Forward
public import proofs.«01_k».proof.Proof.Proj.Input
public import proofs.«01_k».proof.Proof.Proj.Weights
public import proofs.«01_k».proof.Proof.Proj.OutForward
public import proofs.«01_k».proof.Proof.Proj.OutInput
public import proofs.«01_k».proof.Proof.Proj.OutWeights
public import proofs.«01_k».proof.Proof.Proj.SideForward
public import proofs.«01_k».proof.Proof.Proj.SideInput
public import proofs.«01_k».proof.Proof.Proj.SideWeights
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Bwd.run m ρ)

/-- Both programs compute the gradient of attention with softmax. -/
theorem gradient : Cert.algebraic_KernelIdeal_ReferenceIdeal_pre_finite := fun m ρ m' ρ' hpre hagree => by
  have hr : ∀ c, ∃ (qr kr : Fin 4 → Fin 8192 → Fin 96 → ℝ) (vr gr : Fin 4 → Fin 8192 → Fin 64 → ℝ), Cert.KernelIdeal.Bwd.Reads m c qr kr vr gr := fun c => by
    obtain ⟨h0, h1, h2, h3⟩ := hpre c
    obtain ⟨qr, hq⟩ := Cert.Finite.entries _ (Cert.Finite.real_bf16 _ _ _ _ h0)
    obtain ⟨kr, hk⟩ := Cert.Finite.entries _ (Cert.Finite.real_bf16 _ _ _ _ h1)
    obtain ⟨vr, hv⟩ := Cert.Finite.entries _ (Cert.Finite.real_bf16 _ _ _ _ h2)
    obtain ⟨gr, hg⟩ := Cert.Finite.entries _ (Cert.Finite.real_f32 _ _ _ _ h3)
    exact ⟨qr, kr, vr, gr, hq, hk, hv, hg⟩
  choose qr kr vr gr H using hr
  refine ⟨fun c => Cert.KernelIdeal.Bwd.arrQ (qr c) (kr c) (vr c) (gr c), fun c => Cert.KernelIdeal.Bwd.arrK (qr c) (kr c) (vr c) (gr c),
    fun c => Cert.KernelIdeal.Bwd.arrV (qr c) (kr c) (gr c), ?_, ?_⟩
  · refine (θ_run Cert.KernelIdeal.defs _ _).mono (fun r h c => ?_) (Cert.KernelIdeal.Bwd.run_main m ρ)
    obtain ⟨e0, e1, e2⟩ := (H c).results r h.1
    exact ⟨e0, e1, e2, Cert.KernelIdeal.Bwd.args_kept m c r h.1⟩
  · refine (θ_run Cert.ReferenceIdeal.defs _ _).mono (fun r h c => ?_) (Cert.ReferenceIdeal.Bwd.run m' ρ')
    obtain ⟨a0, a1, a2, a3⟩ := hagree c
    obtain ⟨e0, e1, e2⟩ := Cert.ReferenceIdeal.Bwd.results (m := m') (c := c) (fun p q r => (congrFun a0 _).trans ((H c).q p q r))
      (fun p q r => (congrFun a1 _).trans ((H c).k p q r)) (fun p q r => (congrFun a2 _).trans ((H c).v p q r))
      (fun p q r => (congrFun a3 _).trans ((H c).g p q r))
    exact ⟨(h c).1.trans e0, (h c).2.1.trans e1, (h c).2.2.1.trans e2, (h c).2.2.2⟩

/-- The forward reference's frame. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- Both programs compute attention with softmax and its rows' log-sums. -/
theorem forward : Cert.algebraic_Kernel2Ideal_Reference2Ideal_pre_finite2 := fun m ρ m' ρ' hpre hagree => by
  have hr : ∀ c, ∃ qr kr : Fin 4 → Fin 8192 → Fin 96 → ℝ, (∀ h r d, Cert.Kernel2Ideal.Fwd.argQ m c (ix3 h r d) = ((qr h r d : ℝ) : EReal))
      ∧ ∀ h s d, Cert.Kernel2Ideal.Fwd.argK m c (ix3 h s d) = ((kr h s d : ℝ) : EReal) := fun c => by
    obtain ⟨h0, h1⟩ := hpre c
    obtain ⟨qr, hq⟩ := Cert.Finite.entries _ (Cert.Finite.real_bf16 _ _ _ _ h0)
    obtain ⟨kr, hk⟩ := Cert.Finite.entries _ (Cert.Finite.real_bf16 _ _ _ _ h1)
    exact ⟨qr, kr, hq, hk⟩
  choose qr kr hq hk using hr
  refine ⟨fun c => Cert.Kernel2Ideal.Fwd.arrO (qr c) (kr c) (Cert.Kernel2Ideal.Fwd.argV m c), fun c => Cert.Kernel2Ideal.Fwd.arrL (qr c) (kr c), ?_, ?_⟩
  · refine (θ_run Cert.Kernel2Ideal.defs _ _).mono (fun r h c => ?_) (Cert.Kernel2Ideal.Value.run_blocks m ρ)
    exact ⟨(h c).1.trans (Cert.Kernel2Ideal.Fwd.result3 m c (hq c) (hk c)), (h c).2.1.trans (Cert.Kernel2Ideal.Fwd.result4 m c (hq c) (hk c)), (h c).2.2⟩
  · refine (θ_run Cert.Reference2Ideal.defs _ _).mono (fun r h c => ?_) (Cert.Reference2Ideal.Value.run m' ρ')
    obtain ⟨a0, a1, a2⟩ := hagree c
    have e0 : ∀ p q r, m' ((c.tc : Thread Cert.Reference2Ideal.nD Cert.Reference2Ideal.τ).loc Cert.Reference2Ideal.main_arg0) (ix3 p q r) = ((qr c p q r : ℝ) : EReal) :=
      fun p q r => (congrFun a0 _).trans (hq c p q r)
    have e1 : ∀ p q r, m' ((c.tc : Thread Cert.Reference2Ideal.nD Cert.Reference2Ideal.τ).loc Cert.Reference2Ideal.main_arg1) (ix3 p q r) = ((kr c p q r : ℝ) : EReal) :=
      fun p q r => (congrFun a1 _).trans (hk c p q r)
    exact ⟨(h c).1.trans ((Cert.Reference2Ideal.Fwd.lineO_eq e0 e1 _).trans (congrArg (Cert.Kernel2Ideal.Fwd.arrO (qr c) (kr c)) a2)),
      (h c).2.1.trans (Cert.Reference2Ideal.Fwd.lineL_eq e0 e1), (h c).2.2⟩

/-- The frame of the projection's reference, -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- of its input's gradient, -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- and of its weights' gradient. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- Both programs compute the projection. -/
theorem projection : Cert.algebraic_Kernel3Ideal_Reference3Ideal := fun m ρ m' ρ' _ hagree =>
  ⟨fun c => Cert.Kernel3Ideal.Proj.product m c,
    (θ_run Cert.Kernel3Ideal.defs _ _).mono (fun _ h c => ⟨(h c).1.trans (Cert.Kernel3Ideal.Proj.result m c), (h c).2⟩) (Cert.Kernel3Ideal.Value.run_blocks m ρ),
    (θ_run Cert.Reference3Ideal.defs _ _).mono (fun _ h c => ⟨(h c).1.trans ((congrArg₂ Cert.Reference3Ideal.Proj.line (hagree c).1 (hagree c).2).trans
      (Cert.Reference3Ideal.Proj.line_eq m c)), (h c).2⟩) (Cert.Reference3Ideal.Value.run m' ρ')⟩

/-- Both programs compute the gradient of the projection's input. -/
theorem input_gradient : Cert.algebraic_Kernel4Ideal_Reference4Ideal := fun m ρ m' ρ' _ hagree =>
  ⟨fun c => Cert.Kernel4Ideal.Proj.product m c,
    (θ_run Cert.Kernel4Ideal.defs _ _).mono (fun _ h c => ⟨(h c).1.trans (Cert.Kernel4Ideal.Proj.result m c), (h c).2⟩) (Cert.Kernel4Ideal.Value.run m ρ),
    (θ_run Cert.Reference4Ideal.defs _ _).mono (fun _ h c => ⟨(h c).1.trans ((congrArg₂ Cert.Reference4Ideal.Proj.line (hagree c).1 (hagree c).2).trans
      (Cert.Reference4Ideal.Proj.line_eq m c)), (h c).2⟩) (Cert.Reference4Ideal.Value.run m' ρ')⟩

/-- Both programs compute the gradient of the projection's weights. -/
theorem weight_gradient : Cert.algebraic_Kernel5Ideal_Reference5Ideal := fun m ρ m' ρ' _ hagree =>
  ⟨fun c => Cert.Kernel5Ideal.Proj.product m c,
    (θ_run Cert.Kernel5Ideal.defs _ _).mono (fun _ h c => ⟨(h c).1.trans (Cert.Kernel5Ideal.Proj.result m c), (h c).2⟩) (Cert.Kernel5Ideal.Value.run m ρ),
    (θ_run Cert.Reference5Ideal.defs _ _).mono (fun _ h c => ⟨(h c).1.trans ((congrArg₂ Cert.Reference5Ideal.Proj.line (hagree c).1 (hagree c).2).trans
      (Cert.Reference5Ideal.Proj.line_eq m c)), (h c).2⟩) (Cert.Reference5Ideal.Value.run m' ρ')⟩

/-- The frame of mixer B's forward reference. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- Both programs compute mixer B's attention and its rows' log-sums. -/
theorem forward_b : Cert.algebraic_Kernel6Ideal_Reference6Ideal_pre_finite6 := fun m ρ m' ρ' hpre hagree => by
  have hr : ∀ c, ∃ (qr : Fin 2 → Fin 16384 → Fin 64 → ℝ) (kr : Fin 2 → Fin 8192 → Fin 64 → ℝ), (∀ h r d, Cert.Kernel6Ideal.Fwd.argQ m c (ix3 h r d) = ((qr h r d : ℝ) : EReal))
      ∧ ∀ h s d, Cert.Kernel6Ideal.Fwd.argK m c (ix3 h s d) = ((kr h s d : ℝ) : EReal) := fun c => by
    obtain ⟨h0, h1⟩ := hpre c
    obtain ⟨qr, hq⟩ := Cert.Finite.entries _ (Cert.Finite.real_bf16 _ _ _ _ h0)
    obtain ⟨kr, hk⟩ := Cert.Finite.entries _ (Cert.Finite.real_bf16 _ _ _ _ h1)
    exact ⟨qr, kr, hq, hk⟩
  choose qr kr hq hk using hr
  refine ⟨fun c => Cert.Kernel6Ideal.Fwd.arrO (qr c) (kr c) (Cert.Kernel6Ideal.Fwd.argV m c), fun c => Cert.Kernel6Ideal.Fwd.arrL (qr c) (kr c), ?_, ?_⟩
  · refine (θ_run Cert.Kernel6Ideal.defs _ _).mono (fun r h c => ?_) (Cert.Kernel6Ideal.Value.run_blocks m ρ)
    exact ⟨(h c).1.trans (Cert.Kernel6Ideal.Fwd.result3 m c (hq c) (hk c)), (h c).2.1.trans (Cert.Kernel6Ideal.Fwd.result4 m c (hq c) (hk c)), (h c).2.2⟩
  · refine (θ_run Cert.Reference6Ideal.defs _ _).mono (fun r h c => ?_) (Cert.Reference6Ideal.Value.run m' ρ')
    obtain ⟨a0, a1, a2⟩ := hagree c
    have e0 : ∀ p q r, m' ((c.tc : Thread Cert.Reference6Ideal.nD Cert.Reference6Ideal.τ).loc Cert.Reference6Ideal.main_arg0) (ix3 p q r) = ((qr c p q r : ℝ) : EReal) :=
      fun p q r => (congrFun a0 _).trans (hq c p q r)
    have e1 : ∀ p q r, m' ((c.tc : Thread Cert.Reference6Ideal.nD Cert.Reference6Ideal.τ).loc Cert.Reference6Ideal.main_arg1) (ix3 p q r) = ((kr c p q r : ℝ) : EReal) :=
      fun p q r => (congrFun a1 _).trans (hk c p q r)
    exact ⟨(h c).1.trans ((Cert.Reference6Ideal.Fwd.lineO_eq e0 e1 _).trans (congrArg (Cert.Kernel6Ideal.Fwd.arrO (qr c) (kr c)) a2)),
      (h c).2.1.trans (Cert.Reference6Ideal.Fwd.lineL_eq e0 e1), (h c).2.2⟩

/-- The frame of mixer B's backward reference. -/
theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Bwd.run m ρ)

/-- Both programs compute the gradient of mixer B's attention. -/
theorem gradient_b : Cert.algebraic_Kernel7Ideal_Reference7Ideal_pre_finite7 := fun m ρ m' ρ' hpre hagree => by
  have hr : ∀ c, ∃ (qr : Fin 2 → Fin 16384 → Fin 64 → ℝ) (kr vr : Fin 2 → Fin 8192 → Fin 64 → ℝ) (gr : Fin 2 → Fin 16384 → Fin 64 → ℝ), Cert.Kernel7Ideal.Bwd.Reads m c qr kr vr gr := fun c => by
    obtain ⟨h0, h1, h2, h3⟩ := hpre c
    obtain ⟨qr, hq⟩ := Cert.Finite.entries _ (Cert.Finite.real_bf16 _ _ _ _ h0)
    obtain ⟨kr, hk⟩ := Cert.Finite.entries _ (Cert.Finite.real_bf16 _ _ _ _ h1)
    obtain ⟨vr, hv⟩ := Cert.Finite.entries _ (Cert.Finite.real_bf16 _ _ _ _ h2)
    obtain ⟨gr, hg⟩ := Cert.Finite.entries _ (Cert.Finite.real_f32 _ _ _ _ h3)
    exact ⟨qr, kr, vr, gr, hq, hk, hv, hg⟩
  choose qr kr vr gr H using hr
  refine ⟨fun c => Cert.Kernel7Ideal.Bwd.arrQ (qr c) (kr c) (vr c) (gr c), fun c => Cert.Kernel7Ideal.Bwd.arrK (qr c) (kr c) (vr c) (gr c),
    fun c => Cert.Kernel7Ideal.Bwd.arrV (qr c) (kr c) (gr c), ?_, ?_⟩
  · refine (θ_run Cert.Kernel7Ideal.defs _ _).mono (fun r h c => ?_) (Cert.Kernel7Ideal.Bwd.run_main m ρ)
    obtain ⟨e0, e1, e2⟩ := (H c).results r h.1
    exact ⟨e0, e1, e2, Cert.Kernel7Ideal.Bwd.args_kept m c r h.1⟩
  · refine (θ_run Cert.Reference7Ideal.defs _ _).mono (fun r h c => ?_) (Cert.Reference7Ideal.Bwd.run m' ρ')
    obtain ⟨a0, a1, a2, a3⟩ := hagree c
    obtain ⟨e0, e1, e2⟩ := Cert.Reference7Ideal.Bwd.results (m := m') (c := c) (fun p q r => (congrFun a0 _).trans ((H c).q p q r))
      (fun p q r => (congrFun a1 _).trans ((H c).k p q r)) (fun p q r => (congrFun a2 _).trans ((H c).v p q r))
      (fun p q r => (congrFun a3 _).trans ((H c).g p q r))
    exact ⟨(h c).1.trans e0, (h c).2.1.trans e1, (h c).2.2.1.trans e2, (h c).2.2.2⟩

/-- The frame of the output projection's reference, -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- of its input's gradient, -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- of its weights' gradient, -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- of a side projection's reference, -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- of the side projections' input's gradient, -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- of a side projection's weights' gradient, -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- and of the exchange between siblings. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- The same of its program over the machine's numbers. -/
theorem frame_reference14_bits : Cert.quiescent_Reference14 := fun m ρ _ =>
  (θ_run Cert.Reference14Ideal.defs _ _).mono (fun r h => ⟨fun c => (h c).2, sem_eq_zero_of_no_sems (by decide) r.2⟩)
    (Cert.Reference14Ideal.Value.run (F := Bits) m ρ)

/-- The frame of the exchange between siblings, -/
theorem frame_swap : Cert.quiescent_Kernel14 := fun m ρ _ =>
  (θ_run Cert.Kernel14Ideal.defs _ _).mono (fun _ h => ⟨fun c => (h.1 c).2, h.2⟩) (Cert.SwapProof.run_main m ρ)

/-- and of it over the reals: one run for both, the program being the same. -/
theorem frame_swap_ideal : Cert.quiescent_Kernel14Ideal := fun m ρ _ =>
  (θ_run Cert.Kernel14Ideal.defs _ _).mono (fun _ h => ⟨fun c => (h.1 c).2, h.2⟩) (Cert.SwapProof.run_main m ρ)

/-- Both programs compute the output projection. -/
theorem output_projection : Cert.algebraic_Kernel8Ideal_Reference8Ideal := fun m ρ m' ρ' _ hagree =>
  ⟨fun c => Cert.Kernel8Ideal.Proj.product m c,
    (θ_run Cert.Kernel8Ideal.defs _ _).mono (fun _ h c => ⟨(h c).1.trans (Cert.Kernel8Ideal.Proj.result m c), (h c).2⟩) (Cert.Kernel8Ideal.Value.run_blocks m ρ),
    (θ_run Cert.Reference8Ideal.defs _ _).mono (fun _ h c => ⟨(h c).1.trans ((congrArg₂ Cert.Reference8Ideal.Proj.line (hagree c).1 (hagree c).2).trans
      (Cert.Reference8Ideal.Proj.line_eq m c)), (h c).2⟩) (Cert.Reference8Ideal.Value.run m' ρ')⟩

/-- Both programs compute the gradient of the output projection's input. -/
theorem output_input_gradient : Cert.algebraic_Kernel9Ideal_Reference9Ideal := fun m ρ m' ρ' _ hagree =>
  ⟨fun c => Cert.Kernel9Ideal.Proj.product m c,
    (θ_run Cert.Kernel9Ideal.defs _ _).mono (fun _ h c => ⟨(h c).1.trans (Cert.Kernel9Ideal.Proj.result m c), (h c).2⟩) (Cert.Kernel9Ideal.Value.run m ρ),
    (θ_run Cert.Reference9Ideal.defs _ _).mono (fun _ h c => ⟨(h c).1.trans ((congrArg₂ Cert.Reference9Ideal.Proj.line (hagree c).1 (hagree c).2).trans
      (Cert.Reference9Ideal.Proj.line_eq m c)), (h c).2⟩) (Cert.Reference9Ideal.Value.run m' ρ')⟩

/-- Both programs compute the gradient of the output projection's weights. -/
theorem output_weight_gradient : Cert.algebraic_Kernel10Ideal_Reference10Ideal := fun m ρ m' ρ' _ hagree =>
  ⟨fun c => Cert.Kernel10Ideal.Proj.product m c,
    (θ_run Cert.Kernel10Ideal.defs _ _).mono (fun _ h c => ⟨(h c).1.trans (Cert.Kernel10Ideal.Proj.result m c), (h c).2⟩) (Cert.Kernel10Ideal.Value.run m ρ),
    (θ_run Cert.Reference10Ideal.defs _ _).mono (fun _ h c => ⟨(h c).1.trans ((congrArg₂ Cert.Reference10Ideal.Proj.line (hagree c).1 (hagree c).2).trans
      (Cert.Reference10Ideal.Proj.line_eq m c)), (h c).2⟩) (Cert.Reference10Ideal.Value.run m' ρ')⟩

/-- Both programs compute a side projection. -/
theorem side_projection : Cert.algebraic_Kernel11Ideal_Reference11Ideal := fun m ρ m' ρ' _ hagree =>
  ⟨fun c => Cert.Kernel11Ideal.Proj.product m c,
    (θ_run Cert.Kernel11Ideal.defs _ _).mono (fun _ h c => ⟨(h c).1.trans (Cert.Kernel11Ideal.Proj.result m c), (h c).2⟩) (Cert.Kernel11Ideal.Value.run_blocks m ρ),
    (θ_run Cert.Reference11Ideal.defs _ _).mono (fun _ h c => ⟨(h c).1.trans ((congrArg₂ Cert.Reference11Ideal.Proj.line (hagree c).1 (hagree c).2).trans
      (Cert.Reference11Ideal.Proj.line_eq m c)), (h c).2⟩) (Cert.Reference11Ideal.Value.run m' ρ')⟩

/-- Both programs compute the gradient of the side projections' input. -/
theorem side_input_gradient : Cert.algebraic_Kernel12Ideal_Reference12Ideal := fun m ρ m' ρ' _ hagree =>
  ⟨fun c => Cert.Kernel12Ideal.Proj.product m c,
    (θ_run Cert.Kernel12Ideal.defs _ _).mono (fun _ h c => ⟨(h c).1.trans (Cert.Kernel12Ideal.Proj.result m c), (h c).2⟩) (Cert.Kernel12Ideal.Value.run m ρ),
    (θ_run Cert.Reference12Ideal.defs _ _).mono (fun _ h c => ⟨(h c).1.trans ((congrArg₂ Cert.Reference12Ideal.Proj.line (hagree c).1 (hagree c).2).trans
      (Cert.Reference12Ideal.Proj.line_eq m c)), (h c).2⟩) (Cert.Reference12Ideal.Value.run m' ρ')⟩

/-- Both programs compute the gradient of a side projection's weights. -/
theorem side_weight_gradient : Cert.algebraic_Kernel13Ideal_Reference13Ideal := fun m ρ m' ρ' _ hagree =>
  ⟨fun c => Cert.Kernel13Ideal.Proj.product m c,
    (θ_run Cert.Kernel13Ideal.defs _ _).mono (fun _ h c => ⟨(h c).1.trans (Cert.Kernel13Ideal.Proj.result m c), (h c).2⟩) (Cert.Kernel13Ideal.Value.run m ρ),
    (θ_run Cert.Reference13Ideal.defs _ _).mono (fun _ h c => ⟨(h c).1.trans ((congrArg₂ Cert.Reference13Ideal.Proj.line (hagree c).1 (hagree c).2).trans
      (Cert.Reference13Ideal.Proj.line_eq m c)), (h c).2⟩) (Cert.Reference13Ideal.Value.run m' ρ')⟩

/-- The exchange between siblings gives each of the two its block of the reference's array. -/
theorem swap : Cert.algebraic_Kernel14Ideal_Reference14Ideal := fun m ρ m' ρ' _ hagree =>
  ⟨Cert.SwapProof.swapped (m' (((0 : Dev Cert.Reference14Ideal.nD).tc : Thread Cert.Reference14Ideal.nD Cert.Reference14Ideal.τ).loc Cert.Reference14Ideal.main_arg0)),
    (θ_run Cert.Kernel14Ideal.defs _ _).mono (fun _ h c => ⟨(h.1 c).1.trans (Cert.SwapProof.block_swapped m _ hagree c), (h.1 c).2⟩) (Cert.SwapProof.run_main m ρ),
    (θ_run Cert.Reference14Ideal.defs _ _).mono (fun _ h => h 0) (Cert.Reference14Ideal.Value.run m' ρ')⟩

/-- The same over the machine's numbers: not a bit of what is exchanged changes. -/
theorem swap_bits : Cert.bitexact_Kernel14_Reference14 := fun m ρ m' ρ' _ hagree =>
  ⟨Cert.SwapProof.swapped (F := Bits) (m' (((0 : Dev Cert.Reference14.nD).tc : Thread Cert.Reference14.nD Cert.Reference14.τ).loc Cert.Reference14.main_arg0)),
    (θ_run Cert.Kernel14Ideal.defs _ _).mono (fun _ h c => ⟨(h.1 c).1.trans (Cert.SwapProof.block_swapped (F := Bits) m _ hagree c), (h.1 c).2⟩) (Cert.SwapProof.run_main m ρ),
    (θ_run Cert.Reference14Ideal.defs _ _).mono (fun _ h => h 0) (Cert.Reference14Ideal.Value.run (F := Bits) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts, Cert.Reference14.Gen.facts,
    Cert.Pre_finite.Gen.facts, Cert.Pre_finite2.Gen.facts, Cert.Pre_finite6.Gen.facts, Cert.Pre_finite7.Gen.facts,
    fun m ρ _ => Cert.Kernel.Orig.frame_main m ρ, fun m ρ _ => Cert.KernelIdeal.Bwd.frame_main m ρ, fun m ρ _ => Cert.KernelIdeal.Bwd.frame_main m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial,
    fun m ρ _ => Cert.Kernel7.Orig.frame_main m ρ, fun m ρ _ => Cert.Kernel7Ideal.Bwd.frame_main m ρ, fun m ρ _ => Cert.Kernel7Ideal.Bwd.frame_main m ρ,
    frame_reference7, fun m ρ _ => frame_reference7 m ρ trivial,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    frame_swap, frame_swap_ideal, frame_reference14, frame_reference14_bits,
    ⟨IdealRules.named_const.statement _ _ _ _ _ rfl, IdealRules.named_const.statement _ _ _ _ _ rfl⟩, gradient,
    IdealRules.named_const.statement _ _ _ _ _ rfl, forward, trivial, projection, trivial, input_gradient, trivial, weight_gradient,
    IdealRules.named_const.statement _ _ _ _ _ rfl, forward_b,
    ⟨IdealRules.named_const.statement _ _ _ _ _ rfl, IdealRules.named_const.statement _ _ _ _ _ rfl⟩, gradient_b,
    trivial, output_projection, trivial, output_input_gradient, trivial, output_weight_gradient,
    trivial, side_projection, trivial, side_input_gradient, trivial, side_weight_gradient,
    trivial, swap, swap_bits⟩

end Cert.Proof

end
